-- ==== Defs.lean ====
def Pre_Kernel [hPre_runs : Cert.Pre_runs.Facts] (m : (ℓ : Loc Cert.Kernel.nD Cert.Kernel.τ Cert.Kernel.sig) → Buf (Elt Bits) ℓ) : Prop :=
  ∀ c : Dev Cert.Kernel.nD,
    (Cert.Pre_runs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_runs : Cert.Pre_runs.Facts] (m : (ℓ : Loc Cert.KernelIdeal.nD Cert.KernelIdeal.τ Cert.KernelIdeal.sig) → Buf (Elt Ideal) ℓ) : Prop :=
  ∀ c : Dev Cert.KernelIdeal.nD,
    (Cert.Pre_runs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_runs : Cert.Pre_runs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_runs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_runs : Cert.Pre_runs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_runs : Cert.Pre_runs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_runs : Cert.Pre_runs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_runs : Cert.Pre_runs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_runs : Cert.Pre_runs.Facts),
    quiescent_Kernel (hKernel := hKernel) (hPre_runs := hPre_runs)
    ∧ quiescent_KernelIdeal (hKernelIdeal := hKernelIdeal) (hPre_runs := hPre_runs)
    ∧ quiescent_ReferenceIdeal (hReferenceIdeal := hReferenceIdeal) (hPre_runs := hPre_runs)
    ∧ preserves_Kernel_KernelIdeal
    ∧ algebraic_KernelIdeal_ReferenceIdeal (hKernelIdeal := hKernelIdeal) (hReferenceIdeal := hReferenceIdeal) (hPre_runs := hPre_runs)
-- ==== Pre_runs.lean ====
abbrev S4x4096x2048 : Shape := ⟨3, ![4, 4096, 2048]⟩
abbrev S4x256x2048 : Shape := ⟨3, ![4, 256, 2048]⟩
abbrev S4x256 : Shape := ⟨2, ![4, 256]⟩
abbrev S4x128x2048 : Shape := ⟨3, ![4, 128, 2048]⟩
abbrev S4x128 : Shape := ⟨2, ![4, 128]⟩
abbrev S4x1 : Shape := ⟨2, ![4, 1]⟩
abbrev S256 : Shape := ⟨1, ![256]⟩
abbrev S1x256 : Shape := ⟨2, ![1, 256]⟩
abbrev S_ : Shape := ⟨0, ![]⟩
abbrev S128 : Shape := ⟨1, ![128]⟩
abbrev S1x128 : Shape := ⟨2, ![1, 128]⟩

class Facts : Prop where
  slices_S4x256_S4x1_0_0 : S4x256.Slices ![0, 0] S4x1
  slices_S4x128_S4x1_0_0 : S4x128.Slices ![0, 0] S4x1
  bcast_S256_S1x256_1 : S256.BroadcastsInDim S1x256 (![1] : Fin 1 → Fin S1x256.rank)
  bcast_S4x1_S4x256_0_1 : S4x1.BroadcastsInDim S4x256 (![0, 1] : Fin 2 → Fin S4x256.rank)
  bcast_S1x256_S4x256_0_1 : S1x256.BroadcastsInDim S4x256 (![0, 1] : Fin 2 → Fin S4x256.rank)
  reducesTo_S4x256_S_d0_1 : S4x256.ReducesTo [0, 1] S_
  h_S_ : 0 < S_.numel
  bcast_S128_S1x128_1 : S128.BroadcastsInDim S1x128 (![1] : Fin 1 → Fin S1x128.rank)
  bcast_S4x1_S4x128_0_1 : S4x1.BroadcastsInDim S4x128 (![0, 1] : Fin 2 → Fin S4x128.rank)
  bcast_S1x128_S4x128_0_1 : S1x128.BroadcastsInDim S4x128 (![0, 1] : Fin 2 → Fin S4x128.rank)
  reducesTo_S4x128_S_d0_1 : S4x128.ReducesTo [0, 1] S_
  bcast_S_S4x1 : S_.BroadcastsInDim S4x1 (![] : Fin 0 → Fin S4x1.rank)
  reducesTo_S4x1_S_d0_1 : S4x1.ReducesTo [0, 1] S_

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S4x1 32) (arg1 : IVec S_ 32) : IVec S4x1 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S4x1 32 := broadcastInDim S4x1 ![] bcast_S_S4x1 v2
  let v4 : IVec S4x1 32 := Host.remsi arg0 v3
  let c_1 : IVec S_ 32 := constantI S_ 32 0#32
  let v5 : IVec S4x1 32 := broadcastInDim S4x1 ![] bcast_S_S4x1 c_1
  let v6 : IVec S4x1 1 := cmpi .ne v4 v5
  let c_2 : IVec S_ 32 := constantI S_ 32 0#32
  let v7 : IVec S4x1 32 := broadcastInDim S4x1 ![] bcast_S_S4x1 c_2
  let v8 : IVec S4x1 1 := cmpi .slt v4 v7
  let c_3 : IVec S_ 32 := constantI S_ 32 0#32
  let v9 : IVec S_ 1 := cmpi .slt v2 c_3
  let v10 : IVec S4x1 1 := broadcastInDim S4x1 ![] bcast_S_S4x1 v9
  let v11 : IVec S4x1 1 := cmpi .ne v8 v10
  let v12 : IVec S4x1 1 := andi v11 v6
  let v13 : IVec S4x1 32 := broadcastInDim S4x1 ![] bcast_S_S4x1 v2
  let v14 : IVec S4x1 32 := addi v4 v13
  let v15 : IVec S4x1 32 := select v12 v14 v4
  v15

def fn_part2 {F : FTy → Type} [FloatOps F] (main_v27 : IVec S_ 1) (main_v36 : IVec S4x1 1) : IVec S_ 1 :=
  let main_c_10 : IVec S_ 1 := constantI S_ 1 1#1
  let main_v37 : IVec S_ 1 := (fun x v => Host.reduce IntOp.andi x v reducesTo_S4x1_S_d0_1 h_S_) main_v36 main_c_10
  let main_v38 : IVec S_ 1 := andi main_v27 main_v37
  main_v38

def fn_part1 {F : FTy → Type} [FloatOps F] (main_v0 : IVec S4x1 32) (main_v1 : IVec S4x1 32) (main_v16 : IVec S_ 1) (main_v18 : IVec S4x1 1) (main_v19 : IVec S4x1 32) : IVec S_ 1 :=
  let main_v20 : IVec S4x1 1 := cmpi .sle main_v0 main_v19
  let main_v21 : IVec S4x1 1 := andi main_v18 main_v20
  let main_c_3 : IVec S_ 32 := constantI S_ 32 16#32
  let main_v22 : IVec S4x1 32 := fn_remainder (F := F) main_v0 main_c_3
  let main_c_4 : IVec S_ 32 := constantI S_ 32 0#32
  let main_v23 : IVec S4x1 32 := broadcastInDim S4x1 ![] bcast_S_S4x1 main_c_4
  let main_v24 : IVec S4x1 1 := cmpi .eq main_v22 main_v23
  let main_v25 : IVec S4x1 1 := andi main_v21 main_v24
  let main_c_5 : IVec S_ 1 := constantI S_ 1 1#1
  let main_v26 : IVec S_ 1 := (fun x v => Host.reduce IntOp.andi x v reducesTo_S4x1_S_d0_1 h_S_) main_v25 main_c_5
  let main_v27 : IVec S_ 1 := andi main_v16 main_v26
  let main_c_6 : IVec S_ 32 := constantI S_ 32 0#32
  let main_v28 : IVec S4x1 32 := broadcastInDim S4x1 ![] bcast_S_S4x1 main_c_6
  let main_v29 : IVec S4x1 1 := cmpi .sge main_v1 main_v28
  let main_c_7 : IVec S_ 32 := constantI S_ 32 3968#32
  let main_v30 : IVec S4x1 32 := broadcastInDim S4x1 ![] bcast_S_S4x1 main_c_7
  let main_v31 : IVec S4x1 1 := cmpi .sle main_v1 main_v30
  let main_v32 : IVec S4x1 1 := andi main_v29 main_v31
  let main_c_8 : IVec S_ 32 := constantI S_ 32 16#32
  let main_v33 : IVec S4x1 32 := fn_remainder (F := F) main_v1 main_c_8
  let main_c_9 : IVec S_ 32 := constantI S_ 32 0#32
  let main_v34 : IVec S4x1 32 := broadcastInDim S4x1 ![] bcast_S_S4x1 main_c_9
  let main_v35 : IVec S4x1 1 := cmpi .eq main_v33 main_v34
  let main_v36 : IVec S4x1 1 := andi main_v32 main_v35
  fn_part2 (F := F) main_v27 main_v36

def fn {F : FTy → Type} [FloatOps F] (main_arg0 : FVec F S4x4096x2048 .f32) (main_arg1 : FVec F S4x256x2048 .f32) (main_arg2 : IVec S4x256 32) (main_arg3 : FVec F S4x128x2048 .f32) (main_arg4 : IVec S4x128 32) : IVec S_ 1 :=
  let main_v0 : IVec S4x1 32 := (extractStridedSlice S4x1 ![0, 0] · slices_S4x256_S4x1_0_0) main_arg2
  let main_v1 : IVec S4x1 32 := (extractStridedSlice S4x1 ![0, 0] · slices_S4x128_S4x1_0_0) main_arg4
  let main_v2 : IVec S256 32 := iotaInDim S256 32 0
  let main_v3 : IVec S1x256 32 := broadcastInDim S1x256 ![1] bcast_S256_S1x256_1 main_v2
  let main_v4 : IVec S4x256 32 := broadcastInDim S4x256 ![0, 1] bcast_S4x1_S4x256_0_1 main_v0
  let main_v5 : IVec S4x256 32 := broadcastInDim S4x256 ![0, 1] bcast_S1x256_S4x256_0_1 main_v3
  let main_v6 : IVec S4x256 32 := addi main_v4 main_v5
  let main_v7 : IVec S4x256 1 := cmpi .eq main_arg2 main_v6
  let main_c : IVec S_ 1 := constantI S_ 1 1#1
  let main_v8 : IVec S_ 1 := (fun x v => Host.reduce IntOp.andi x v reducesTo_S4x256_S_d0_1 h_S_) main_v7 main_c
  let main_v9 : IVec S128 32 := iotaInDim S128 32 0
  let main_v10 : IVec S1x128 32 := broadcastInDim S1x128 ![1] bcast_S128_S1x128_1 main_v9
  let main_v11 : IVec S4x128 32 := broadcastInDim S4x128 ![0, 1] bcast_S4x1_S4x128_0_1 main_v1
  let main_v12 : IVec S4x128 32 := broadcastInDim S4x128 ![0, 1] bcast_S1x128_S4x128_0_1 main_v10
  let main_v13 : IVec S4x128 32 := addi main_v11 main_v12
  let main_v14 : IVec S4x128 1 := cmpi .eq main_arg4 main_v13
  let main_c_0 : IVec S_ 1 := constantI S_ 1 1#1
  let main_v15 : IVec S_ 1 := (fun x v => Host.reduce IntOp.andi x v reducesTo_S4x128_S_d0_1 h_S_) main_v14 main_c_0
  let main_v16 : IVec S_ 1 := andi main_v8 main_v15
  let main_c_1 : IVec S_ 32 := constantI S_ 32 0#32
  let main_v17 : IVec S4x1 32 := broadcastInDim S4x1 ![] bcast_S_S4x1 main_c_1
  let main_v18 : IVec S4x1 1 := cmpi .sge main_v0 main_v17
  let main_c_2 : IVec S_ 32 := constantI S_ 32 3840#32
  let main_v19 : IVec S4x1 32 := broadcastInDim S4x1 ![] bcast_S_S4x1 main_c_2
  fn_part1 (F := F) main_v0 main_v1 main_v16 main_v18 main_v19
-- ==== Kernel.lean ====
abbrev S4x4096x2048 : Shape := ⟨3, ![4, 4096, 2048]⟩
abbrev S4x256x2048 : Shape := ⟨3, ![4, 256, 2048]⟩
abbrev S4x256 : Shape := ⟨2, ![4, 256]⟩
abbrev S4x128x2048 : Shape := ⟨3, ![4, 128, 2048]⟩
abbrev S4x128 : Shape := ⟨2, ![4, 128]⟩
abbrev S16384x2048 : Shape := ⟨2, ![16384, 2048]⟩
abbrev S1024x2048 : Shape := ⟨2, ![1024, 2048]⟩
abbrev S512x2048 : Shape := ⟨2, ![512, 2048]⟩
abbrev S1024 : Shape := ⟨1, ![1024]⟩
abbrev S512 : Shape := ⟨1, ![512]⟩
abbrev S16 : Shape := ⟨1, ![16]⟩
abbrev S16x3x16x2048 : Shape := ⟨4, ![16, 3, 16, 2048]⟩
abbrev S_ : Shape := ⟨0, ![]⟩
abbrev S1 : Shape := ⟨1, ![1]⟩
abbrev S1x1x16x2048 : Shape := ⟨4, ![1, 1, 16, 2048]⟩
abbrev S16x2048 : Shape := ⟨2, ![16, 2048]⟩

abbrev nBuf : Table → Nat
  | .hbm => 12
  | .shared => 1
  | .local .scVector .vmem => 2
  | _ => 0

abbrev bufTy : (tb : Table) → Fin (nBuf tb) → BufTy
  | .hbm, ⟨0, _⟩ => ⟨S4x4096x2048, .f32⟩
  | .hbm, ⟨1, _⟩ => ⟨S4x256x2048, .f32⟩
  | .hbm, ⟨2, _⟩ => ⟨S4x256, .i32⟩
  | .hbm, ⟨3, _⟩ => ⟨S4x128x2048, .f32⟩
  | .hbm, ⟨4, _⟩ => ⟨S4x128, .i32⟩
  | .hbm, ⟨5, _⟩ => ⟨S16384x2048, .f32⟩
  | .hbm, ⟨6, _⟩ => ⟨S1024x2048, .f32⟩
  | .hbm, ⟨7, _⟩ => ⟨S512x2048, .f32⟩
  | .hbm, ⟨8, _⟩ => ⟨S1024, .i32⟩
  | .hbm, ⟨9, _⟩ => ⟨S512, .i32⟩
  | .hbm, ⟨10, _⟩ => ⟨S16384x2048, .f32⟩
  | .hbm, ⟨11, _⟩ => ⟨S4x4096x2048, .f32⟩
  | .shared, ⟨0, _⟩ => ⟨S16x3x16x2048, .f32⟩
  | .local .scVector .vmem, ⟨0, _⟩ => ⟨S16, .i32⟩
  | .local .scVector .vmem, ⟨1, _⟩ => ⟨S16, .i32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v0_scv : Ref sig .scVector := ⟨.hbm, 5, rfl⟩
abbrev main_v1_scv : Ref sig .scVector := ⟨.hbm, 6, rfl⟩
abbrev main_v3_scv : Ref sig .scVector := ⟨.hbm, 8, rfl⟩
abbrev main_v2_scv : Ref sig .scVector := ⟨.hbm, 7, rfl⟩
abbrev main_v4_scv : Ref sig .scVector := ⟨.hbm, 9, rfl⟩
abbrev main_v5_scv : Ref sig .scVector := ⟨.hbm, 10, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32 : BitVec 32 := 256#32
  let v31 : BitVec 32 := Scalar.muli v19 c256_i32
  ![v31.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32 : BitVec 32 := 128#32
  let v32 : BitVec 32 := Scalar.muli v19 c128_i32
  ![v32.toNat]
def k0_mult1 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c0_i32_12 : BitVec 32 := 0#32
  let v41 : BitVec 32 := Scalar.addi v30 c0_i32_12
  let v1002 : BitVec 32 := Scalar.addi v1001 v41
  let v1003 : BitVec 32 := Scalar.subi v1002 v40
  v1003
def k0_cond1 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c0_i32_12 : BitVec 32 := 0#32
  let v41 : BitVec 32 := Scalar.addi v30 c0_i32_12
  let v42 : BitVec 1 := Scalar.cmpi .sge v41 v40
  let c128_i32_13 : BitVec 32 := 128#32
  let v43 : BitVec 32 := Scalar.addi v40 c128_i32_13
  let v44 : BitVec 1 := Scalar.cmpi .slt v41 v43
  let v45 : BitVec 1 := Scalar.andi v42 v44
  let v50 : BitVec 32 := Scalar.extui v45
  let c0_i32_16 : BitVec 32 := 0#32
  let v51 : BitVec 1 := Scalar.cmpi .ne v50 c0_i32_16
  v51

def k0_off3 (i : grid0.Coords) : Fin 4 → Nat :=
  let arg1 : BitVec 32 := BitVec.ofNat 32 (i 1).val
  let c0_i32_15 : BitVec 32 := 0#32
  let c0_i32_783 : BitVec 32 := 0#32
  let c0_i32_784 : BitVec 32 := 0#32
  ![arg1.toNat, 0, 0, 0]
def k0_off4 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c0_i32_12 : BitVec 32 := 0#32
  let v41 : BitVec 32 := Scalar.addi v30 c0_i32_12
  let v1002 : BitVec 32 := Scalar.addi v1001 v41
  let v1003 : BitVec 32 := Scalar.subi v1002 v40
  let v1004 : BitVec 32 := v1003
  let c0_i32_785 : BitVec 32 := 0#32
  ![v1004.toNat, 0]
def k0_mult2 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c0_i32_12 : BitVec 32 := 0#32
  let v41 : BitVec 32 := Scalar.addi v30 c0_i32_12
  let v1002 : BitVec 32 := Scalar.addi v1001 v41
  let v1003 : BitVec 32 := Scalar.subi v1002 v36
  v1003
def k0_cond2 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c0_i32_12 : BitVec 32 := 0#32
  let v41 : BitVec 32 := Scalar.addi v30 c0_i32_12
  let v46 : BitVec 1 := Scalar.cmpi .sge v41 v36
  let c256_i32_14 : BitVec 32 := 256#32
  let v47 : BitVec 32 := Scalar.addi v36 c256_i32_14
  let v48 : BitVec 1 := Scalar.cmpi .slt v41 v47
  let v49 : BitVec 1 := Scalar.andi v46 v48
  let v42 : BitVec 1 := Scalar.cmpi .sge v41 v40
  let c128_i32_13 : BitVec 32 := 128#32
  let v43 : BitVec 32 := Scalar.addi v40 c128_i32_13
  let v44 : BitVec 1 := Scalar.cmpi .slt v41 v43
  let v45 : BitVec 1 := Scalar.andi v42 v44
  let v_true : BitVec 1 := 1#1
  let v52 : BitVec 1 := Scalar.xori v45 v_true
  let v53 : BitVec 1 := Scalar.andi v49 v52
  let v54 : BitVec 32 := Scalar.extui v53
  let c0_i32_18 : BitVec 32 := 0#32
  let v55 : BitVec 1 := Scalar.cmpi .ne v54 c0_i32_18
  v55

def k0_off5 (i : grid0.Coords) : Fin 4 → Nat :=
  let arg1 : BitVec 32 := BitVec.ofNat 32 (i 1).val
  let c0_i32_17 : BitVec 32 := 0#32
  let c0_i32_783 : BitVec 32 := 0#32
  let c0_i32_784 : BitVec 32 := 0#32
  ![arg1.toNat, 0, 0, 0]
def k0_off6 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c0_i32_12 : BitVec 32 := 0#32
  let v41 : BitVec 32 := Scalar.addi v30 c0_i32_12
  let v1002 : BitVec 32 := Scalar.addi v1001 v41
  let v1003 : BitVec 32 := Scalar.subi v1002 v36
  let v1004 : BitVec 32 := v1003
  let c0_i32_785 : BitVec 32 := 0#32
  ![v1004.toNat, 0]
def k0_off7 (i : grid0.Coords) : Fin 4 → Nat :=
  let arg1 : BitVec 32 := BitVec.ofNat 32 (i 1).val
  let c0_i32_20 : BitVec 32 := 0#32
  let c0_i32_783 : BitVec 32 := 0#32
  let c0_i32_784 : BitVec 32 := 0#32
  ![arg1.toNat, 0, 0, 0]
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_782 : BitVec 32 := 0#32
  let v1001 : BitVec 32 := Scalar.addi v2 c0_i32_782
  let c0_i32_785 : BitVec 32 := 0#32
  ![v1001.toNat, 0]
def k0_mult3 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c16_i32 : BitVec 32 := 16#32
  let v60 : BitVec 32 := Scalar.addi v30 c16_i32
  let v1002 : BitVec 32 := Scalar.addi v1001 v60
  let v1003 : BitVec 32 := Scalar.subi v1002 v40
  v1003
def k0_cond4 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c16_i32 : BitVec 32 := 16#32
  let v60 : BitVec 32 := Scalar.addi v30 c16_i32
  let v61 : BitVec 1 := Scalar.cmpi .sge v60 v40
  let c128_i32_22 : BitVec 32 := 128#32
  let v62 : BitVec 32 := Scalar.addi v40 c128_i32_22
  let v63 : BitVec 1 := Scalar.cmpi .slt v60 v62
  let v64 : BitVec 1 := Scalar.andi v61 v63
  let v69 : BitVec 32 := Scalar.extui v64
  let c0_i32_25 : BitVec 32 := 0#32
  let v70 : BitVec 1 := Scalar.cmpi .ne v69 c0_i32_25
  v70

def k0_off9 (i : grid0.Coords) : Fin 4 → Nat :=
  let arg1 : BitVec 32 := BitVec.ofNat 32 (i 1).val
  let c1_i32_24 : BitVec 32 := 1#32
  let c0_i32_783 : BitVec 32 := 0#32
  let c0_i32_784 : BitVec 32 := 0#32
  ![arg1.toNat, 1, 0, 0]
def k0_off10 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c16_i32 : BitVec 32 := 16#32
  let v60 : BitVec 32 := Scalar.addi v30 c16_i32
  let v1002 : BitVec 32 := Scalar.addi v1001 v60
  let v1003 : BitVec 32 := Scalar.subi v1002 v40
  let v1004 : BitVec 32 := v1003
  let c0_i32_785 : BitVec 32 := 0#32
  ![v1004.toNat, 0]
def k0_mult4 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c16_i32 : BitVec 32 := 16#32
  let v60 : BitVec 32 := Scalar.addi v30 c16_i32
  let v1002 : BitVec 32 := Scalar.addi v1001 v60
  let v1003 : BitVec 32 := Scalar.subi v1002 v36
  v1003
def k0_cond5 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c16_i32 : BitVec 32 := 16#32
  let v60 : BitVec 32 := Scalar.addi v30 c16_i32
  let v65 : BitVec 1 := Scalar.cmpi .sge v60 v36
  let c256_i32_23 : BitVec 32 := 256#32
  let v66 : BitVec 32 := Scalar.addi v36 c256_i32_23
  let v67 : BitVec 1 := Scalar.cmpi .slt v60 v66
  let v68 : BitVec 1 := Scalar.andi v65 v67
  let v61 : BitVec 1 := Scalar.cmpi .sge v60 v40
  let c128_i32_22 : BitVec 32 := 128#32
  let v62 : BitVec 32 := Scalar.addi v40 c128_i32_22
  let v63 : BitVec 1 := Scalar.cmpi .slt v60 v62
  let v64 : BitVec 1 := Scalar.andi v61 v63
  let true_26 : BitVec 1 := 1#1
  let v71 : BitVec 1 := Scalar.xori v64 true_26
  let v72 : BitVec 1 := Scalar.andi v68 v71
  let v73 : BitVec 32 := Scalar.extui v72
  let c0_i32_28 : BitVec 32 := 0#32
  let v74 : BitVec 1 := Scalar.cmpi .ne v73 c0_i32_28
  v74

def k0_off11 (i : grid0.Coords) : Fin 4 → Nat :=
  let arg1 : BitVec 32 := BitVec.ofNat 32 (i 1).val
  let c1_i32_27 : BitVec 32 := 1#32
  let c0_i32_783 : BitVec 32 := 0#32
  let c0_i32_784 : BitVec 32 := 0#32
  ![arg1.toNat, 1, 0, 0]
def k0_off12 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c16_i32 : BitVec 32 := 16#32
  let v60 : BitVec 32 := Scalar.addi v30 c16_i32
  let v1002 : BitVec 32 := Scalar.addi v1001 v60
  let v1003 : BitVec 32 := Scalar.subi v1002 v36
  let v1004 : BitVec 32 := v1003
  let c0_i32_785 : BitVec 32 := 0#32
  ![v1004.toNat, 0]
def k0_off13 (i : grid0.Coords) : Fin 4 → Nat :=
  let arg1 : BitVec 32 := BitVec.ofNat 32 (i 1).val
  let c1_i32_30 : BitVec 32 := 1#32
  let c0_i32_783 : BitVec 32 := 0#32
  let c0_i32_784 : BitVec 32 := 0#32
  ![arg1.toNat, 1, 0, 0]
def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c16_i32_782 : BitVec 32 := 16#32
  let v1001 : BitVec 32 := Scalar.addi v2 c16_i32_782
  let c0_i32_785 : BitVec 32 := 0#32
  ![v1001.toNat, 0]
def k0_off15 (i : grid0.Coords) : Fin 4 → Nat :=
  let arg1 : BitVec 32 := BitVec.ofNat 32 (i 1).val
  let c0_i32_32 : BitVec 32 := 0#32
  let c0_i32_33 : BitVec 32 := 0#32
  let c0_i32_34 : BitVec 32 := 0#32
  ![arg1.toNat, 0, 0, 0]
def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_35 : BitVec 32 := 0#32
  ![v2.toNat, 0]
def k0_off17 (i : grid0.Coords) (c0_i32_36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v82 : BitVec 32 := Scalar.addi v2 c0_i32_36
  let c0_i32_38 : BitVec 32 := 0#32
  ![v82.toNat, 0]
def k0_mult5 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c32_i32 : BitVec 32 := 32#32
  let v86 : BitVec 32 := Scalar.addi v30 c32_i32
  let v1002 : BitVec 32 := Scalar.addi v1001 v86
  let v1003 : BitVec 32 := Scalar.subi v1002 v40
  v1003
def k0_cond7 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c32_i32 : BitVec 32 := 32#32
  let v86 : BitVec 32 := Scalar.addi v30 c32_i32
  let v87 : BitVec 1 := Scalar.cmpi .sge v86 v40
  let c128_i32_41 : BitVec 32 := 128#32
  let v88 : BitVec 32 := Scalar.addi v40 c128_i32_41
  let v89 : BitVec 1 := Scalar.cmpi .slt v86 v88
  let v90 : BitVec 1 := Scalar.andi v87 v89
  let v95 : BitVec 32 := Scalar.extui v90
  let c0_i32_44 : BitVec 32 := 0#32
  let v96 : BitVec 1 := Scalar.cmpi .ne v95 c0_i32_44
  v96

def k0_off18 (i : grid0.Coords) : Fin 4 → Nat :=
  let arg1 : BitVec 32 := BitVec.ofNat 32 (i 1).val
  let c2_i32_43 : BitVec 32 := 2#32
  let c0_i32_783 : BitVec 32 := 0#32
  let c0_i32_784 : BitVec 32 := 0#32
  ![arg1.toNat, 2, 0, 0]
def k0_off19 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c32_i32 : BitVec 32 := 32#32
  let v86 : BitVec 32 := Scalar.addi v30 c32_i32
  let v1002 : BitVec 32 := Scalar.addi v1001 v86
  let v1003 : BitVec 32 := Scalar.subi v1002 v40
  let v1004 : BitVec 32 := v1003
  let c0_i32_785 : BitVec 32 := 0#32
  ![v1004.toNat, 0]
def k0_mult6 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c32_i32 : BitVec 32 := 32#32
  let v86 : BitVec 32 := Scalar.addi v30 c32_i32
  let v1002 : BitVec 32 := Scalar.addi v1001 v86
  let v1003 : BitVec 32 := Scalar.subi v1002 v36
  v1003
def k0_cond8 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c32_i32 : BitVec 32 := 32#32
  let v86 : BitVec 32 := Scalar.addi v30 c32_i32
  let v91 : BitVec 1 := Scalar.cmpi .sge v86 v36
  let c256_i32_42 : BitVec 32 := 256#32
  let v92 : BitVec 32 := Scalar.addi v36 c256_i32_42
  let v93 : BitVec 1 := Scalar.cmpi .slt v86 v92
  let v94 : BitVec 1 := Scalar.andi v91 v93
  let v87 : BitVec 1 := Scalar.cmpi .sge v86 v40
  let c128_i32_41 : BitVec 32 := 128#32
  let v88 : BitVec 32 := Scalar.addi v40 c128_i32_41
  let v89 : BitVec 1 := Scalar.cmpi .slt v86 v88
  let v90 : BitVec 1 := Scalar.andi v87 v89
  let true_45 : BitVec 1 := 1#1
  let v97 : BitVec 1 := Scalar.xori v90 true_45
  let v98 : BitVec 1 := Scalar.andi v94 v97
  let v99 : BitVec 32 := Scalar.extui v98
  let c0_i32_47 : BitVec 32 := 0#32
  let v100 : BitVec 1 := Scalar.cmpi .ne v99 c0_i32_47
  v100

def k0_off20 (i : grid0.Coords) : Fin 4 → Nat :=
  let arg1 : BitVec 32 := BitVec.ofNat 32 (i 1).val
  let c2_i32_46 : BitVec 32 := 2#32
  let c0_i32_783 : BitVec 32 := 0#32
  let c0_i32_784 : BitVec 32 := 0#32
  ![arg1.toNat, 2, 0, 0]
def k0_off21 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c32_i32 : BitVec 32 := 32#32
  let v86 : BitVec 32 := Scalar.addi v30 c32_i32
  let v1002 : BitVec 32 := Scalar.addi v1001 v86
  let v1003 : BitVec 32 := Scalar.subi v1002 v36
  let v1004 : BitVec 32 := v1003
  let c0_i32_785 : BitVec 32 := 0#32
  ![v1004.toNat, 0]
def k0_off22 (i : grid0.Coords) : Fin 4 → Nat :=
  let arg1 : BitVec 32 := BitVec.ofNat 32 (i 1).val
  let c2_i32_49 : BitVec 32 := 2#32
  let c0_i32_783 : BitVec 32 := 0#32
  let c0_i32_784 : BitVec 32 := 0#32
  ![arg1.toNat, 2, 0, 0]
def k0_off23 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c32_i32_782 : BitVec 32 := 32#32
  let v1001 : BitVec 32 := Scalar.addi v2 c32_i32_782
  let c0_i32_785 : BitVec 32 := 0#32
  ![v1001.toNat, 0]
def k0_off24 (i : grid0.Coords) : Fin 4 → Nat :=
  let arg1 : BitVec 32 := BitVec.ofNat 32 (i 1).val
  let c1_i32_51 : BitVec 32 := 1#32
  let c0_i32_52 : BitVec 32 := 0#32
  let c0_i32_53 : BitVec 32 := 0#32
  ![arg1.toNat, 1, 0, 0]
def k0_mult7 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c48_i32 : BitVec 32 := 48#32
  let v116 : BitVec 32 := Scalar.addi v30 c48_i32
  let v1002 : BitVec 32 := Scalar.addi v1001 v116
  let v1003 : BitVec 32 := Scalar.subi v1002 v40
  v1003
def k0_cond10 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c48_i32 : BitVec 32 := 48#32
  let v116 : BitVec 32 := Scalar.addi v30 c48_i32
  let v117 : BitVec 1 := Scalar.cmpi .sge v116 v40
  let c128_i32_65 : BitVec 32 := 128#32
  let v118 : BitVec 32 := Scalar.addi v40 c128_i32_65
  let v119 : BitVec 1 := Scalar.cmpi .slt v116 v118
  let v120 : BitVec 1 := Scalar.andi v117 v119
  let v125 : BitVec 32 := Scalar.extui v120
  let c0_i32_68 : BitVec 32 := 0#32
  let v126 : BitVec 1 := Scalar.cmpi .ne v125 c0_i32_68
  v126

def k0_off25 (i : grid0.Coords) : Fin 4 → Nat :=
  let arg1 : BitVec 32 := BitVec.ofNat 32 (i 1).val
  let c0_i32_67 : BitVec 32 := 0#32
  let c0_i32_783 : BitVec 32 := 0#32
  let c0_i32_784 : BitVec 32 := 0#32
  ![arg1.toNat, 0, 0, 0]
def k0_off26 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c48_i32 : BitVec 32 := 48#32
  let v116 : BitVec 32 := Scalar.addi v30 c48_i32
  let v1002 : BitVec 32 := Scalar.addi v1001 v116
  let v1003 : BitVec 32 := Scalar.subi v1002 v40
  let v1004 : BitVec 32 := v1003
  let c0_i32_785 : BitVec 32 := 0#32
  ![v1004.toNat, 0]
def k0_mult8 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c48_i32 : BitVec 32 := 48#32
  let v116 : BitVec 32 := Scalar.addi v30 c48_i32
  let v1002 : BitVec 32 := Scalar.addi v1001 v116
  let v1003 : BitVec 32 := Scalar.subi v1002 v36
  v1003
def k0_cond11 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c48_i32 : BitVec 32 := 48#32
  let v116 : BitVec 32 := Scalar.addi v30 c48_i32
  let v121 : BitVec 1 := Scalar.cmpi .sge v116 v36
  let c256_i32_66 : BitVec 32 := 256#32
  let v122 : BitVec 32 := Scalar.addi v36 c256_i32_66
  let v123 : BitVec 1 := Scalar.cmpi .slt v116 v122
  let v124 : BitVec 1 := Scalar.andi v121 v123
  let v117 : BitVec 1 := Scalar.cmpi .sge v116 v40
  let c128_i32_65 : BitVec 32 := 128#32
  let v118 : BitVec 32 := Scalar.addi v40 c128_i32_65
  let v119 : BitVec 1 := Scalar.cmpi .slt v116 v118
  let v120 : BitVec 1 := Scalar.andi v117 v119
  let true_69 : BitVec 1 := 1#1
  let v127 : BitVec 1 := Scalar.xori v120 true_69
  let v128 : BitVec 1 := Scalar.andi v124 v127
  let v129 : BitVec 32 := Scalar.extui v128
  let c0_i32_71 : BitVec 32 := 0#32
  let v130 : BitVec 1 := Scalar.cmpi .ne v129 c0_i32_71
  v130

def k0_off27 (i : grid0.Coords) : Fin 4 → Nat :=
  let arg1 : BitVec 32 := BitVec.ofNat 32 (i 1).val
  let c0_i32_70 : BitVec 32 := 0#32
  let c0_i32_783 : BitVec 32 := 0#32
  let c0_i32_784 : BitVec 32 := 0#32
  ![arg1.toNat, 0, 0, 0]
def k0_off28 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c48_i32 : BitVec 32 := 48#32
  let v116 : BitVec 32 := Scalar.addi v30 c48_i32
  let v1002 : BitVec 32 := Scalar.addi v1001 v116
  let v1003 : BitVec 32 := Scalar.subi v1002 v36
  let v1004 : BitVec 32 := v1003
  let c0_i32_785 : BitVec 32 := 0#32
  ![v1004.toNat, 0]
def k0_off29 (i : grid0.Coords) : Fin 4 → Nat :=
  let arg1 : BitVec 32 := BitVec.ofNat 32 (i 1).val
  let c0_i32_73 : BitVec 32 := 0#32
  let c0_i32_783 : BitVec 32 := 0#32
  let c0_i32_784 : BitVec 32 := 0#32
  ![arg1.toNat, 0, 0, 0]
def k0_off30 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c48_i32_782 : BitVec 32 := 48#32
  let v1001 : BitVec 32 := Scalar.addi v2 c48_i32_782
  let c0_i32_785 : BitVec 32 := 0#32
  ![v1001.toNat, 0]
def k0_off31 (i : grid0.Coords) : Fin 4 → Nat :=
  let arg1 : BitVec 32 := BitVec.ofNat 32 (i 1).val
  let c2_i32_75 : BitVec 32 := 2#32
  let c0_i32_76 : BitVec 32 := 0#32
  let c0_i32_77 : BitVec 32 := 0#32
  ![arg1.toNat, 2, 0, 0]
def k0_mult9 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c64_i32 : BitVec 32 := 64#32
  let v146 : BitVec 32 := Scalar.addi v30 c64_i32
  let v1002 : BitVec 32 := Scalar.addi v1001 v146
  let v1003 : BitVec 32 := Scalar.subi v1002 v40
  v1003
def k0_cond13 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c64_i32 : BitVec 32 := 64#32
  let v146 : BitVec 32 := Scalar.addi v30 c64_i32
  let v147 : BitVec 1 := Scalar.cmpi .sge v146 v40
  let c128_i32_89 : BitVec 32 := 128#32
  let v148 : BitVec 32 := Scalar.addi v40 c128_i32_89
  let v149 : BitVec 1 := Scalar.cmpi .slt v146 v148
  let v150 : BitVec 1 := Scalar.andi v147 v149
  let v155 : BitVec 32 := Scalar.extui v150
  let c0_i32_92 : BitVec 32 := 0#32
  let v156 : BitVec 1 := Scalar.cmpi .ne v155 c0_i32_92
  v156

def k0_off32 (i : grid0.Coords) : Fin 4 → Nat :=
  let arg1 : BitVec 32 := BitVec.ofNat 32 (i 1).val
  let c1_i32_91 : BitVec 32 := 1#32
  let c0_i32_783 : BitVec 32 := 0#32
  let c0_i32_784 : BitVec 32 := 0#32
  ![arg1.toNat, 1, 0, 0]
def k0_off33 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c64_i32 : BitVec 32 := 64#32
  let v146 : BitVec 32 := Scalar.addi v30 c64_i32
  let v1002 : BitVec 32 := Scalar.addi v1001 v146
  let v1003 : BitVec 32 := Scalar.subi v1002 v40
  let v1004 : BitVec 32 := v1003
  let c0_i32_785 : BitVec 32 := 0#32
  ![v1004.toNat, 0]
def k0_mult10 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c64_i32 : BitVec 32 := 64#32
  let v146 : BitVec 32 := Scalar.addi v30 c64_i32
  let v1002 : BitVec 32 := Scalar.addi v1001 v146
  let v1003 : BitVec 32 := Scalar.subi v1002 v36
  v1003
def k0_cond14 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c64_i32 : BitVec 32 := 64#32
  let v146 : BitVec 32 := Scalar.addi v30 c64_i32
  let v151 : BitVec 1 := Scalar.cmpi .sge v146 v36
  let c256_i32_90 : BitVec 32 := 256#32
  let v152 : BitVec 32 := Scalar.addi v36 c256_i32_90
  let v153 : BitVec 1 := Scalar.cmpi .slt v146 v152
  let v154 : BitVec 1 := Scalar.andi v151 v153
  let v147 : BitVec 1 := Scalar.cmpi .sge v146 v40
  let c128_i32_89 : BitVec 32 := 128#32
  let v148 : BitVec 32 := Scalar.addi v40 c128_i32_89
  let v149 : BitVec 1 := Scalar.cmpi .slt v146 v148
  let v150 : BitVec 1 := Scalar.andi v147 v149
  let true_93 : BitVec 1 := 1#1
  let v157 : BitVec 1 := Scalar.xori v150 true_93
  let v158 : BitVec 1 := Scalar.andi v154 v157
  let v159 : BitVec 32 := Scalar.extui v158
  let c0_i32_95 : BitVec 32 := 0#32
  let v160 : BitVec 1 := Scalar.cmpi .ne v159 c0_i32_95
  v160

def k0_off34 (i : grid0.Coords) : Fin 4 → Nat :=
  let arg1 : BitVec 32 := BitVec.ofNat 32 (i 1).val
  let c1_i32_94 : BitVec 32 := 1#32
  let c0_i32_783 : BitVec 32 := 0#32
  let c0_i32_784 : BitVec 32 := 0#32
  ![arg1.toNat, 1, 0, 0]
def k0_off35 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c64_i32 : BitVec 32 := 64#32
  let v146 : BitVec 32 := Scalar.addi v30 c64_i32
  let v1002 : BitVec 32 := Scalar.addi v1001 v146
  let v1003 : BitVec 32 := Scalar.subi v1002 v36
  let v1004 : BitVec 32 := v1003
  let c0_i32_785 : BitVec 32 := 0#32
  ![v1004.toNat, 0]
def k0_off36 (i : grid0.Coords) : Fin 4 → Nat :=
  let arg1 : BitVec 32 := BitVec.ofNat 32 (i 1).val
  let c1_i32_97 : BitVec 32 := 1#32
  let c0_i32_783 : BitVec 32 := 0#32
  let c0_i32_784 : BitVec 32 := 0#32
  ![arg1.toNat, 1, 0, 0]
def k0_off37 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c64_i32_782 : BitVec 32 := 64#32
  let v1001 : BitVec 32 := Scalar.addi v2 c64_i32_782
  let c0_i32_785 : BitVec 32 := 0#32
  ![v1001.toNat, 0]
def k0_mult11 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c80_i32 : BitVec 32 := 80#32
  let v176 : BitVec 32 := Scalar.addi v30 c80_i32
  let v1002 : BitVec 32 := Scalar.addi v1001 v176
  let v1003 : BitVec 32 := Scalar.subi v1002 v40
  v1003
def k0_cond16 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c80_i32 : BitVec 32 := 80#32
  let v176 : BitVec 32 := Scalar.addi v30 c80_i32
  let v177 : BitVec 1 := Scalar.cmpi .sge v176 v40
  let c128_i32_113 : BitVec 32 := 128#32
  let v178 : BitVec 32 := Scalar.addi v40 c128_i32_113
  let v179 : BitVec 1 := Scalar.cmpi .slt v176 v178
  let v180 : BitVec 1 := Scalar.andi v177 v179
  let v185 : BitVec 32 := Scalar.extui v180
  let c0_i32_116 : BitVec 32 := 0#32
  let v186 : BitVec 1 := Scalar.cmpi .ne v185 c0_i32_116
  v186

def k0_off38 (i : grid0.Coords) : Fin 4 → Nat :=
  let arg1 : BitVec 32 := BitVec.ofNat 32 (i 1).val
  let c2_i32_115 : BitVec 32 := 2#32
  let c0_i32_783 : BitVec 32 := 0#32
  let c0_i32_784 : BitVec 32 := 0#32
  ![arg1.toNat, 2, 0, 0]
def k0_off39 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c80_i32 : BitVec 32 := 80#32
  let v176 : BitVec 32 := Scalar.addi v30 c80_i32
  let v1002 : BitVec 32 := Scalar.addi v1001 v176
  let v1003 : BitVec 32 := Scalar.subi v1002 v40
  let v1004 : BitVec 32 := v1003
  let c0_i32_785 : BitVec 32 := 0#32
  ![v1004.toNat, 0]
def k0_mult12 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c80_i32 : BitVec 32 := 80#32
  let v176 : BitVec 32 := Scalar.addi v30 c80_i32
  let v1002 : BitVec 32 := Scalar.addi v1001 v176
  let v1003 : BitVec 32 := Scalar.subi v1002 v36
  v1003
def k0_cond17 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c80_i32 : BitVec 32 := 80#32
  let v176 : BitVec 32 := Scalar.addi v30 c80_i32
  let v181 : BitVec 1 := Scalar.cmpi .sge v176 v36
  let c256_i32_114 : BitVec 32 := 256#32
  let v182 : BitVec 32 := Scalar.addi v36 c256_i32_114
  let v183 : BitVec 1 := Scalar.cmpi .slt v176 v182
  let v184 : BitVec 1 := Scalar.andi v181 v183
  let v177 : BitVec 1 := Scalar.cmpi .sge v176 v40
  let c128_i32_113 : BitVec 32 := 128#32
  let v178 : BitVec 32 := Scalar.addi v40 c128_i32_113
  let v179 : BitVec 1 := Scalar.cmpi .slt v176 v178
  let v180 : BitVec 1 := Scalar.andi v177 v179
  let true_117 : BitVec 1 := 1#1
  let v187 : BitVec 1 := Scalar.xori v180 true_117
  let v188 : BitVec 1 := Scalar.andi v184 v187
  let v189 : BitVec 32 := Scalar.extui v188
  let c0_i32_119 : BitVec 32 := 0#32
  let v190 : BitVec 1 := Scalar.cmpi .ne v189 c0_i32_119
  v190

def k0_off40 (i : grid0.Coords) : Fin 4 → Nat :=
  let arg1 : BitVec 32 := BitVec.ofNat 32 (i 1).val
  let c2_i32_118 : BitVec 32 := 2#32
  let c0_i32_783 : BitVec 32 := 0#32
  let c0_i32_784 : BitVec 32 := 0#32
  ![arg1.toNat, 2, 0, 0]
def k0_off41 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c80_i32 : BitVec 32 := 80#32
  let v176 : BitVec 32 := Scalar.addi v30 c80_i32
  let v1002 : BitVec 32 := Scalar.addi v1001 v176
  let v1003 : BitVec 32 := Scalar.subi v1002 v36
  let v1004 : BitVec 32 := v1003
  let c0_i32_785 : BitVec 32 := 0#32
  ![v1004.toNat, 0]
def k0_off42 (i : grid0.Coords) : Fin 4 → Nat :=
  let arg1 : BitVec 32 := BitVec.ofNat 32 (i 1).val
  let c2_i32_121 : BitVec 32 := 2#32
  let c0_i32_783 : BitVec 32 := 0#32
  let c0_i32_784 : BitVec 32 := 0#32
  ![arg1.toNat, 2, 0, 0]
def k0_off43 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c80_i32_782 : BitVec 32 := 80#32
  let v1001 : BitVec 32 := Scalar.addi v2 c80_i32_782
  let c0_i32_785 : BitVec 32 := 0#32
  ![v1001.toNat, 0]
def k0_mult13 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c96_i32 : BitVec 32 := 96#32
  let v206 : BitVec 32 := Scalar.addi v30 c96_i32
  let v1002 : BitVec 32 := Scalar.addi v1001 v206
  let v1003 : BitVec 32 := Scalar.subi v1002 v40
  v1003
def k0_cond19 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c96_i32 : BitVec 32 := 96#32
  let v206 : BitVec 32 := Scalar.addi v30 c96_i32
  let v207 : BitVec 1 := Scalar.cmpi .sge v206 v40
  let c128_i32_137 : BitVec 32 := 128#32
  let v208 : BitVec 32 := Scalar.addi v40 c128_i32_137
  let v209 : BitVec 1 := Scalar.cmpi .slt v206 v208
  let v210 : BitVec 1 := Scalar.andi v207 v209
  let v215 : BitVec 32 := Scalar.extui v210
  let c0_i32_140 : BitVec 32 := 0#32
  let v216 : BitVec 1 := Scalar.cmpi .ne v215 c0_i32_140
  v216

def k0_off44 (i : grid0.Coords) : Fin 4 → Nat :=
  let arg1 : BitVec 32 := BitVec.ofNat 32 (i 1).val
  let c0_i32_139 : BitVec 32 := 0#32
  let c0_i32_783 : BitVec 32 := 0#32
  let c0_i32_784 : BitVec 32 := 0#32
  ![arg1.toNat, 0, 0, 0]
def k0_off45 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c96_i32 : BitVec 32 := 96#32
  let v206 : BitVec 32 := Scalar.addi v30 c96_i32
  let v1002 : BitVec 32 := Scalar.addi v1001 v206
  let v1003 : BitVec 32 := Scalar.subi v1002 v40
  let v1004 : BitVec 32 := v1003
  let c0_i32_785 : BitVec 32 := 0#32
  ![v1004.toNat, 0]
def k0_mult14 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c96_i32 : BitVec 32 := 96#32
  let v206 : BitVec 32 := Scalar.addi v30 c96_i32
  let v1002 : BitVec 32 := Scalar.addi v1001 v206
  let v1003 : BitVec 32 := Scalar.subi v1002 v36
  v1003
def k0_cond20 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c96_i32 : BitVec 32 := 96#32
  let v206 : BitVec 32 := Scalar.addi v30 c96_i32
  let v211 : BitVec 1 := Scalar.cmpi .sge v206 v36
  let c256_i32_138 : BitVec 32 := 256#32
  let v212 : BitVec 32 := Scalar.addi v36 c256_i32_138
  let v213 : BitVec 1 := Scalar.cmpi .slt v206 v212
  let v214 : BitVec 1 := Scalar.andi v211 v213
  let v207 : BitVec 1 := Scalar.cmpi .sge v206 v40
  let c128_i32_137 : BitVec 32 := 128#32
  let v208 : BitVec 32 := Scalar.addi v40 c128_i32_137
  let v209 : BitVec 1 := Scalar.cmpi .slt v206 v208
  let v210 : BitVec 1 := Scalar.andi v207 v209
  let true_141 : BitVec 1 := 1#1
  let v217 : BitVec 1 := Scalar.xori v210 true_141
  let v218 : BitVec 1 := Scalar.andi v214 v217
  let v219 : BitVec 32 := Scalar.extui v218
  let c0_i32_143 : BitVec 32 := 0#32
  let v220 : BitVec 1 := Scalar.cmpi .ne v219 c0_i32_143
  v220

def k0_off46 (i : grid0.Coords) : Fin 4 → Nat :=
  let arg1 : BitVec 32 := BitVec.ofNat 32 (i 1).val
  let c0_i32_142 : BitVec 32 := 0#32
  let c0_i32_783 : BitVec 32 := 0#32
  let c0_i32_784 : BitVec 32 := 0#32
  ![arg1.toNat, 0, 0, 0]
def k0_off47 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c96_i32 : BitVec 32 := 96#32
  let v206 : BitVec 32 := Scalar.addi v30 c96_i32
  let v1002 : BitVec 32 := Scalar.addi v1001 v206
  let v1003 : BitVec 32 := Scalar.subi v1002 v36
  let v1004 : BitVec 32 := v1003
  let c0_i32_785 : BitVec 32 := 0#32
  ![v1004.toNat, 0]
def k0_off48 (i : grid0.Coords) : Fin 4 → Nat :=
  let arg1 : BitVec 32 := BitVec.ofNat 32 (i 1).val
  let c0_i32_145 : BitVec 32 := 0#32
  let c0_i32_783 : BitVec 32 := 0#32
  let c0_i32_784 : BitVec 32 := 0#32
  ![arg1.toNat, 0, 0, 0]
def k0_off49 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c96_i32_782 : BitVec 32 := 96#32
  let v1001 : BitVec 32 := Scalar.addi v2 c96_i32_782
  let c0_i32_785 : BitVec 32 := 0#32
  ![v1001.toNat, 0]
def k0_mult15 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c112_i32 : BitVec 32 := 112#32
  let v236 : BitVec 32 := Scalar.addi v30 c112_i32
  let v1002 : BitVec 32 := Scalar.addi v1001 v236
  let v1003 : BitVec 32 := Scalar.subi v1002 v40
  v1003
def k0_cond22 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c112_i32 : BitVec 32 := 112#32
  let v236 : BitVec 32 := Scalar.addi v30 c112_i32
  let v237 : BitVec 1 := Scalar.cmpi .sge v236 v40
  let c128_i32_161 : BitVec 32 := 128#32
  let v238 : BitVec 32 := Scalar.addi v40 c128_i32_161
  let v239 : BitVec 1 := Scalar.cmpi .slt v236 v238
  let v240 : BitVec 1 := Scalar.andi v237 v239
  let v245 : BitVec 32 := Scalar.extui v240
  let c0_i32_164 : BitVec 32 := 0#32
  let v246 : BitVec 1 := Scalar.cmpi .ne v245 c0_i32_164
  v246

def k0_off50 (i : grid0.Coords) : Fin 4 → Nat :=
  let arg1 : BitVec 32 := BitVec.ofNat 32 (i 1).val
  let c1_i32_163 : BitVec 32 := 1#32
  let c0_i32_783 : BitVec 32 := 0#32
  let c0_i32_784 : BitVec 32 := 0#32
  ![arg1.toNat, 1, 0, 0]
def k0_off51 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c112_i32 : BitVec 32 := 112#32
  let v236 : BitVec 32 := Scalar.addi v30 c112_i32
  let v1002 : BitVec 32 := Scalar.addi v1001 v236
  let v1003 : BitVec 32 := Scalar.subi v1002 v40
  let v1004 : BitVec 32 := v1003
  let c0_i32_785 : BitVec 32 := 0#32
  ![v1004.toNat, 0]
def k0_mult16 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c112_i32 : BitVec 32 := 112#32
  let v236 : BitVec 32 := Scalar.addi v30 c112_i32
  let v1002 : BitVec 32 := Scalar.addi v1001 v236
  let v1003 : BitVec 32 := Scalar.subi v1002 v36
  v1003
def k0_cond23 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c112_i32 : BitVec 32 := 112#32
  let v236 : BitVec 32 := Scalar.addi v30 c112_i32
  let v241 : BitVec 1 := Scalar.cmpi .sge v236 v36
  let c256_i32_162 : BitVec 32 := 256#32
  let v242 : BitVec 32 := Scalar.addi v36 c256_i32_162
  let v243 : BitVec 1 := Scalar.cmpi .slt v236 v242
  let v244 : BitVec 1 := Scalar.andi v241 v243
  let v237 : BitVec 1 := Scalar.cmpi .sge v236 v40
  let c128_i32_161 : BitVec 32 := 128#32
  let v238 : BitVec 32 := Scalar.addi v40 c128_i32_161
  let v239 : BitVec 1 := Scalar.cmpi .slt v236 v238
  let v240 : BitVec 1 := Scalar.andi v237 v239
  let true_165 : BitVec 1 := 1#1
  let v247 : BitVec 1 := Scalar.xori v240 true_165
  let v248 : BitVec 1 := Scalar.andi v244 v247
  let v249 : BitVec 32 := Scalar.extui v248
  let c0_i32_167 : BitVec 32 := 0#32
  let v250 : BitVec 1 := Scalar.cmpi .ne v249 c0_i32_167
  v250

def k0_off52 (i : grid0.Coords) : Fin 4 → Nat :=
  let arg1 : BitVec 32 := BitVec.ofNat 32 (i 1).val
  let c1_i32_166 : BitVec 32 := 1#32
  let c0_i32_783 : BitVec 32 := 0#32
  let c0_i32_784 : BitVec 32 := 0#32
  ![arg1.toNat, 1, 0, 0]
def k0_off53 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c112_i32 : BitVec 32 := 112#32
  let v236 : BitVec 32 := Scalar.addi v30 c112_i32
  let v1002 : BitVec 32 := Scalar.addi v1001 v236
  let v1003 : BitVec 32 := Scalar.subi v1002 v36
  let v1004 : BitVec 32 := v1003
  let c0_i32_785 : BitVec 32 := 0#32
  ![v1004.toNat, 0]
def k0_off54 (i : grid0.Coords) : Fin 4 → Nat :=
  let arg1 : BitVec 32 := BitVec.ofNat 32 (i 1).val
  let c1_i32_169 : BitVec 32 := 1#32
  let c0_i32_783 : BitVec 32 := 0#32
  let c0_i32_784 : BitVec 32 := 0#32
  ![arg1.toNat, 1, 0, 0]
def k0_off55 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c112_i32_782 : BitVec 32 := 112#32
  let v1001 : BitVec 32 := Scalar.addi v2 c112_i32_782
  let c0_i32_785 : BitVec 32 := 0#32
  ![v1001.toNat, 0]
def k0_mult17 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c128_i32_185 : BitVec 32 := 128#32
  let v266 : BitVec 32 := Scalar.addi v30 c128_i32_185
  let v1002 : BitVec 32 := Scalar.addi v1001 v266
  let v1003 : BitVec 32 := Scalar.subi v1002 v40
  v1003
def k0_cond25 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c128_i32_185 : BitVec 32 := 128#32
  let v266 : BitVec 32 := Scalar.addi v30 c128_i32_185
  let v267 : BitVec 1 := Scalar.cmpi .sge v266 v40
  let c128_i32_186 : BitVec 32 := 128#32
  let v268 : BitVec 32 := Scalar.addi v40 c128_i32_186
  let v269 : BitVec 1 := Scalar.cmpi .slt v266 v268
  let v270 : BitVec 1 := Scalar.andi v267 v269
  let v275 : BitVec 32 := Scalar.extui v270
  let c0_i32_189 : BitVec 32 := 0#32
  let v276 : BitVec 1 := Scalar.cmpi .ne v275 c0_i32_189
  v276

def k0_off56 (i : grid0.Coords) : Fin 4 → Nat :=
  let arg1 : BitVec 32 := BitVec.ofNat 32 (i 1).val
  let c2_i32_188 : BitVec 32 := 2#32
  let c0_i32_783 : BitVec 32 := 0#32
  let c0_i32_784 : BitVec 32 := 0#32
  ![arg1.toNat, 2, 0, 0]
def k0_off57 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c128_i32_185 : BitVec 32 := 128#32
  let v266 : BitVec 32 := Scalar.addi v30 c128_i32_185
  let v1002 : BitVec 32 := Scalar.addi v1001 v266
  let v1003 : BitVec 32 := Scalar.subi v1002 v40
  let v1004 : BitVec 32 := v1003
  let c0_i32_785 : BitVec 32 := 0#32
  ![v1004.toNat, 0]
def k0_mult18 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c128_i32_185 : BitVec 32 := 128#32
  let v266 : BitVec 32 := Scalar.addi v30 c128_i32_185
  let v1002 : BitVec 32 := Scalar.addi v1001 v266
  let v1003 : BitVec 32 := Scalar.subi v1002 v36
  v1003
def k0_cond26 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c128_i32_185 : BitVec 32 := 128#32
  let v266 : BitVec 32 := Scalar.addi v30 c128_i32_185
  let v271 : BitVec 1 := Scalar.cmpi .sge v266 v36
  let c256_i32_187 : BitVec 32 := 256#32
  let v272 : BitVec 32 := Scalar.addi v36 c256_i32_187
  let v273 : BitVec 1 := Scalar.cmpi .slt v266 v272
  let v274 : BitVec 1 := Scalar.andi v271 v273
  let v267 : BitVec 1 := Scalar.cmpi .sge v266 v40
  let c128_i32_186 : BitVec 32 := 128#32
  let v268 : BitVec 32 := Scalar.addi v40 c128_i32_186
  let v269 : BitVec 1 := Scalar.cmpi .slt v266 v268
  let v270 : BitVec 1 := Scalar.andi v267 v269
  let true_190 : BitVec 1 := 1#1
  let v277 : BitVec 1 := Scalar.xori v270 true_190
  let v278 : BitVec 1 := Scalar.andi v274 v277
  let v279 : BitVec 32 := Scalar.extui v278
  let c0_i32_192 : BitVec 32 := 0#32
  let v280 : BitVec 1 := Scalar.cmpi .ne v279 c0_i32_192
  v280

def k0_off58 (i : grid0.Coords) : Fin 4 → Nat :=
  let arg1 : BitVec 32 := BitVec.ofNat 32 (i 1).val
  let c2_i32_191 : BitVec 32 := 2#32
  let c0_i32_783 : BitVec 32 := 0#32
  let c0_i32_784 : BitVec 32 := 0#32
  ![arg1.toNat, 2, 0, 0]
def k0_off59 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c128_i32_185 : BitVec 32 := 128#32
  let v266 : BitVec 32 := Scalar.addi v30 c128_i32_185
  let v1002 : BitVec 32 := Scalar.addi v1001 v266
  let v1003 : BitVec 32 := Scalar.subi v1002 v36
  let v1004 : BitVec 32 := v1003
  let c0_i32_785 : BitVec 32 := 0#32
  ![v1004.toNat, 0]
def k0_off60 (i : grid0.Coords) : Fin 4 → Nat :=
  let arg1 : BitVec 32 := BitVec.ofNat 32 (i 1).val
  let c2_i32_194 : BitVec 32 := 2#32
  let c0_i32_783 : BitVec 32 := 0#32
  let c0_i32_784 : BitVec 32 := 0#32
  ![arg1.toNat, 2, 0, 0]
def k0_off61 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c128_i32_782 : BitVec 32 := 128#32
  let v1001 : BitVec 32 := Scalar.addi v2 c128_i32_782
  let c0_i32_785 : BitVec 32 := 0#32
  ![v1001.toNat, 0]
def k0_mult19 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c144_i32 : BitVec 32 := 144#32
  let v296 : BitVec 32 := Scalar.addi v30 c144_i32
  let v1002 : BitVec 32 := Scalar.addi v1001 v296
  let v1003 : BitVec 32 := Scalar.subi v1002 v40
  v1003
def k0_cond28 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c144_i32 : BitVec 32 := 144#32
  let v296 : BitVec 32 := Scalar.addi v30 c144_i32
  let v297 : BitVec 1 := Scalar.cmpi .sge v296 v40
  let c128_i32_210 : BitVec 32 := 128#32
  let v298 : BitVec 32 := Scalar.addi v40 c128_i32_210
  let v299 : BitVec 1 := Scalar.cmpi .slt v296 v298
  let v300 : BitVec 1 := Scalar.andi v297 v299
  let v305 : BitVec 32 := Scalar.extui v300
  let c0_i32_213 : BitVec 32 := 0#32
  let v306 : BitVec 1 := Scalar.cmpi .ne v305 c0_i32_213
  v306

def k0_off62 (i : grid0.Coords) : Fin 4 → Nat :=
  let arg1 : BitVec 32 := BitVec.ofNat 32 (i 1).val
  let c0_i32_212 : BitVec 32 := 0#32
  let c0_i32_783 : BitVec 32 := 0#32
  let c0_i32_784 : BitVec 32 := 0#32
  ![arg1.toNat, 0, 0, 0]
def k0_off63 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c144_i32 : BitVec 32 := 144#32
  let v296 : BitVec 32 := Scalar.addi v30 c144_i32
  let v1002 : BitVec 32 := Scalar.addi v1001 v296
  let v1003 : BitVec 32 := Scalar.subi v1002 v40
  let v1004 : BitVec 32 := v1003
  let c0_i32_785 : BitVec 32 := 0#32
  ![v1004.toNat, 0]
def k0_mult20 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c144_i32 : BitVec 32 := 144#32
  let v296 : BitVec 32 := Scalar.addi v30 c144_i32
  let v1002 : BitVec 32 := Scalar.addi v1001 v296
  let v1003 : BitVec 32 := Scalar.subi v1002 v36
  v1003
def k0_cond29 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c144_i32 : BitVec 32 := 144#32
  let v296 : BitVec 32 := Scalar.addi v30 c144_i32
  let v301 : BitVec 1 := Scalar.cmpi .sge v296 v36
  let c256_i32_211 : BitVec 32 := 256#32
  let v302 : BitVec 32 := Scalar.addi v36 c256_i32_211
  let v303 : BitVec 1 := Scalar.cmpi .slt v296 v302
  let v304 : BitVec 1 := Scalar.andi v301 v303
  let v297 : BitVec 1 := Scalar.cmpi .sge v296 v40
  let c128_i32_210 : BitVec 32 := 128#32
  let v298 : BitVec 32 := Scalar.addi v40 c128_i32_210
  let v299 : BitVec 1 := Scalar.cmpi .slt v296 v298
  let v300 : BitVec 1 := Scalar.andi v297 v299
  let true_214 : BitVec 1 := 1#1
  let v307 : BitVec 1 := Scalar.xori v300 true_214
  let v308 : BitVec 1 := Scalar.andi v304 v307
  let v309 : BitVec 32 := Scalar.extui v308
  let c0_i32_216 : BitVec 32 := 0#32
  let v310 : BitVec 1 := Scalar.cmpi .ne v309 c0_i32_216
  v310

def k0_off64 (i : grid0.Coords) : Fin 4 → Nat :=
  let arg1 : BitVec 32 := BitVec.ofNat 32 (i 1).val
  let c0_i32_215 : BitVec 32 := 0#32
  let c0_i32_783 : BitVec 32 := 0#32
  let c0_i32_784 : BitVec 32 := 0#32
  ![arg1.toNat, 0, 0, 0]
def k0_off65 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c144_i32 : BitVec 32 := 144#32
  let v296 : BitVec 32 := Scalar.addi v30 c144_i32
  let v1002 : BitVec 32 := Scalar.addi v1001 v296
  let v1003 : BitVec 32 := Scalar.subi v1002 v36
  let v1004 : BitVec 32 := v1003
  let c0_i32_785 : BitVec 32 := 0#32
  ![v1004.toNat, 0]
def k0_off66 (i : grid0.Coords) : Fin 4 → Nat :=
  let arg1 : BitVec 32 := BitVec.ofNat 32 (i 1).val
  let c0_i32_218 : BitVec 32 := 0#32
  let c0_i32_783 : BitVec 32 := 0#32
  let c0_i32_784 : BitVec 32 := 0#32
  ![arg1.toNat, 0, 0, 0]
def k0_off67 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c144_i32_782 : BitVec 32 := 144#32
  let v1001 : BitVec 32 := Scalar.addi v2 c144_i32_782
  let c0_i32_785 : BitVec 32 := 0#32
  ![v1001.toNat, 0]
def k0_mult21 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c160_i32 : BitVec 32 := 160#32
  let v326 : BitVec 32 := Scalar.addi v30 c160_i32
  let v1002 : BitVec 32 := Scalar.addi v1001 v326
  let v1003 : BitVec 32 := Scalar.subi v1002 v40
  v1003
def k0_cond31 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c160_i32 : BitVec 32 := 160#32
  let v326 : BitVec 32 := Scalar.addi v30 c160_i32
  let v327 : BitVec 1 := Scalar.cmpi .sge v326 v40
  let c128_i32_234 : BitVec 32 := 128#32
  let v328 : BitVec 32 := Scalar.addi v40 c128_i32_234
  let v329 : BitVec 1 := Scalar.cmpi .slt v326 v328
  let v330 : BitVec 1 := Scalar.andi v327 v329
  let v335 : BitVec 32 := Scalar.extui v330
  let c0_i32_237 : BitVec 32 := 0#32
  let v336 : BitVec 1 := Scalar.cmpi .ne v335 c0_i32_237
  v336

def k0_off68 (i : grid0.Coords) : Fin 4 → Nat :=
  let arg1 : BitVec 32 := BitVec.ofNat 32 (i 1).val
  let c1_i32_236 : BitVec 32 := 1#32
  let c0_i32_783 : BitVec 32 := 0#32
  let c0_i32_784 : BitVec 32 := 0#32
  ![arg1.toNat, 1, 0, 0]
def k0_off69 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c160_i32 : BitVec 32 := 160#32
  let v326 : BitVec 32 := Scalar.addi v30 c160_i32
  let v1002 : BitVec 32 := Scalar.addi v1001 v326
  let v1003 : BitVec 32 := Scalar.subi v1002 v40
  let v1004 : BitVec 32 := v1003
  let c0_i32_785 : BitVec 32 := 0#32
  ![v1004.toNat, 0]
def k0_mult22 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c160_i32 : BitVec 32 := 160#32
  let v326 : BitVec 32 := Scalar.addi v30 c160_i32
  let v1002 : BitVec 32 := Scalar.addi v1001 v326
  let v1003 : BitVec 32 := Scalar.subi v1002 v36
  v1003
def k0_cond32 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c160_i32 : BitVec 32 := 160#32
  let v326 : BitVec 32 := Scalar.addi v30 c160_i32
  let v331 : BitVec 1 := Scalar.cmpi .sge v326 v36
  let c256_i32_235 : BitVec 32 := 256#32
  let v332 : BitVec 32 := Scalar.addi v36 c256_i32_235
  let v333 : BitVec 1 := Scalar.cmpi .slt v326 v332
  let v334 : BitVec 1 := Scalar.andi v331 v333
  let v327 : BitVec 1 := Scalar.cmpi .sge v326 v40
  let c128_i32_234 : BitVec 32 := 128#32
  let v328 : BitVec 32 := Scalar.addi v40 c128_i32_234
  let v329 : BitVec 1 := Scalar.cmpi .slt v326 v328
  let v330 : BitVec 1 := Scalar.andi v327 v329
  let true_238 : BitVec 1 := 1#1
  let v337 : BitVec 1 := Scalar.xori v330 true_238
  let v338 : BitVec 1 := Scalar.andi v334 v337
  let v339 : BitVec 32 := Scalar.extui v338
  let c0_i32_240 : BitVec 32 := 0#32
  let v340 : BitVec 1 := Scalar.cmpi .ne v339 c0_i32_240
  v340

def k0_off70 (i : grid0.Coords) : Fin 4 → Nat :=
  let arg1 : BitVec 32 := BitVec.ofNat 32 (i 1).val
  let c1_i32_239 : BitVec 32 := 1#32
  let c0_i32_783 : BitVec 32 := 0#32
  let c0_i32_784 : BitVec 32 := 0#32
  ![arg1.toNat, 1, 0, 0]
def k0_off71 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c160_i32 : BitVec 32 := 160#32
  let v326 : BitVec 32 := Scalar.addi v30 c160_i32
  let v1002 : BitVec 32 := Scalar.addi v1001 v326
  let v1003 : BitVec 32 := Scalar.subi v1002 v36
  let v1004 : BitVec 32 := v1003
  let c0_i32_785 : BitVec 32 := 0#32
  ![v1004.toNat, 0]
def k0_off72 (i : grid0.Coords) : Fin 4 → Nat :=
  let arg1 : BitVec 32 := BitVec.ofNat 32 (i 1).val
  let c1_i32_242 : BitVec 32 := 1#32
  let c0_i32_783 : BitVec 32 := 0#32
  let c0_i32_784 : BitVec 32 := 0#32
  ![arg1.toNat, 1, 0, 0]
def k0_off73 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c160_i32_782 : BitVec 32 := 160#32
  let v1001 : BitVec 32 := Scalar.addi v2 c160_i32_782
  let c0_i32_785 : BitVec 32 := 0#32
  ![v1001.toNat, 0]
def k0_mult23 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c176_i32 : BitVec 32 := 176#32
  let v356 : BitVec 32 := Scalar.addi v30 c176_i32
  let v1002 : BitVec 32 := Scalar.addi v1001 v356
  let v1003 : BitVec 32 := Scalar.subi v1002 v40
  v1003
def k0_cond34 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c176_i32 : BitVec 32 := 176#32
  let v356 : BitVec 32 := Scalar.addi v30 c176_i32
  let v357 : BitVec 1 := Scalar.cmpi .sge v356 v40
  let c128_i32_258 : BitVec 32 := 128#32
  let v358 : BitVec 32 := Scalar.addi v40 c128_i32_258
  let v359 : BitVec 1 := Scalar.cmpi .slt v356 v358
  let v360 : BitVec 1 := Scalar.andi v357 v359
  let v365 : BitVec 32 := Scalar.extui v360
  let c0_i32_261 : BitVec 32 := 0#32
  let v366 : BitVec 1 := Scalar.cmpi .ne v365 c0_i32_261
  v366

def k0_off74 (i : grid0.Coords) : Fin 4 → Nat :=
  let arg1 : BitVec 32 := BitVec.ofNat 32 (i 1).val
  let c2_i32_260 : BitVec 32 := 2#32
  let c0_i32_783 : BitVec 32 := 0#32
  let c0_i32_784 : BitVec 32 := 0#32
  ![arg1.toNat, 2, 0, 0]
def k0_off75 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c176_i32 : BitVec 32 := 176#32
  let v356 : BitVec 32 := Scalar.addi v30 c176_i32
  let v1002 : BitVec 32 := Scalar.addi v1001 v356
  let v1003 : BitVec 32 := Scalar.subi v1002 v40
  let v1004 : BitVec 32 := v1003
  let c0_i32_785 : BitVec 32 := 0#32
  ![v1004.toNat, 0]
def k0_mult24 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c176_i32 : BitVec 32 := 176#32
  let v356 : BitVec 32 := Scalar.addi v30 c176_i32
  let v1002 : BitVec 32 := Scalar.addi v1001 v356
  let v1003 : BitVec 32 := Scalar.subi v1002 v36
  v1003
def k0_cond35 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c176_i32 : BitVec 32 := 176#32
  let v356 : BitVec 32 := Scalar.addi v30 c176_i32
  let v361 : BitVec 1 := Scalar.cmpi .sge v356 v36
  let c256_i32_259 : BitVec 32 := 256#32
  let v362 : BitVec 32 := Scalar.addi v36 c256_i32_259
  let v363 : BitVec 1 := Scalar.cmpi .slt v356 v362
  let v364 : BitVec 1 := Scalar.andi v361 v363
  let v357 : BitVec 1 := Scalar.cmpi .sge v356 v40
  let c128_i32_258 : BitVec 32 := 128#32
  let v358 : BitVec 32 := Scalar.addi v40 c128_i32_258
  let v359 : BitVec 1 := Scalar.cmpi .slt v356 v358
  let v360 : BitVec 1 := Scalar.andi v357 v359
  let true_262 : BitVec 1 := 1#1
  let v367 : BitVec 1 := Scalar.xori v360 true_262
  let v368 : BitVec 1 := Scalar.andi v364 v367
  let v369 : BitVec 32 := Scalar.extui v368
  let c0_i32_264 : BitVec 32 := 0#32
  let v370 : BitVec 1 := Scalar.cmpi .ne v369 c0_i32_264
  v370

def k0_off76 (i : grid0.Coords) : Fin 4 → Nat :=
  let arg1 : BitVec 32 := BitVec.ofNat 32 (i 1).val
  let c2_i32_263 : BitVec 32 := 2#32
  let c0_i32_783 : BitVec 32 := 0#32
  let c0_i32_784 : BitVec 32 := 0#32
  ![arg1.toNat, 2, 0, 0]
def k0_off77 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c176_i32 : BitVec 32 := 176#32
  let v356 : BitVec 32 := Scalar.addi v30 c176_i32
  let v1002 : BitVec 32 := Scalar.addi v1001 v356
  let v1003 : BitVec 32 := Scalar.subi v1002 v36
  let v1004 : BitVec 32 := v1003
  let c0_i32_785 : BitVec 32 := 0#32
  ![v1004.toNat, 0]
def k0_off78 (i : grid0.Coords) : Fin 4 → Nat :=
  let arg1 : BitVec 32 := BitVec.ofNat 32 (i 1).val
  let c2_i32_266 : BitVec 32 := 2#32
  let c0_i32_783 : BitVec 32 := 0#32
  let c0_i32_784 : BitVec 32 := 0#32
  ![arg1.toNat, 2, 0, 0]
def k0_off79 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c176_i32_782 : BitVec 32 := 176#32
  let v1001 : BitVec 32 := Scalar.addi v2 c176_i32_782
  let c0_i32_785 : BitVec 32 := 0#32
  ![v1001.toNat, 0]
def k0_mult25 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c192_i32 : BitVec 32 := 192#32
  let v386 : BitVec 32 := Scalar.addi v30 c192_i32
  let v1002 : BitVec 32 := Scalar.addi v1001 v386
  let v1003 : BitVec 32 := Scalar.subi v1002 v40
  v1003
def k0_cond37 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c192_i32 : BitVec 32 := 192#32
  let v386 : BitVec 32 := Scalar.addi v30 c192_i32
  let v387 : BitVec 1 := Scalar.cmpi .sge v386 v40
  let c128_i32_282 : BitVec 32 := 128#32
  let v388 : BitVec 32 := Scalar.addi v40 c128_i32_282
  let v389 : BitVec 1 := Scalar.cmpi .slt v386 v388
  let v390 : BitVec 1 := Scalar.andi v387 v389
  let v395 : BitVec 32 := Scalar.extui v390
  let c0_i32_285 : BitVec 32 := 0#32
  let v396 : BitVec 1 := Scalar.cmpi .ne v395 c0_i32_285
  v396

def k0_off80 (i : grid0.Coords) : Fin 4 → Nat :=
  let arg1 : BitVec 32 := BitVec.ofNat 32 (i 1).val
  let c0_i32_284 : BitVec 32 := 0#32
  let c0_i32_783 : BitVec 32 := 0#32
  let c0_i32_784 : BitVec 32 := 0#32
  ![arg1.toNat, 0, 0, 0]
def k0_off81 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c192_i32 : BitVec 32 := 192#32
  let v386 : BitVec 32 := Scalar.addi v30 c192_i32
  let v1002 : BitVec 32 := Scalar.addi v1001 v386
  let v1003 : BitVec 32 := Scalar.subi v1002 v40
  let v1004 : BitVec 32 := v1003
  let c0_i32_785 : BitVec 32 := 0#32
  ![v1004.toNat, 0]
def k0_mult26 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c192_i32 : BitVec 32 := 192#32
  let v386 : BitVec 32 := Scalar.addi v30 c192_i32
  let v1002 : BitVec 32 := Scalar.addi v1001 v386
  let v1003 : BitVec 32 := Scalar.subi v1002 v36
  v1003
def k0_cond38 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c192_i32 : BitVec 32 := 192#32
  let v386 : BitVec 32 := Scalar.addi v30 c192_i32
  let v391 : BitVec 1 := Scalar.cmpi .sge v386 v36
  let c256_i32_283 : BitVec 32 := 256#32
  let v392 : BitVec 32 := Scalar.addi v36 c256_i32_283
  let v393 : BitVec 1 := Scalar.cmpi .slt v386 v392
  let v394 : BitVec 1 := Scalar.andi v391 v393
  let v387 : BitVec 1 := Scalar.cmpi .sge v386 v40
  let c128_i32_282 : BitVec 32 := 128#32
  let v388 : BitVec 32 := Scalar.addi v40 c128_i32_282
  let v389 : BitVec 1 := Scalar.cmpi .slt v386 v388
  let v390 : BitVec 1 := Scalar.andi v387 v389
  let true_286 : BitVec 1 := 1#1
  let v397 : BitVec 1 := Scalar.xori v390 true_286
  let v398 : BitVec 1 := Scalar.andi v394 v397
  let v399 : BitVec 32 := Scalar.extui v398
  let c0_i32_288 : BitVec 32 := 0#32
  let v400 : BitVec 1 := Scalar.cmpi .ne v399 c0_i32_288
  v400

def k0_off82 (i : grid0.Coords) : Fin 4 → Nat :=
  let arg1 : BitVec 32 := BitVec.ofNat 32 (i 1).val
  let c0_i32_287 : BitVec 32 := 0#32
  let c0_i32_783 : BitVec 32 := 0#32
  let c0_i32_784 : BitVec 32 := 0#32
  ![arg1.toNat, 0, 0, 0]
def k0_off83 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c192_i32 : BitVec 32 := 192#32
  let v386 : BitVec 32 := Scalar.addi v30 c192_i32
  let v1002 : BitVec 32 := Scalar.addi v1001 v386
  let v1003 : BitVec 32 := Scalar.subi v1002 v36
  let v1004 : BitVec 32 := v1003
  let c0_i32_785 : BitVec 32 := 0#32
  ![v1004.toNat, 0]
def k0_off84 (i : grid0.Coords) : Fin 4 → Nat :=
  let arg1 : BitVec 32 := BitVec.ofNat 32 (i 1).val
  let c0_i32_290 : BitVec 32 := 0#32
  let c0_i32_783 : BitVec 32 := 0#32
  let c0_i32_784 : BitVec 32 := 0#32
  ![arg1.toNat, 0, 0, 0]
def k0_off85 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c192_i32_782 : BitVec 32 := 192#32
  let v1001 : BitVec 32 := Scalar.addi v2 c192_i32_782
  let c0_i32_785 : BitVec 32 := 0#32
  ![v1001.toNat, 0]
def k0_mult27 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c208_i32 : BitVec 32 := 208#32
  let v416 : BitVec 32 := Scalar.addi v30 c208_i32
  let v1002 : BitVec 32 := Scalar.addi v1001 v416
  let v1003 : BitVec 32 := Scalar.subi v1002 v40
  v1003
def k0_cond40 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c208_i32 : BitVec 32 := 208#32
  let v416 : BitVec 32 := Scalar.addi v30 c208_i32
  let v417 : BitVec 1 := Scalar.cmpi .sge v416 v40
  let c128_i32_306 : BitVec 32 := 128#32
  let v418 : BitVec 32 := Scalar.addi v40 c128_i32_306
  let v419 : BitVec 1 := Scalar.cmpi .slt v416 v418
  let v420 : BitVec 1 := Scalar.andi v417 v419
  let v425 : BitVec 32 := Scalar.extui v420
  let c0_i32_309 : BitVec 32 := 0#32
  let v426 : BitVec 1 := Scalar.cmpi .ne v425 c0_i32_309
  v426

def k0_off86 (i : grid0.Coords) : Fin 4 → Nat :=
  let arg1 : BitVec 32 := BitVec.ofNat 32 (i 1).val
  let c1_i32_308 : BitVec 32 := 1#32
  let c0_i32_783 : BitVec 32 := 0#32
  let c0_i32_784 : BitVec 32 := 0#32
  ![arg1.toNat, 1, 0, 0]
def k0_off87 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c208_i32 : BitVec 32 := 208#32
  let v416 : BitVec 32 := Scalar.addi v30 c208_i32
  let v1002 : BitVec 32 := Scalar.addi v1001 v416
  let v1003 : BitVec 32 := Scalar.subi v1002 v40
  let v1004 : BitVec 32 := v1003
  let c0_i32_785 : BitVec 32 := 0#32
  ![v1004.toNat, 0]
def k0_mult28 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c208_i32 : BitVec 32 := 208#32
  let v416 : BitVec 32 := Scalar.addi v30 c208_i32
  let v1002 : BitVec 32 := Scalar.addi v1001 v416
  let v1003 : BitVec 32 := Scalar.subi v1002 v36
  v1003
def k0_cond41 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c208_i32 : BitVec 32 := 208#32
  let v416 : BitVec 32 := Scalar.addi v30 c208_i32
  let v421 : BitVec 1 := Scalar.cmpi .sge v416 v36
  let c256_i32_307 : BitVec 32 := 256#32
  let v422 : BitVec 32 := Scalar.addi v36 c256_i32_307
  let v423 : BitVec 1 := Scalar.cmpi .slt v416 v422
  let v424 : BitVec 1 := Scalar.andi v421 v423
  let v417 : BitVec 1 := Scalar.cmpi .sge v416 v40
  let c128_i32_306 : BitVec 32 := 128#32
  let v418 : BitVec 32 := Scalar.addi v40 c128_i32_306
  let v419 : BitVec 1 := Scalar.cmpi .slt v416 v418
  let v420 : BitVec 1 := Scalar.andi v417 v419
  let true_310 : BitVec 1 := 1#1
  let v427 : BitVec 1 := Scalar.xori v420 true_310
  let v428 : BitVec 1 := Scalar.andi v424 v427
  let v429 : BitVec 32 := Scalar.extui v428
  let c0_i32_312 : BitVec 32 := 0#32
  let v430 : BitVec 1 := Scalar.cmpi .ne v429 c0_i32_312
  v430

def k0_off88 (i : grid0.Coords) : Fin 4 → Nat :=
  let arg1 : BitVec 32 := BitVec.ofNat 32 (i 1).val
  let c1_i32_311 : BitVec 32 := 1#32
  let c0_i32_783 : BitVec 32 := 0#32
  let c0_i32_784 : BitVec 32 := 0#32
  ![arg1.toNat, 1, 0, 0]
def k0_off89 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c208_i32 : BitVec 32 := 208#32
  let v416 : BitVec 32 := Scalar.addi v30 c208_i32
  let v1002 : BitVec 32 := Scalar.addi v1001 v416
  let v1003 : BitVec 32 := Scalar.subi v1002 v36
  let v1004 : BitVec 32 := v1003
  let c0_i32_785 : BitVec 32 := 0#32
  ![v1004.toNat, 0]
def k0_off90 (i : grid0.Coords) : Fin 4 → Nat :=
  let arg1 : BitVec 32 := BitVec.ofNat 32 (i 1).val
  let c1_i32_314 : BitVec 32 := 1#32
  let c0_i32_783 : BitVec 32 := 0#32
  let c0_i32_784 : BitVec 32 := 0#32
  ![arg1.toNat, 1, 0, 0]
def k0_off91 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c208_i32_782 : BitVec 32 := 208#32
  let v1001 : BitVec 32 := Scalar.addi v2 c208_i32_782
  let c0_i32_785 : BitVec 32 := 0#32
  ![v1001.toNat, 0]
def k0_mult29 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c224_i32 : BitVec 32 := 224#32
  let v446 : BitVec 32 := Scalar.addi v30 c224_i32
  let v1002 : BitVec 32 := Scalar.addi v1001 v446
  let v1003 : BitVec 32 := Scalar.subi v1002 v40
  v1003
def k0_cond43 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c224_i32 : BitVec 32 := 224#32
  let v446 : BitVec 32 := Scalar.addi v30 c224_i32
  let v447 : BitVec 1 := Scalar.cmpi .sge v446 v40
  let c128_i32_330 : BitVec 32 := 128#32
  let v448 : BitVec 32 := Scalar.addi v40 c128_i32_330
  let v449 : BitVec 1 := Scalar.cmpi .slt v446 v448
  let v450 : BitVec 1 := Scalar.andi v447 v449
  let v455 : BitVec 32 := Scalar.extui v450
  let c0_i32_333 : BitVec 32 := 0#32
  let v456 : BitVec 1 := Scalar.cmpi .ne v455 c0_i32_333
  v456

def k0_off92 (i : grid0.Coords) : Fin 4 → Nat :=
  let arg1 : BitVec 32 := BitVec.ofNat 32 (i 1).val
  let c2_i32_332 : BitVec 32 := 2#32
  let c0_i32_783 : BitVec 32 := 0#32
  let c0_i32_784 : BitVec 32 := 0#32
  ![arg1.toNat, 2, 0, 0]
def k0_off93 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c224_i32 : BitVec 32 := 224#32
  let v446 : BitVec 32 := Scalar.addi v30 c224_i32
  let v1002 : BitVec 32 := Scalar.addi v1001 v446
  let v1003 : BitVec 32 := Scalar.subi v1002 v40
  let v1004 : BitVec 32 := v1003
  let c0_i32_785 : BitVec 32 := 0#32
  ![v1004.toNat, 0]
def k0_mult30 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c224_i32 : BitVec 32 := 224#32
  let v446 : BitVec 32 := Scalar.addi v30 c224_i32
  let v1002 : BitVec 32 := Scalar.addi v1001 v446
  let v1003 : BitVec 32 := Scalar.subi v1002 v36
  v1003
def k0_cond44 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c224_i32 : BitVec 32 := 224#32
  let v446 : BitVec 32 := Scalar.addi v30 c224_i32
  let v451 : BitVec 1 := Scalar.cmpi .sge v446 v36
  let c256_i32_331 : BitVec 32 := 256#32
  let v452 : BitVec 32 := Scalar.addi v36 c256_i32_331
  let v453 : BitVec 1 := Scalar.cmpi .slt v446 v452
  let v454 : BitVec 1 := Scalar.andi v451 v453
  let v447 : BitVec 1 := Scalar.cmpi .sge v446 v40
  let c128_i32_330 : BitVec 32 := 128#32
  let v448 : BitVec 32 := Scalar.addi v40 c128_i32_330
  let v449 : BitVec 1 := Scalar.cmpi .slt v446 v448
  let v450 : BitVec 1 := Scalar.andi v447 v449
  let true_334 : BitVec 1 := 1#1
  let v457 : BitVec 1 := Scalar.xori v450 true_334
  let v458 : BitVec 1 := Scalar.andi v454 v457
  let v459 : BitVec 32 := Scalar.extui v458
  let c0_i32_336 : BitVec 32 := 0#32
  let v460 : BitVec 1 := Scalar.cmpi .ne v459 c0_i32_336
  v460

def k0_off94 (i : grid0.Coords) : Fin 4 → Nat :=
  let arg1 : BitVec 32 := BitVec.ofNat 32 (i 1).val
  let c2_i32_335 : BitVec 32 := 2#32
  let c0_i32_783 : BitVec 32 := 0#32
  let c0_i32_784 : BitVec 32 := 0#32
  ![arg1.toNat, 2, 0, 0]
def k0_off95 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c224_i32 : BitVec 32 := 224#32
  let v446 : BitVec 32 := Scalar.addi v30 c224_i32
  let v1002 : BitVec 32 := Scalar.addi v1001 v446
  let v1003 : BitVec 32 := Scalar.subi v1002 v36
  let v1004 : BitVec 32 := v1003
  let c0_i32_785 : BitVec 32 := 0#32
  ![v1004.toNat, 0]
def k0_off96 (i : grid0.Coords) : Fin 4 → Nat :=
  let arg1 : BitVec 32 := BitVec.ofNat 32 (i 1).val
  let c2_i32_338 : BitVec 32 := 2#32
  let c0_i32_783 : BitVec 32 := 0#32
  let c0_i32_784 : BitVec 32 := 0#32
  ![arg1.toNat, 2, 0, 0]
def k0_off97 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c224_i32_782 : BitVec 32 := 224#32
  let v1001 : BitVec 32 := Scalar.addi v2 c224_i32_782
  let c0_i32_785 : BitVec 32 := 0#32
  ![v1001.toNat, 0]
def k0_mult31 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c240_i32 : BitVec 32 := 240#32
  let v476 : BitVec 32 := Scalar.addi v30 c240_i32
  let v1002 : BitVec 32 := Scalar.addi v1001 v476
  let v1003 : BitVec 32 := Scalar.subi v1002 v40
  v1003
def k0_cond46 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c240_i32 : BitVec 32 := 240#32
  let v476 : BitVec 32 := Scalar.addi v30 c240_i32
  let v477 : BitVec 1 := Scalar.cmpi .sge v476 v40
  let c128_i32_354 : BitVec 32 := 128#32
  let v478 : BitVec 32 := Scalar.addi v40 c128_i32_354
  let v479 : BitVec 1 := Scalar.cmpi .slt v476 v478
  let v480 : BitVec 1 := Scalar.andi v477 v479
  let v485 : BitVec 32 := Scalar.extui v480
  let c0_i32_357 : BitVec 32 := 0#32
  let v486 : BitVec 1 := Scalar.cmpi .ne v485 c0_i32_357
  v486

def k0_off98 (i : grid0.Coords) : Fin 4 → Nat :=
  let arg1 : BitVec 32 := BitVec.ofNat 32 (i 1).val
  let c0_i32_356 : BitVec 32 := 0#32
  let c0_i32_783 : BitVec 32 := 0#32
  let c0_i32_784 : BitVec 32 := 0#32
  ![arg1.toNat, 0, 0, 0]
def k0_off99 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c240_i32 : BitVec 32 := 240#32
  let v476 : BitVec 32 := Scalar.addi v30 c240_i32
  let v1002 : BitVec 32 := Scalar.addi v1001 v476
  let v1003 : BitVec 32 := Scalar.subi v1002 v40
  let v1004 : BitVec 32 := v1003
  let c0_i32_785 : BitVec 32 := 0#32
  ![v1004.toNat, 0]
def k0_mult32 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c240_i32 : BitVec 32 := 240#32
  let v476 : BitVec 32 := Scalar.addi v30 c240_i32
  let v1002 : BitVec 32 := Scalar.addi v1001 v476
  let v1003 : BitVec 32 := Scalar.subi v1002 v36
  v1003
def k0_cond47 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c240_i32 : BitVec 32 := 240#32
  let v476 : BitVec 32 := Scalar.addi v30 c240_i32
  let v481 : BitVec 1 := Scalar.cmpi .sge v476 v36
  let c256_i32_355 : BitVec 32 := 256#32
  let v482 : BitVec 32 := Scalar.addi v36 c256_i32_355
  let v483 : BitVec 1 := Scalar.cmpi .slt v476 v482
  let v484 : BitVec 1 := Scalar.andi v481 v483
  let v477 : BitVec 1 := Scalar.cmpi .sge v476 v40
  let c128_i32_354 : BitVec 32 := 128#32
  let v478 : BitVec 32 := Scalar.addi v40 c128_i32_354
  let v479 : BitVec 1 := Scalar.cmpi .slt v476 v478
  let v480 : BitVec 1 := Scalar.andi v477 v479
  let true_358 : BitVec 1 := 1#1
  let v487 : BitVec 1 := Scalar.xori v480 true_358
  let v488 : BitVec 1 := Scalar.andi v484 v487
  let v489 : BitVec 32 := Scalar.extui v488
  let c0_i32_360 : BitVec 32 := 0#32
  let v490 : BitVec 1 := Scalar.cmpi .ne v489 c0_i32_360
  v490

def k0_off100 (i : grid0.Coords) : Fin 4 → Nat :=
  let arg1 : BitVec 32 := BitVec.ofNat 32 (i 1).val
  let c0_i32_359 : BitVec 32 := 0#32
  let c0_i32_783 : BitVec 32 := 0#32
  let c0_i32_784 : BitVec 32 := 0#32
  ![arg1.toNat, 0, 0, 0]
def k0_off101 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c240_i32 : BitVec 32 := 240#32
  let v476 : BitVec 32 := Scalar.addi v30 c240_i32
  let v1002 : BitVec 32 := Scalar.addi v1001 v476
  let v1003 : BitVec 32 := Scalar.subi v1002 v36
  let v1004 : BitVec 32 := v1003
  let c0_i32_785 : BitVec 32 := 0#32
  ![v1004.toNat, 0]
def k0_off102 (i : grid0.Coords) : Fin 4 → Nat :=
  let arg1 : BitVec 32 := BitVec.ofNat 32 (i 1).val
  let c0_i32_362 : BitVec 32 := 0#32
  let c0_i32_783 : BitVec 32 := 0#32
  let c0_i32_784 : BitVec 32 := 0#32
  ![arg1.toNat, 0, 0, 0]
def k0_off103 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c240_i32_782 : BitVec 32 := 240#32
  let v1001 : BitVec 32 := Scalar.addi v2 c240_i32_782
  let c0_i32_785 : BitVec 32 := 0#32
  ![v1001.toNat, 0]
def k0_mult33 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c256_i32_378 : BitVec 32 := 256#32
  let v506 : BitVec 32 := Scalar.addi v30 c256_i32_378
  let v1002 : BitVec 32 := Scalar.addi v1001 v506
  let v1003 : BitVec 32 := Scalar.subi v1002 v40
  v1003
def k0_cond49 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c256_i32_378 : BitVec 32 := 256#32
  let v506 : BitVec 32 := Scalar.addi v30 c256_i32_378
  let v507 : BitVec 1 := Scalar.cmpi .sge v506 v40
  let c128_i32_379 : BitVec 32 := 128#32
  let v508 : BitVec 32 := Scalar.addi v40 c128_i32_379
  let v509 : BitVec 1 := Scalar.cmpi .slt v506 v508
  let v510 : BitVec 1 := Scalar.andi v507 v509
  let v515 : BitVec 32 := Scalar.extui v510
  let c0_i32_382 : BitVec 32 := 0#32
  let v516 : BitVec 1 := Scalar.cmpi .ne v515 c0_i32_382
  v516

def k0_off104 (i : grid0.Coords) : Fin 4 → Nat :=
  let arg1 : BitVec 32 := BitVec.ofNat 32 (i 1).val
  let c1_i32_381 : BitVec 32 := 1#32
  let c0_i32_783 : BitVec 32 := 0#32
  let c0_i32_784 : BitVec 32 := 0#32
  ![arg1.toNat, 1, 0, 0]
def k0_off105 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c256_i32_378 : BitVec 32 := 256#32
  let v506 : BitVec 32 := Scalar.addi v30 c256_i32_378
  let v1002 : BitVec 32 := Scalar.addi v1001 v506
  let v1003 : BitVec 32 := Scalar.subi v1002 v40
  let v1004 : BitVec 32 := v1003
  let c0_i32_785 : BitVec 32 := 0#32
  ![v1004.toNat, 0]
def k0_mult34 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c256_i32_378 : BitVec 32 := 256#32
  let v506 : BitVec 32 := Scalar.addi v30 c256_i32_378
  let v1002 : BitVec 32 := Scalar.addi v1001 v506
  let v1003 : BitVec 32 := Scalar.subi v1002 v36
  v1003
def k0_cond50 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c256_i32_378 : BitVec 32 := 256#32
  let v506 : BitVec 32 := Scalar.addi v30 c256_i32_378
  let v511 : BitVec 1 := Scalar.cmpi .sge v506 v36
  let c256_i32_380 : BitVec 32 := 256#32
  let v512 : BitVec 32 := Scalar.addi v36 c256_i32_380
  let v513 : BitVec 1 := Scalar.cmpi .slt v506 v512
  let v514 : BitVec 1 := Scalar.andi v511 v513
  let v507 : BitVec 1 := Scalar.cmpi .sge v506 v40
  let c128_i32_379 : BitVec 32 := 128#32
  let v508 : BitVec 32 := Scalar.addi v40 c128_i32_379
  let v509 : BitVec 1 := Scalar.cmpi .slt v506 v508
  let v510 : BitVec 1 := Scalar.andi v507 v509
  let true_383 : BitVec 1 := 1#1
  let v517 : BitVec 1 := Scalar.xori v510 true_383
  let v518 : BitVec 1 := Scalar.andi v514 v517
  let v519 : BitVec 32 := Scalar.extui v518
  let c0_i32_385 : BitVec 32 := 0#32
  let v520 : BitVec 1 := Scalar.cmpi .ne v519 c0_i32_385
  v520

def k0_off106 (i : grid0.Coords) : Fin 4 → Nat :=
  let arg1 : BitVec 32 := BitVec.ofNat 32 (i 1).val
  let c1_i32_384 : BitVec 32 := 1#32
  let c0_i32_783 : BitVec 32 := 0#32
  let c0_i32_784 : BitVec 32 := 0#32
  ![arg1.toNat, 1, 0, 0]
def k0_off107 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c256_i32_378 : BitVec 32 := 256#32
  let v506 : BitVec 32 := Scalar.addi v30 c256_i32_378
  let v1002 : BitVec 32 := Scalar.addi v1001 v506
  let v1003 : BitVec 32 := Scalar.subi v1002 v36
  let v1004 : BitVec 32 := v1003
  let c0_i32_785 : BitVec 32 := 0#32
  ![v1004.toNat, 0]
def k0_off108 (i : grid0.Coords) : Fin 4 → Nat :=
  let arg1 : BitVec 32 := BitVec.ofNat 32 (i 1).val
  let c1_i32_387 : BitVec 32 := 1#32
  let c0_i32_783 : BitVec 32 := 0#32
  let c0_i32_784 : BitVec 32 := 0#32
  ![arg1.toNat, 1, 0, 0]
def k0_off109 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_782 : BitVec 32 := 256#32
  let v1001 : BitVec 32 := Scalar.addi v2 c256_i32_782
  let c0_i32_785 : BitVec 32 := 0#32
  ![v1001.toNat, 0]
def k0_mult35 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c272_i32 : BitVec 32 := 272#32
  let v536 : BitVec 32 := Scalar.addi v30 c272_i32
  let v1002 : BitVec 32 := Scalar.addi v1001 v536
  let v1003 : BitVec 32 := Scalar.subi v1002 v40
  v1003
def k0_cond52 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c272_i32 : BitVec 32 := 272#32
  let v536 : BitVec 32 := Scalar.addi v30 c272_i32
  let v537 : BitVec 1 := Scalar.cmpi .sge v536 v40
  let c128_i32_403 : BitVec 32 := 128#32
  let v538 : BitVec 32 := Scalar.addi v40 c128_i32_403
  let v539 : BitVec 1 := Scalar.cmpi .slt v536 v538
  let v540 : BitVec 1 := Scalar.andi v537 v539
  let v545 : BitVec 32 := Scalar.extui v540
  let c0_i32_406 : BitVec 32 := 0#32
  let v546 : BitVec 1 := Scalar.cmpi .ne v545 c0_i32_406
  v546

def k0_off110 (i : grid0.Coords) : Fin 4 → Nat :=
  let arg1 : BitVec 32 := BitVec.ofNat 32 (i 1).val
  let c2_i32_405 : BitVec 32 := 2#32
  let c0_i32_783 : BitVec 32 := 0#32
  let c0_i32_784 : BitVec 32 := 0#32
  ![arg1.toNat, 2, 0, 0]
def k0_off111 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c272_i32 : BitVec 32 := 272#32
  let v536 : BitVec 32 := Scalar.addi v30 c272_i32
  let v1002 : BitVec 32 := Scalar.addi v1001 v536
  let v1003 : BitVec 32 := Scalar.subi v1002 v40
  let v1004 : BitVec 32 := v1003
  let c0_i32_785 : BitVec 32 := 0#32
  ![v1004.toNat, 0]
def k0_mult36 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c272_i32 : BitVec 32 := 272#32
  let v536 : BitVec 32 := Scalar.addi v30 c272_i32
  let v1002 : BitVec 32 := Scalar.addi v1001 v536
  let v1003 : BitVec 32 := Scalar.subi v1002 v36
  v1003
def k0_cond53 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c272_i32 : BitVec 32 := 272#32
  let v536 : BitVec 32 := Scalar.addi v30 c272_i32
  let v541 : BitVec 1 := Scalar.cmpi .sge v536 v36
  let c256_i32_404 : BitVec 32 := 256#32
  let v542 : BitVec 32 := Scalar.addi v36 c256_i32_404
  let v543 : BitVec 1 := Scalar.cmpi .slt v536 v542
  let v544 : BitVec 1 := Scalar.andi v541 v543
  let v537 : BitVec 1 := Scalar.cmpi .sge v536 v40
  let c128_i32_403 : BitVec 32 := 128#32
  let v538 : BitVec 32 := Scalar.addi v40 c128_i32_403
  let v539 : BitVec 1 := Scalar.cmpi .slt v536 v538
  let v540 : BitVec 1 := Scalar.andi v537 v539
  let true_407 : BitVec 1 := 1#1
  let v547 : BitVec 1 := Scalar.xori v540 true_407
  let v548 : BitVec 1 := Scalar.andi v544 v547
  let v549 : BitVec 32 := Scalar.extui v548
  let c0_i32_409 : BitVec 32 := 0#32
  let v550 : BitVec 1 := Scalar.cmpi .ne v549 c0_i32_409
  v550

def k0_off112 (i : grid0.Coords) : Fin 4 → Nat :=
  let arg1 : BitVec 32 := BitVec.ofNat 32 (i 1).val
  let c2_i32_408 : BitVec 32 := 2#32
  let c0_i32_783 : BitVec 32 := 0#32
  let c0_i32_784 : BitVec 32 := 0#32
  ![arg1.toNat, 2, 0, 0]
def k0_off113 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c272_i32 : BitVec 32 := 272#32
  let v536 : BitVec 32 := Scalar.addi v30 c272_i32
  let v1002 : BitVec 32 := Scalar.addi v1001 v536
  let v1003 : BitVec 32 := Scalar.subi v1002 v36
  let v1004 : BitVec 32 := v1003
  let c0_i32_785 : BitVec 32 := 0#32
  ![v1004.toNat, 0]
def k0_off114 (i : grid0.Coords) : Fin 4 → Nat :=
  let arg1 : BitVec 32 := BitVec.ofNat 32 (i 1).val
  let c2_i32_411 : BitVec 32 := 2#32
  let c0_i32_783 : BitVec 32 := 0#32
  let c0_i32_784 : BitVec 32 := 0#32
  ![arg1.toNat, 2, 0, 0]
def k0_off115 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c272_i32_782 : BitVec 32 := 272#32
  let v1001 : BitVec 32 := Scalar.addi v2 c272_i32_782
  let c0_i32_785 : BitVec 32 := 0#32
  ![v1001.toNat, 0]
def k0_mult37 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c288_i32 : BitVec 32 := 288#32
  let v566 : BitVec 32 := Scalar.addi v30 c288_i32
  let v1002 : BitVec 32 := Scalar.addi v1001 v566
  let v1003 : BitVec 32 := Scalar.subi v1002 v40
  v1003
def k0_cond55 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c288_i32 : BitVec 32 := 288#32
  let v566 : BitVec 32 := Scalar.addi v30 c288_i32
  let v567 : BitVec 1 := Scalar.cmpi .sge v566 v40
  let c128_i32_427 : BitVec 32 := 128#32
  let v568 : BitVec 32 := Scalar.addi v40 c128_i32_427
  let v569 : BitVec 1 := Scalar.cmpi .slt v566 v568
  let v570 : BitVec 1 := Scalar.andi v567 v569
  let v575 : BitVec 32 := Scalar.extui v570
  let c0_i32_430 : BitVec 32 := 0#32
  let v576 : BitVec 1 := Scalar.cmpi .ne v575 c0_i32_430
  v576

def k0_off116 (i : grid0.Coords) : Fin 4 → Nat :=
  let arg1 : BitVec 32 := BitVec.ofNat 32 (i 1).val
  let c0_i32_429 : BitVec 32 := 0#32
  let c0_i32_783 : BitVec 32 := 0#32
  let c0_i32_784 : BitVec 32 := 0#32
  ![arg1.toNat, 0, 0, 0]
def k0_off117 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c288_i32 : BitVec 32 := 288#32
  let v566 : BitVec 32 := Scalar.addi v30 c288_i32
  let v1002 : BitVec 32 := Scalar.addi v1001 v566
  let v1003 : BitVec 32 := Scalar.subi v1002 v40
  let v1004 : BitVec 32 := v1003
  let c0_i32_785 : BitVec 32 := 0#32
  ![v1004.toNat, 0]
def k0_mult38 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c288_i32 : BitVec 32 := 288#32
  let v566 : BitVec 32 := Scalar.addi v30 c288_i32
  let v1002 : BitVec 32 := Scalar.addi v1001 v566
  let v1003 : BitVec 32 := Scalar.subi v1002 v36
  v1003
def k0_cond56 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c288_i32 : BitVec 32 := 288#32
  let v566 : BitVec 32 := Scalar.addi v30 c288_i32
  let v571 : BitVec 1 := Scalar.cmpi .sge v566 v36
  let c256_i32_428 : BitVec 32 := 256#32
  let v572 : BitVec 32 := Scalar.addi v36 c256_i32_428
  let v573 : BitVec 1 := Scalar.cmpi .slt v566 v572
  let v574 : BitVec 1 := Scalar.andi v571 v573
  let v567 : BitVec 1 := Scalar.cmpi .sge v566 v40
  let c128_i32_427 : BitVec 32 := 128#32
  let v568 : BitVec 32 := Scalar.addi v40 c128_i32_427
  let v569 : BitVec 1 := Scalar.cmpi .slt v566 v568
  let v570 : BitVec 1 := Scalar.andi v567 v569
  let true_431 : BitVec 1 := 1#1
  let v577 : BitVec 1 := Scalar.xori v570 true_431
  let v578 : BitVec 1 := Scalar.andi v574 v577
  let v579 : BitVec 32 := Scalar.extui v578
  let c0_i32_433 : BitVec 32 := 0#32
  let v580 : BitVec 1 := Scalar.cmpi .ne v579 c0_i32_433
  v580

def k0_off118 (i : grid0.Coords) : Fin 4 → Nat :=
  let arg1 : BitVec 32 := BitVec.ofNat 32 (i 1).val
  let c0_i32_432 : BitVec 32 := 0#32
  let c0_i32_783 : BitVec 32 := 0#32
  let c0_i32_784 : BitVec 32 := 0#32
  ![arg1.toNat, 0, 0, 0]
def k0_off119 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c288_i32 : BitVec 32 := 288#32
  let v566 : BitVec 32 := Scalar.addi v30 c288_i32
  let v1002 : BitVec 32 := Scalar.addi v1001 v566
  let v1003 : BitVec 32 := Scalar.subi v1002 v36
  let v1004 : BitVec 32 := v1003
  let c0_i32_785 : BitVec 32 := 0#32
  ![v1004.toNat, 0]
def k0_off120 (i : grid0.Coords) : Fin 4 → Nat :=
  let arg1 : BitVec 32 := BitVec.ofNat 32 (i 1).val
  let c0_i32_435 : BitVec 32 := 0#32
  let c0_i32_783 : BitVec 32 := 0#32
  let c0_i32_784 : BitVec 32 := 0#32
  ![arg1.toNat, 0, 0, 0]
def k0_off121 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c288_i32_782 : BitVec 32 := 288#32
  let v1001 : BitVec 32 := Scalar.addi v2 c288_i32_782
  let c0_i32_785 : BitVec 32 := 0#32
  ![v1001.toNat, 0]
def k0_mult39 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c304_i32 : BitVec 32 := 304#32
  let v596 : BitVec 32 := Scalar.addi v30 c304_i32
  let v1002 : BitVec 32 := Scalar.addi v1001 v596
  let v1003 : BitVec 32 := Scalar.subi v1002 v40
  v1003
def k0_cond58 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c304_i32 : BitVec 32 := 304#32
  let v596 : BitVec 32 := Scalar.addi v30 c304_i32
  let v597 : BitVec 1 := Scalar.cmpi .sge v596 v40
  let c128_i32_451 : BitVec 32 := 128#32
  let v598 : BitVec 32 := Scalar.addi v40 c128_i32_451
  let v599 : BitVec 1 := Scalar.cmpi .slt v596 v598
  let v600 : BitVec 1 := Scalar.andi v597 v599
  let v605 : BitVec 32 := Scalar.extui v600
  let c0_i32_454 : BitVec 32 := 0#32
  let v606 : BitVec 1 := Scalar.cmpi .ne v605 c0_i32_454
  v606

def k0_off122 (i : grid0.Coords) : Fin 4 → Nat :=
  let arg1 : BitVec 32 := BitVec.ofNat 32 (i 1).val
  let c1_i32_453 : BitVec 32 := 1#32
  let c0_i32_783 : BitVec 32 := 0#32
  let c0_i32_784 : BitVec 32 := 0#32
  ![arg1.toNat, 1, 0, 0]
def k0_off123 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c304_i32 : BitVec 32 := 304#32
  let v596 : BitVec 32 := Scalar.addi v30 c304_i32
  let v1002 : BitVec 32 := Scalar.addi v1001 v596
  let v1003 : BitVec 32 := Scalar.subi v1002 v40
  let v1004 : BitVec 32 := v1003
  let c0_i32_785 : BitVec 32 := 0#32
  ![v1004.toNat, 0]
def k0_mult40 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c304_i32 : BitVec 32 := 304#32
  let v596 : BitVec 32 := Scalar.addi v30 c304_i32
  let v1002 : BitVec 32 := Scalar.addi v1001 v596
  let v1003 : BitVec 32 := Scalar.subi v1002 v36
  v1003
def k0_cond59 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c304_i32 : BitVec 32 := 304#32
  let v596 : BitVec 32 := Scalar.addi v30 c304_i32
  let v601 : BitVec 1 := Scalar.cmpi .sge v596 v36
  let c256_i32_452 : BitVec 32 := 256#32
  let v602 : BitVec 32 := Scalar.addi v36 c256_i32_452
  let v603 : BitVec 1 := Scalar.cmpi .slt v596 v602
  let v604 : BitVec 1 := Scalar.andi v601 v603
  let v597 : BitVec 1 := Scalar.cmpi .sge v596 v40
  let c128_i32_451 : BitVec 32 := 128#32
  let v598 : BitVec 32 := Scalar.addi v40 c128_i32_451
  let v599 : BitVec 1 := Scalar.cmpi .slt v596 v598
  let v600 : BitVec 1 := Scalar.andi v597 v599
  let true_455 : BitVec 1 := 1#1
  let v607 : BitVec 1 := Scalar.xori v600 true_455
  let v608 : BitVec 1 := Scalar.andi v604 v607
  let v609 : BitVec 32 := Scalar.extui v608
  let c0_i32_457 : BitVec 32 := 0#32
  let v610 : BitVec 1 := Scalar.cmpi .ne v609 c0_i32_457
  v610

def k0_off124 (i : grid0.Coords) : Fin 4 → Nat :=
  let arg1 : BitVec 32 := BitVec.ofNat 32 (i 1).val
  let c1_i32_456 : BitVec 32 := 1#32
  let c0_i32_783 : BitVec 32 := 0#32
  let c0_i32_784 : BitVec 32 := 0#32
  ![arg1.toNat, 1, 0, 0]
def k0_off125 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c304_i32 : BitVec 32 := 304#32
  let v596 : BitVec 32 := Scalar.addi v30 c304_i32
  let v1002 : BitVec 32 := Scalar.addi v1001 v596
  let v1003 : BitVec 32 := Scalar.subi v1002 v36
  let v1004 : BitVec 32 := v1003
  let c0_i32_785 : BitVec 32 := 0#32
  ![v1004.toNat, 0]
def k0_off126 (i : grid0.Coords) : Fin 4 → Nat :=
  let arg1 : BitVec 32 := BitVec.ofNat 32 (i 1).val
  let c1_i32_459 : BitVec 32 := 1#32
  let c0_i32_783 : BitVec 32 := 0#32
  let c0_i32_784 : BitVec 32 := 0#32
  ![arg1.toNat, 1, 0, 0]
def k0_off127 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c304_i32_782 : BitVec 32 := 304#32
  let v1001 : BitVec 32 := Scalar.addi v2 c304_i32_782
  let c0_i32_785 : BitVec 32 := 0#32
  ![v1001.toNat, 0]
def k0_mult41 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c320_i32 : BitVec 32 := 320#32
  let v626 : BitVec 32 := Scalar.addi v30 c320_i32
  let v1002 : BitVec 32 := Scalar.addi v1001 v626
  let v1003 : BitVec 32 := Scalar.subi v1002 v40
  v1003
def k0_cond61 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c320_i32 : BitVec 32 := 320#32
  let v626 : BitVec 32 := Scalar.addi v30 c320_i32
  let v627 : BitVec 1 := Scalar.cmpi .sge v626 v40
  let c128_i32_475 : BitVec 32 := 128#32
  let v628 : BitVec 32 := Scalar.addi v40 c128_i32_475
  let v629 : BitVec 1 := Scalar.cmpi .slt v626 v628
  let v630 : BitVec 1 := Scalar.andi v627 v629
  let v635 : BitVec 32 := Scalar.extui v630
  let c0_i32_478 : BitVec 32 := 0#32
  let v636 : BitVec 1 := Scalar.cmpi .ne v635 c0_i32_478
  v636

def k0_off128 (i : grid0.Coords) : Fin 4 → Nat :=
  let arg1 : BitVec 32 := BitVec.ofNat 32 (i 1).val
  let c2_i32_477 : BitVec 32 := 2#32
  let c0_i32_783 : BitVec 32 := 0#32
  let c0_i32_784 : BitVec 32 := 0#32
  ![arg1.toNat, 2, 0, 0]
def k0_off129 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c320_i32 : BitVec 32 := 320#32
  let v626 : BitVec 32 := Scalar.addi v30 c320_i32
  let v1002 : BitVec 32 := Scalar.addi v1001 v626
  let v1003 : BitVec 32 := Scalar.subi v1002 v40
  let v1004 : BitVec 32 := v1003
  let c0_i32_785 : BitVec 32 := 0#32
  ![v1004.toNat, 0]
def k0_mult42 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c320_i32 : BitVec 32 := 320#32
  let v626 : BitVec 32 := Scalar.addi v30 c320_i32
  let v1002 : BitVec 32 := Scalar.addi v1001 v626
  let v1003 : BitVec 32 := Scalar.subi v1002 v36
  v1003
def k0_cond62 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c320_i32 : BitVec 32 := 320#32
  let v626 : BitVec 32 := Scalar.addi v30 c320_i32
  let v631 : BitVec 1 := Scalar.cmpi .sge v626 v36
  let c256_i32_476 : BitVec 32 := 256#32
  let v632 : BitVec 32 := Scalar.addi v36 c256_i32_476
  let v633 : BitVec 1 := Scalar.cmpi .slt v626 v632
  let v634 : BitVec 1 := Scalar.andi v631 v633
  let v627 : BitVec 1 := Scalar.cmpi .sge v626 v40
  let c128_i32_475 : BitVec 32 := 128#32
  let v628 : BitVec 32 := Scalar.addi v40 c128_i32_475
  let v629 : BitVec 1 := Scalar.cmpi .slt v626 v628
  let v630 : BitVec 1 := Scalar.andi v627 v629
  let true_479 : BitVec 1 := 1#1
  let v637 : BitVec 1 := Scalar.xori v630 true_479
  let v638 : BitVec 1 := Scalar.andi v634 v637
  let v639 : BitVec 32 := Scalar.extui v638
  let c0_i32_481 : BitVec 32 := 0#32
  let v640 : BitVec 1 := Scalar.cmpi .ne v639 c0_i32_481
  v640

def k0_off130 (i : grid0.Coords) : Fin 4 → Nat :=
  let arg1 : BitVec 32 := BitVec.ofNat 32 (i 1).val
  let c2_i32_480 : BitVec 32 := 2#32
  let c0_i32_783 : BitVec 32 := 0#32
  let c0_i32_784 : BitVec 32 := 0#32
  ![arg1.toNat, 2, 0, 0]
def k0_off131 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c320_i32 : BitVec 32 := 320#32
  let v626 : BitVec 32 := Scalar.addi v30 c320_i32
  let v1002 : BitVec 32 := Scalar.addi v1001 v626
  let v1003 : BitVec 32 := Scalar.subi v1002 v36
  let v1004 : BitVec 32 := v1003
  let c0_i32_785 : BitVec 32 := 0#32
  ![v1004.toNat, 0]
def k0_off132 (i : grid0.Coords) : Fin 4 → Nat :=
  let arg1 : BitVec 32 := BitVec.ofNat 32 (i 1).val
  let c2_i32_483 : BitVec 32 := 2#32
  let c0_i32_783 : BitVec 32 := 0#32
  let c0_i32_784 : BitVec 32 := 0#32
  ![arg1.toNat, 2, 0, 0]
def k0_off133 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c320_i32_782 : BitVec 32 := 320#32
  let v1001 : BitVec 32 := Scalar.addi v2 c320_i32_782
  let c0_i32_785 : BitVec 32 := 0#32
  ![v1001.toNat, 0]
def k0_mult43 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c336_i32 : BitVec 32 := 336#32
  let v656 : BitVec 32 := Scalar.addi v30 c336_i32
  let v1002 : BitVec 32 := Scalar.addi v1001 v656
  let v1003 : BitVec 32 := Scalar.subi v1002 v40
  v1003
def k0_cond64 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c336_i32 : BitVec 32 := 336#32
  let v656 : BitVec 32 := Scalar.addi v30 c336_i32
  let v657 : BitVec 1 := Scalar.cmpi .sge v656 v40
  let c128_i32_499 : BitVec 32 := 128#32
  let v658 : BitVec 32 := Scalar.addi v40 c128_i32_499
  let v659 : BitVec 1 := Scalar.cmpi .slt v656 v658
  let v660 : BitVec 1 := Scalar.andi v657 v659
  let v665 : BitVec 32 := Scalar.extui v660
  let c0_i32_502 : BitVec 32 := 0#32
  let v666 : BitVec 1 := Scalar.cmpi .ne v665 c0_i32_502
  v666

def k0_off134 (i : grid0.Coords) : Fin 4 → Nat :=
  let arg1 : BitVec 32 := BitVec.ofNat 32 (i 1).val
  let c0_i32_501 : BitVec 32 := 0#32
  let c0_i32_783 : BitVec 32 := 0#32
  let c0_i32_784 : BitVec 32 := 0#32
  ![arg1.toNat, 0, 0, 0]
def k0_off135 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c336_i32 : BitVec 32 := 336#32
  let v656 : BitVec 32 := Scalar.addi v30 c336_i32
  let v1002 : BitVec 32 := Scalar.addi v1001 v656
  let v1003 : BitVec 32 := Scalar.subi v1002 v40
  let v1004 : BitVec 32 := v1003
  let c0_i32_785 : BitVec 32 := 0#32
  ![v1004.toNat, 0]
def k0_mult44 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c336_i32 : BitVec 32 := 336#32
  let v656 : BitVec 32 := Scalar.addi v30 c336_i32
  let v1002 : BitVec 32 := Scalar.addi v1001 v656
  let v1003 : BitVec 32 := Scalar.subi v1002 v36
  v1003
def k0_cond65 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c336_i32 : BitVec 32 := 336#32
  let v656 : BitVec 32 := Scalar.addi v30 c336_i32
  let v661 : BitVec 1 := Scalar.cmpi .sge v656 v36
  let c256_i32_500 : BitVec 32 := 256#32
  let v662 : BitVec 32 := Scalar.addi v36 c256_i32_500
  let v663 : BitVec 1 := Scalar.cmpi .slt v656 v662
  let v664 : BitVec 1 := Scalar.andi v661 v663
  let v657 : BitVec 1 := Scalar.cmpi .sge v656 v40
  let c128_i32_499 : BitVec 32 := 128#32
  let v658 : BitVec 32 := Scalar.addi v40 c128_i32_499
  let v659 : BitVec 1 := Scalar.cmpi .slt v656 v658
  let v660 : BitVec 1 := Scalar.andi v657 v659
  let true_503 : BitVec 1 := 1#1
  let v667 : BitVec 1 := Scalar.xori v660 true_503
  let v668 : BitVec 1 := Scalar.andi v664 v667
  let v669 : BitVec 32 := Scalar.extui v668
  let c0_i32_505 : BitVec 32 := 0#32
  let v670 : BitVec 1 := Scalar.cmpi .ne v669 c0_i32_505
  v670

def k0_off136 (i : grid0.Coords) : Fin 4 → Nat :=
  let arg1 : BitVec 32 := BitVec.ofNat 32 (i 1).val
  let c0_i32_504 : BitVec 32 := 0#32
  let c0_i32_783 : BitVec 32 := 0#32
  let c0_i32_784 : BitVec 32 := 0#32
  ![arg1.toNat, 0, 0, 0]
def k0_off137 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c336_i32 : BitVec 32 := 336#32
  let v656 : BitVec 32 := Scalar.addi v30 c336_i32
  let v1002 : BitVec 32 := Scalar.addi v1001 v656
  let v1003 : BitVec 32 := Scalar.subi v1002 v36
  let v1004 : BitVec 32 := v1003
  let c0_i32_785 : BitVec 32 := 0#32
  ![v1004.toNat, 0]
def k0_off138 (i : grid0.Coords) : Fin 4 → Nat :=
  let arg1 : BitVec 32 := BitVec.ofNat 32 (i 1).val
  let c0_i32_507 : BitVec 32 := 0#32
  let c0_i32_783 : BitVec 32 := 0#32
  let c0_i32_784 : BitVec 32 := 0#32
  ![arg1.toNat, 0, 0, 0]
def k0_off139 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c336_i32_782 : BitVec 32 := 336#32
  let v1001 : BitVec 32 := Scalar.addi v2 c336_i32_782
  let c0_i32_785 : BitVec 32 := 0#32
  ![v1001.toNat, 0]
def k0_mult45 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c352_i32 : BitVec 32 := 352#32
  let v686 : BitVec 32 := Scalar.addi v30 c352_i32
  let v1002 : BitVec 32 := Scalar.addi v1001 v686
  let v1003 : BitVec 32 := Scalar.subi v1002 v40
  v1003
def k0_cond67 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c352_i32 : BitVec 32 := 352#32
  let v686 : BitVec 32 := Scalar.addi v30 c352_i32
  let v687 : BitVec 1 := Scalar.cmpi .sge v686 v40
  let c128_i32_523 : BitVec 32 := 128#32
  let v688 : BitVec 32 := Scalar.addi v40 c128_i32_523
  let v689 : BitVec 1 := Scalar.cmpi .slt v686 v688
  let v690 : BitVec 1 := Scalar.andi v687 v689
  let v695 : BitVec 32 := Scalar.extui v690
  let c0_i32_526 : BitVec 32 := 0#32
  let v696 : BitVec 1 := Scalar.cmpi .ne v695 c0_i32_526
  v696

def k0_off140 (i : grid0.Coords) : Fin 4 → Nat :=
  let arg1 : BitVec 32 := BitVec.ofNat 32 (i 1).val
  let c1_i32_525 : BitVec 32 := 1#32
  let c0_i32_783 : BitVec 32 := 0#32
  let c0_i32_784 : BitVec 32 := 0#32
  ![arg1.toNat, 1, 0, 0]
def k0_off141 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c352_i32 : BitVec 32 := 352#32
  let v686 : BitVec 32 := Scalar.addi v30 c352_i32
  let v1002 : BitVec 32 := Scalar.addi v1001 v686
  let v1003 : BitVec 32 := Scalar.subi v1002 v40
  let v1004 : BitVec 32 := v1003
  let c0_i32_785 : BitVec 32 := 0#32
  ![v1004.toNat, 0]
def k0_mult46 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c352_i32 : BitVec 32 := 352#32
  let v686 : BitVec 32 := Scalar.addi v30 c352_i32
  let v1002 : BitVec 32 := Scalar.addi v1001 v686
  let v1003 : BitVec 32 := Scalar.subi v1002 v36
  v1003
def k0_cond68 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c352_i32 : BitVec 32 := 352#32
  let v686 : BitVec 32 := Scalar.addi v30 c352_i32
  let v691 : BitVec 1 := Scalar.cmpi .sge v686 v36
  let c256_i32_524 : BitVec 32 := 256#32
  let v692 : BitVec 32 := Scalar.addi v36 c256_i32_524
  let v693 : BitVec 1 := Scalar.cmpi .slt v686 v692
  let v694 : BitVec 1 := Scalar.andi v691 v693
  let v687 : BitVec 1 := Scalar.cmpi .sge v686 v40
  let c128_i32_523 : BitVec 32 := 128#32
  let v688 : BitVec 32 := Scalar.addi v40 c128_i32_523
  let v689 : BitVec 1 := Scalar.cmpi .slt v686 v688
  let v690 : BitVec 1 := Scalar.andi v687 v689
  let true_527 : BitVec 1 := 1#1
  let v697 : BitVec 1 := Scalar.xori v690 true_527
  let v698 : BitVec 1 := Scalar.andi v694 v697
  let v699 : BitVec 32 := Scalar.extui v698
  let c0_i32_529 : BitVec 32 := 0#32
  let v700 : BitVec 1 := Scalar.cmpi .ne v699 c0_i32_529
  v700

def k0_off142 (i : grid0.Coords) : Fin 4 → Nat :=
  let arg1 : BitVec 32 := BitVec.ofNat 32 (i 1).val
  let c1_i32_528 : BitVec 32 := 1#32
  let c0_i32_783 : BitVec 32 := 0#32
  let c0_i32_784 : BitVec 32 := 0#32
  ![arg1.toNat, 1, 0, 0]
def k0_off143 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c352_i32 : BitVec 32 := 352#32
  let v686 : BitVec 32 := Scalar.addi v30 c352_i32
  let v1002 : BitVec 32 := Scalar.addi v1001 v686
  let v1003 : BitVec 32 := Scalar.subi v1002 v36
  let v1004 : BitVec 32 := v1003
  let c0_i32_785 : BitVec 32 := 0#32
  ![v1004.toNat, 0]
def k0_off144 (i : grid0.Coords) : Fin 4 → Nat :=
  let arg1 : BitVec 32 := BitVec.ofNat 32 (i 1).val
  let c1_i32_531 : BitVec 32 := 1#32
  let c0_i32_783 : BitVec 32 := 0#32
  let c0_i32_784 : BitVec 32 := 0#32
  ![arg1.toNat, 1, 0, 0]
def k0_off145 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c352_i32_782 : BitVec 32 := 352#32
  let v1001 : BitVec 32 := Scalar.addi v2 c352_i32_782
  let c0_i32_785 : BitVec 32 := 0#32
  ![v1001.toNat, 0]
def k0_mult47 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c368_i32 : BitVec 32 := 368#32
  let v716 : BitVec 32 := Scalar.addi v30 c368_i32
  let v1002 : BitVec 32 := Scalar.addi v1001 v716
  let v1003 : BitVec 32 := Scalar.subi v1002 v40
  v1003
def k0_cond70 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c368_i32 : BitVec 32 := 368#32
  let v716 : BitVec 32 := Scalar.addi v30 c368_i32
  let v717 : BitVec 1 := Scalar.cmpi .sge v716 v40
  let c128_i32_547 : BitVec 32 := 128#32
  let v718 : BitVec 32 := Scalar.addi v40 c128_i32_547
  let v719 : BitVec 1 := Scalar.cmpi .slt v716 v718
  let v720 : BitVec 1 := Scalar.andi v717 v719
  let v725 : BitVec 32 := Scalar.extui v720
  let c0_i32_550 : BitVec 32 := 0#32
  let v726 : BitVec 1 := Scalar.cmpi .ne v725 c0_i32_550
  v726

def k0_off146 (i : grid0.Coords) : Fin 4 → Nat :=
  let arg1 : BitVec 32 := BitVec.ofNat 32 (i 1).val
  let c2_i32_549 : BitVec 32 := 2#32
  let c0_i32_783 : BitVec 32 := 0#32
  let c0_i32_784 : BitVec 32 := 0#32
  ![arg1.toNat, 2, 0, 0]
def k0_off147 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c368_i32 : BitVec 32 := 368#32
  let v716 : BitVec 32 := Scalar.addi v30 c368_i32
  let v1002 : BitVec 32 := Scalar.addi v1001 v716
  let v1003 : BitVec 32 := Scalar.subi v1002 v40
  let v1004 : BitVec 32 := v1003
  let c0_i32_785 : BitVec 32 := 0#32
  ![v1004.toNat, 0]
def k0_mult48 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c368_i32 : BitVec 32 := 368#32
  let v716 : BitVec 32 := Scalar.addi v30 c368_i32
  let v1002 : BitVec 32 := Scalar.addi v1001 v716
  let v1003 : BitVec 32 := Scalar.subi v1002 v36
  v1003
def k0_cond71 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c368_i32 : BitVec 32 := 368#32
  let v716 : BitVec 32 := Scalar.addi v30 c368_i32
  let v721 : BitVec 1 := Scalar.cmpi .sge v716 v36
  let c256_i32_548 : BitVec 32 := 256#32
  let v722 : BitVec 32 := Scalar.addi v36 c256_i32_548
  let v723 : BitVec 1 := Scalar.cmpi .slt v716 v722
  let v724 : BitVec 1 := Scalar.andi v721 v723
  let v717 : BitVec 1 := Scalar.cmpi .sge v716 v40
  let c128_i32_547 : BitVec 32 := 128#32
  let v718 : BitVec 32 := Scalar.addi v40 c128_i32_547
  let v719 : BitVec 1 := Scalar.cmpi .slt v716 v718
  let v720 : BitVec 1 := Scalar.andi v717 v719
  let true_551 : BitVec 1 := 1#1
  let v727 : BitVec 1 := Scalar.xori v720 true_551
  let v728 : BitVec 1 := Scalar.andi v724 v727
  let v729 : BitVec 32 := Scalar.extui v728
  let c0_i32_553 : BitVec 32 := 0#32
  let v730 : BitVec 1 := Scalar.cmpi .ne v729 c0_i32_553
  v730

def k0_off148 (i : grid0.Coords) : Fin 4 → Nat :=
  let arg1 : BitVec 32 := BitVec.ofNat 32 (i 1).val
  let c2_i32_552 : BitVec 32 := 2#32
  let c0_i32_783 : BitVec 32 := 0#32
  let c0_i32_784 : BitVec 32 := 0#32
  ![arg1.toNat, 2, 0, 0]
def k0_off149 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c368_i32 : BitVec 32 := 368#32
  let v716 : BitVec 32 := Scalar.addi v30 c368_i32
  let v1002 : BitVec 32 := Scalar.addi v1001 v716
  let v1003 : BitVec 32 := Scalar.subi v1002 v36
  let v1004 : BitVec 32 := v1003
  let c0_i32_785 : BitVec 32 := 0#32
  ![v1004.toNat, 0]
def k0_off150 (i : grid0.Coords) : Fin 4 → Nat :=
  let arg1 : BitVec 32 := BitVec.ofNat 32 (i 1).val
  let c2_i32_555 : BitVec 32 := 2#32
  let c0_i32_783 : BitVec 32 := 0#32
  let c0_i32_784 : BitVec 32 := 0#32
  ![arg1.toNat, 2, 0, 0]
def k0_off151 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c368_i32_782 : BitVec 32 := 368#32
  let v1001 : BitVec 32 := Scalar.addi v2 c368_i32_782
  let c0_i32_785 : BitVec 32 := 0#32
  ![v1001.toNat, 0]
def k0_mult49 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c384_i32 : BitVec 32 := 384#32
  let v746 : BitVec 32 := Scalar.addi v30 c384_i32
  let v1002 : BitVec 32 := Scalar.addi v1001 v746
  let v1003 : BitVec 32 := Scalar.subi v1002 v40
  v1003
def k0_cond73 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c384_i32 : BitVec 32 := 384#32
  let v746 : BitVec 32 := Scalar.addi v30 c384_i32
  let v747 : BitVec 1 := Scalar.cmpi .sge v746 v40
  let c128_i32_571 : BitVec 32 := 128#32
  let v748 : BitVec 32 := Scalar.addi v40 c128_i32_571
  let v749 : BitVec 1 := Scalar.cmpi .slt v746 v748
  let v750 : BitVec 1 := Scalar.andi v747 v749
  let v755 : BitVec 32 := Scalar.extui v750
  let c0_i32_574 : BitVec 32 := 0#32
  let v756 : BitVec 1 := Scalar.cmpi .ne v755 c0_i32_574
  v756

def k0_off152 (i : grid0.Coords) : Fin 4 → Nat :=
  let arg1 : BitVec 32 := BitVec.ofNat 32 (i 1).val
  let c0_i32_573 : BitVec 32 := 0#32
  let c0_i32_783 : BitVec 32 := 0#32
  let c0_i32_784 : BitVec 32 := 0#32
  ![arg1.toNat, 0, 0, 0]
def k0_off153 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c384_i32 : BitVec 32 := 384#32
  let v746 : BitVec 32 := Scalar.addi v30 c384_i32
  let v1002 : BitVec 32 := Scalar.addi v1001 v746
  let v1003 : BitVec 32 := Scalar.subi v1002 v40
  let v1004 : BitVec 32 := v1003
  let c0_i32_785 : BitVec 32 := 0#32
  ![v1004.toNat, 0]
def k0_mult50 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c384_i32 : BitVec 32 := 384#32
  let v746 : BitVec 32 := Scalar.addi v30 c384_i32
  let v1002 : BitVec 32 := Scalar.addi v1001 v746
  let v1003 : BitVec 32 := Scalar.subi v1002 v36
  v1003
def k0_cond74 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c384_i32 : BitVec 32 := 384#32
  let v746 : BitVec 32 := Scalar.addi v30 c384_i32
  let v751 : BitVec 1 := Scalar.cmpi .sge v746 v36
  let c256_i32_572 : BitVec 32 := 256#32
  let v752 : BitVec 32 := Scalar.addi v36 c256_i32_572
  let v753 : BitVec 1 := Scalar.cmpi .slt v746 v752
  let v754 : BitVec 1 := Scalar.andi v751 v753
  let v747 : BitVec 1 := Scalar.cmpi .sge v746 v40
  let c128_i32_571 : BitVec 32 := 128#32
  let v748 : BitVec 32 := Scalar.addi v40 c128_i32_571
  let v749 : BitVec 1 := Scalar.cmpi .slt v746 v748
  let v750 : BitVec 1 := Scalar.andi v747 v749
  let true_575 : BitVec 1 := 1#1
  let v757 : BitVec 1 := Scalar.xori v750 true_575
  let v758 : BitVec 1 := Scalar.andi v754 v757
  let v759 : BitVec 32 := Scalar.extui v758
  let c0_i32_577 : BitVec 32 := 0#32
  let v760 : BitVec 1 := Scalar.cmpi .ne v759 c0_i32_577
  v760

def k0_off154 (i : grid0.Coords) : Fin 4 → Nat :=
  let arg1 : BitVec 32 := BitVec.ofNat 32 (i 1).val
  let c0_i32_576 : BitVec 32 := 0#32
  let c0_i32_783 : BitVec 32 := 0#32
  let c0_i32_784 : BitVec 32 := 0#32
  ![arg1.toNat, 0, 0, 0]
def k0_off155 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c384_i32 : BitVec 32 := 384#32
  let v746 : BitVec 32 := Scalar.addi v30 c384_i32
  let v1002 : BitVec 32 := Scalar.addi v1001 v746
  let v1003 : BitVec 32 := Scalar.subi v1002 v36
  let v1004 : BitVec 32 := v1003
  let c0_i32_785 : BitVec 32 := 0#32
  ![v1004.toNat, 0]
def k0_off156 (i : grid0.Coords) : Fin 4 → Nat :=
  let arg1 : BitVec 32 := BitVec.ofNat 32 (i 1).val
  let c0_i32_579 : BitVec 32 := 0#32
  let c0_i32_783 : BitVec 32 := 0#32
  let c0_i32_784 : BitVec 32 := 0#32
  ![arg1.toNat, 0, 0, 0]
def k0_off157 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c384_i32_782 : BitVec 32 := 384#32
  let v1001 : BitVec 32 := Scalar.addi v2 c384_i32_782
  let c0_i32_785 : BitVec 32 := 0#32
  ![v1001.toNat, 0]
def k0_mult51 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c400_i32 : BitVec 32 := 400#32
  let v776 : BitVec 32 := Scalar.addi v30 c400_i32
  let v1002 : BitVec 32 := Scalar.addi v1001 v776
  let v1003 : BitVec 32 := Scalar.subi v1002 v40
  v1003
def k0_cond76 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c400_i32 : BitVec 32 := 400#32
  let v776 : BitVec 32 := Scalar.addi v30 c400_i32
  let v777 : BitVec 1 := Scalar.cmpi .sge v776 v40
  let c128_i32_595 : BitVec 32 := 128#32
  let v778 : BitVec 32 := Scalar.addi v40 c128_i32_595
  let v779 : BitVec 1 := Scalar.cmpi .slt v776 v778
  let v780 : BitVec 1 := Scalar.andi v777 v779
  let v785 : BitVec 32 := Scalar.extui v780
  let c0_i32_598 : BitVec 32 := 0#32
  let v786 : BitVec 1 := Scalar.cmpi .ne v785 c0_i32_598
  v786

def k0_off158 (i : grid0.Coords) : Fin 4 → Nat :=
  let arg1 : BitVec 32 := BitVec.ofNat 32 (i 1).val
  let c1_i32_597 : BitVec 32 := 1#32
  let c0_i32_783 : BitVec 32 := 0#32
  let c0_i32_784 : BitVec 32 := 0#32
  ![arg1.toNat, 1, 0, 0]
def k0_off159 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c400_i32 : BitVec 32 := 400#32
  let v776 : BitVec 32 := Scalar.addi v30 c400_i32
  let v1002 : BitVec 32 := Scalar.addi v1001 v776
  let v1003 : BitVec 32 := Scalar.subi v1002 v40
  let v1004 : BitVec 32 := v1003
  let c0_i32_785 : BitVec 32 := 0#32
  ![v1004.toNat, 0]
def k0_mult52 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c400_i32 : BitVec 32 := 400#32
  let v776 : BitVec 32 := Scalar.addi v30 c400_i32
  let v1002 : BitVec 32 := Scalar.addi v1001 v776
  let v1003 : BitVec 32 := Scalar.subi v1002 v36
  v1003
def k0_cond77 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c400_i32 : BitVec 32 := 400#32
  let v776 : BitVec 32 := Scalar.addi v30 c400_i32
  let v781 : BitVec 1 := Scalar.cmpi .sge v776 v36
  let c256_i32_596 : BitVec 32 := 256#32
  let v782 : BitVec 32 := Scalar.addi v36 c256_i32_596
  let v783 : BitVec 1 := Scalar.cmpi .slt v776 v782
  let v784 : BitVec 1 := Scalar.andi v781 v783
  let v777 : BitVec 1 := Scalar.cmpi .sge v776 v40
  let c128_i32_595 : BitVec 32 := 128#32
  let v778 : BitVec 32 := Scalar.addi v40 c128_i32_595
  let v779 : BitVec 1 := Scalar.cmpi .slt v776 v778
  let v780 : BitVec 1 := Scalar.andi v777 v779
  let true_599 : BitVec 1 := 1#1
  let v787 : BitVec 1 := Scalar.xori v780 true_599
  let v788 : BitVec 1 := Scalar.andi v784 v787
  let v789 : BitVec 32 := Scalar.extui v788
  let c0_i32_601 : BitVec 32 := 0#32
  let v790 : BitVec 1 := Scalar.cmpi .ne v789 c0_i32_601
  v790

def k0_off160 (i : grid0.Coords) : Fin 4 → Nat :=
  let arg1 : BitVec 32 := BitVec.ofNat 32 (i 1).val
  let c1_i32_600 : BitVec 32 := 1#32
  let c0_i32_783 : BitVec 32 := 0#32
  let c0_i32_784 : BitVec 32 := 0#32
  ![arg1.toNat, 1, 0, 0]
def k0_off161 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c400_i32 : BitVec 32 := 400#32
  let v776 : BitVec 32 := Scalar.addi v30 c400_i32
  let v1002 : BitVec 32 := Scalar.addi v1001 v776
  let v1003 : BitVec 32 := Scalar.subi v1002 v36
  let v1004 : BitVec 32 := v1003
  let c0_i32_785 : BitVec 32 := 0#32
  ![v1004.toNat, 0]
def k0_off162 (i : grid0.Coords) : Fin 4 → Nat :=
  let arg1 : BitVec 32 := BitVec.ofNat 32 (i 1).val
  let c1_i32_603 : BitVec 32 := 1#32
  let c0_i32_783 : BitVec 32 := 0#32
  let c0_i32_784 : BitVec 32 := 0#32
  ![arg1.toNat, 1, 0, 0]
def k0_off163 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c400_i32_782 : BitVec 32 := 400#32
  let v1001 : BitVec 32 := Scalar.addi v2 c400_i32_782
  let c0_i32_785 : BitVec 32 := 0#32
  ![v1001.toNat, 0]
def k0_mult53 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c416_i32 : BitVec 32 := 416#32
  let v806 : BitVec 32 := Scalar.addi v30 c416_i32
  let v1002 : BitVec 32 := Scalar.addi v1001 v806
  let v1003 : BitVec 32 := Scalar.subi v1002 v40
  v1003
def k0_cond79 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c416_i32 : BitVec 32 := 416#32
  let v806 : BitVec 32 := Scalar.addi v30 c416_i32
  let v807 : BitVec 1 := Scalar.cmpi .sge v806 v40
  let c128_i32_619 : BitVec 32 := 128#32
  let v808 : BitVec 32 := Scalar.addi v40 c128_i32_619
  let v809 : BitVec 1 := Scalar.cmpi .slt v806 v808
  let v810 : BitVec 1 := Scalar.andi v807 v809
  let v815 : BitVec 32 := Scalar.extui v810
  let c0_i32_622 : BitVec 32 := 0#32
  let v816 : BitVec 1 := Scalar.cmpi .ne v815 c0_i32_622
  v816

def k0_off164 (i : grid0.Coords) : Fin 4 → Nat :=
  let arg1 : BitVec 32 := BitVec.ofNat 32 (i 1).val
  let c2_i32_621 : BitVec 32 := 2#32
  let c0_i32_783 : BitVec 32 := 0#32
  let c0_i32_784 : BitVec 32 := 0#32
  ![arg1.toNat, 2, 0, 0]
def k0_off165 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c416_i32 : BitVec 32 := 416#32
  let v806 : BitVec 32 := Scalar.addi v30 c416_i32
  let v1002 : BitVec 32 := Scalar.addi v1001 v806
  let v1003 : BitVec 32 := Scalar.subi v1002 v40
  let v1004 : BitVec 32 := v1003
  let c0_i32_785 : BitVec 32 := 0#32
  ![v1004.toNat, 0]
def k0_mult54 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c416_i32 : BitVec 32 := 416#32
  let v806 : BitVec 32 := Scalar.addi v30 c416_i32
  let v1002 : BitVec 32 := Scalar.addi v1001 v806
  let v1003 : BitVec 32 := Scalar.subi v1002 v36
  v1003
def k0_cond80 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c416_i32 : BitVec 32 := 416#32
  let v806 : BitVec 32 := Scalar.addi v30 c416_i32
  let v811 : BitVec 1 := Scalar.cmpi .sge v806 v36
  let c256_i32_620 : BitVec 32 := 256#32
  let v812 : BitVec 32 := Scalar.addi v36 c256_i32_620
  let v813 : BitVec 1 := Scalar.cmpi .slt v806 v812
  let v814 : BitVec 1 := Scalar.andi v811 v813
  let v807 : BitVec 1 := Scalar.cmpi .sge v806 v40
  let c128_i32_619 : BitVec 32 := 128#32
  let v808 : BitVec 32 := Scalar.addi v40 c128_i32_619
  let v809 : BitVec 1 := Scalar.cmpi .slt v806 v808
  let v810 : BitVec 1 := Scalar.andi v807 v809
  let true_623 : BitVec 1 := 1#1
  let v817 : BitVec 1 := Scalar.xori v810 true_623
  let v818 : BitVec 1 := Scalar.andi v814 v817
  let v819 : BitVec 32 := Scalar.extui v818
  let c0_i32_625 : BitVec 32 := 0#32
  let v820 : BitVec 1 := Scalar.cmpi .ne v819 c0_i32_625
  v820

def k0_off166 (i : grid0.Coords) : Fin 4 → Nat :=
  let arg1 : BitVec 32 := BitVec.ofNat 32 (i 1).val
  let c2_i32_624 : BitVec 32 := 2#32
  let c0_i32_783 : BitVec 32 := 0#32
  let c0_i32_784 : BitVec 32 := 0#32
  ![arg1.toNat, 2, 0, 0]
def k0_off167 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c416_i32 : BitVec 32 := 416#32
  let v806 : BitVec 32 := Scalar.addi v30 c416_i32
  let v1002 : BitVec 32 := Scalar.addi v1001 v806
  let v1003 : BitVec 32 := Scalar.subi v1002 v36
  let v1004 : BitVec 32 := v1003
  let c0_i32_785 : BitVec 32 := 0#32
  ![v1004.toNat, 0]
def k0_off168 (i : grid0.Coords) : Fin 4 → Nat :=
  let arg1 : BitVec 32 := BitVec.ofNat 32 (i 1).val
  let c2_i32_627 : BitVec 32 := 2#32
  let c0_i32_783 : BitVec 32 := 0#32
  let c0_i32_784 : BitVec 32 := 0#32
  ![arg1.toNat, 2, 0, 0]
def k0_off169 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c416_i32_782 : BitVec 32 := 416#32
  let v1001 : BitVec 32 := Scalar.addi v2 c416_i32_782
  let c0_i32_785 : BitVec 32 := 0#32
  ![v1001.toNat, 0]
def k0_mult55 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c432_i32 : BitVec 32 := 432#32
  let v836 : BitVec 32 := Scalar.addi v30 c432_i32
  let v1002 : BitVec 32 := Scalar.addi v1001 v836
  let v1003 : BitVec 32 := Scalar.subi v1002 v40
  v1003
def k0_cond82 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c432_i32 : BitVec 32 := 432#32
  let v836 : BitVec 32 := Scalar.addi v30 c432_i32
  let v837 : BitVec 1 := Scalar.cmpi .sge v836 v40
  let c128_i32_643 : BitVec 32 := 128#32
  let v838 : BitVec 32 := Scalar.addi v40 c128_i32_643
  let v839 : BitVec 1 := Scalar.cmpi .slt v836 v838
  let v840 : BitVec 1 := Scalar.andi v837 v839
  let v845 : BitVec 32 := Scalar.extui v840
  let c0_i32_646 : BitVec 32 := 0#32
  let v846 : BitVec 1 := Scalar.cmpi .ne v845 c0_i32_646
  v846

def k0_off170 (i : grid0.Coords) : Fin 4 → Nat :=
  let arg1 : BitVec 32 := BitVec.ofNat 32 (i 1).val
  let c0_i32_645 : BitVec 32 := 0#32
  let c0_i32_783 : BitVec 32 := 0#32
  let c0_i32_784 : BitVec 32 := 0#32
  ![arg1.toNat, 0, 0, 0]
def k0_off171 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c432_i32 : BitVec 32 := 432#32
  let v836 : BitVec 32 := Scalar.addi v30 c432_i32
  let v1002 : BitVec 32 := Scalar.addi v1001 v836
  let v1003 : BitVec 32 := Scalar.subi v1002 v40
  let v1004 : BitVec 32 := v1003
  let c0_i32_785 : BitVec 32 := 0#32
  ![v1004.toNat, 0]
def k0_mult56 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c432_i32 : BitVec 32 := 432#32
  let v836 : BitVec 32 := Scalar.addi v30 c432_i32
  let v1002 : BitVec 32 := Scalar.addi v1001 v836
  let v1003 : BitVec 32 := Scalar.subi v1002 v36
  v1003
def k0_cond83 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c432_i32 : BitVec 32 := 432#32
  let v836 : BitVec 32 := Scalar.addi v30 c432_i32
  let v841 : BitVec 1 := Scalar.cmpi .sge v836 v36
  let c256_i32_644 : BitVec 32 := 256#32
  let v842 : BitVec 32 := Scalar.addi v36 c256_i32_644
  let v843 : BitVec 1 := Scalar.cmpi .slt v836 v842
  let v844 : BitVec 1 := Scalar.andi v841 v843
  let v837 : BitVec 1 := Scalar.cmpi .sge v836 v40
  let c128_i32_643 : BitVec 32 := 128#32
  let v838 : BitVec 32 := Scalar.addi v40 c128_i32_643
  let v839 : BitVec 1 := Scalar.cmpi .slt v836 v838
  let v840 : BitVec 1 := Scalar.andi v837 v839
  let true_647 : BitVec 1 := 1#1
  let v847 : BitVec 1 := Scalar.xori v840 true_647
  let v848 : BitVec 1 := Scalar.andi v844 v847
  let v849 : BitVec 32 := Scalar.extui v848
  let c0_i32_649 : BitVec 32 := 0#32
  let v850 : BitVec 1 := Scalar.cmpi .ne v849 c0_i32_649
  v850

def k0_off172 (i : grid0.Coords) : Fin 4 → Nat :=
  let arg1 : BitVec 32 := BitVec.ofNat 32 (i 1).val
  let c0_i32_648 : BitVec 32 := 0#32
  let c0_i32_783 : BitVec 32 := 0#32
  let c0_i32_784 : BitVec 32 := 0#32
  ![arg1.toNat, 0, 0, 0]
def k0_off173 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c432_i32 : BitVec 32 := 432#32
  let v836 : BitVec 32 := Scalar.addi v30 c432_i32
  let v1002 : BitVec 32 := Scalar.addi v1001 v836
  let v1003 : BitVec 32 := Scalar.subi v1002 v36
  let v1004 : BitVec 32 := v1003
  let c0_i32_785 : BitVec 32 := 0#32
  ![v1004.toNat, 0]
def k0_off174 (i : grid0.Coords) : Fin 4 → Nat :=
  let arg1 : BitVec 32 := BitVec.ofNat 32 (i 1).val
  let c0_i32_651 : BitVec 32 := 0#32
  let c0_i32_783 : BitVec 32 := 0#32
  let c0_i32_784 : BitVec 32 := 0#32
  ![arg1.toNat, 0, 0, 0]
def k0_off175 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c432_i32_782 : BitVec 32 := 432#32
  let v1001 : BitVec 32 := Scalar.addi v2 c432_i32_782
  let c0_i32_785 : BitVec 32 := 0#32
  ![v1001.toNat, 0]
def k0_mult57 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c448_i32 : BitVec 32 := 448#32
  let v866 : BitVec 32 := Scalar.addi v30 c448_i32
  let v1002 : BitVec 32 := Scalar.addi v1001 v866
  let v1003 : BitVec 32 := Scalar.subi v1002 v40
  v1003
def k0_cond85 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c448_i32 : BitVec 32 := 448#32
  let v866 : BitVec 32 := Scalar.addi v30 c448_i32
  let v867 : BitVec 1 := Scalar.cmpi .sge v866 v40
  let c128_i32_667 : BitVec 32 := 128#32
  let v868 : BitVec 32 := Scalar.addi v40 c128_i32_667
  let v869 : BitVec 1 := Scalar.cmpi .slt v866 v868
  let v870 : BitVec 1 := Scalar.andi v867 v869
  let v875 : BitVec 32 := Scalar.extui v870
  let c0_i32_670 : BitVec 32 := 0#32
  let v876 : BitVec 1 := Scalar.cmpi .ne v875 c0_i32_670
  v876

def k0_off176 (i : grid0.Coords) : Fin 4 → Nat :=
  let arg1 : BitVec 32 := BitVec.ofNat 32 (i 1).val
  let c1_i32_669 : BitVec 32 := 1#32
  let c0_i32_783 : BitVec 32 := 0#32
  let c0_i32_784 : BitVec 32 := 0#32
  ![arg1.toNat, 1, 0, 0]
def k0_off177 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c448_i32 : BitVec 32 := 448#32
  let v866 : BitVec 32 := Scalar.addi v30 c448_i32
  let v1002 : BitVec 32 := Scalar.addi v1001 v866
  let v1003 : BitVec 32 := Scalar.subi v1002 v40
  let v1004 : BitVec 32 := v1003
  let c0_i32_785 : BitVec 32 := 0#32
  ![v1004.toNat, 0]
def k0_mult58 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c448_i32 : BitVec 32 := 448#32
  let v866 : BitVec 32 := Scalar.addi v30 c448_i32
  let v1002 : BitVec 32 := Scalar.addi v1001 v866
  let v1003 : BitVec 32 := Scalar.subi v1002 v36
  v1003
def k0_cond86 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c448_i32 : BitVec 32 := 448#32
  let v866 : BitVec 32 := Scalar.addi v30 c448_i32
  let v871 : BitVec 1 := Scalar.cmpi .sge v866 v36
  let c256_i32_668 : BitVec 32 := 256#32
  let v872 : BitVec 32 := Scalar.addi v36 c256_i32_668
  let v873 : BitVec 1 := Scalar.cmpi .slt v866 v872
  let v874 : BitVec 1 := Scalar.andi v871 v873
  let v867 : BitVec 1 := Scalar.cmpi .sge v866 v40
  let c128_i32_667 : BitVec 32 := 128#32
  let v868 : BitVec 32 := Scalar.addi v40 c128_i32_667
  let v869 : BitVec 1 := Scalar.cmpi .slt v866 v868
  let v870 : BitVec 1 := Scalar.andi v867 v869
  let true_671 : BitVec 1 := 1#1
  let v877 : BitVec 1 := Scalar.xori v870 true_671
  let v878 : BitVec 1 := Scalar.andi v874 v877
  let v879 : BitVec 32 := Scalar.extui v878
  let c0_i32_673 : BitVec 32 := 0#32
  let v880 : BitVec 1 := Scalar.cmpi .ne v879 c0_i32_673
  v880

def k0_off178 (i : grid0.Coords) : Fin 4 → Nat :=
  let arg1 : BitVec 32 := BitVec.ofNat 32 (i 1).val
  let c1_i32_672 : BitVec 32 := 1#32
  let c0_i32_783 : BitVec 32 := 0#32
  let c0_i32_784 : BitVec 32 := 0#32
  ![arg1.toNat, 1, 0, 0]
def k0_off179 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c448_i32 : BitVec 32 := 448#32
  let v866 : BitVec 32 := Scalar.addi v30 c448_i32
  let v1002 : BitVec 32 := Scalar.addi v1001 v866
  let v1003 : BitVec 32 := Scalar.subi v1002 v36
  let v1004 : BitVec 32 := v1003
  let c0_i32_785 : BitVec 32 := 0#32
  ![v1004.toNat, 0]
def k0_off180 (i : grid0.Coords) : Fin 4 → Nat :=
  let arg1 : BitVec 32 := BitVec.ofNat 32 (i 1).val
  let c1_i32_675 : BitVec 32 := 1#32
  let c0_i32_783 : BitVec 32 := 0#32
  let c0_i32_784 : BitVec 32 := 0#32
  ![arg1.toNat, 1, 0, 0]
def k0_off181 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c448_i32_782 : BitVec 32 := 448#32
  let v1001 : BitVec 32 := Scalar.addi v2 c448_i32_782
  let c0_i32_785 : BitVec 32 := 0#32
  ![v1001.toNat, 0]
def k0_mult59 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c464_i32 : BitVec 32 := 464#32
  let v896 : BitVec 32 := Scalar.addi v30 c464_i32
  let v1002 : BitVec 32 := Scalar.addi v1001 v896
  let v1003 : BitVec 32 := Scalar.subi v1002 v40
  v1003
def k0_cond88 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c464_i32 : BitVec 32 := 464#32
  let v896 : BitVec 32 := Scalar.addi v30 c464_i32
  let v897 : BitVec 1 := Scalar.cmpi .sge v896 v40
  let c128_i32_691 : BitVec 32 := 128#32
  let v898 : BitVec 32 := Scalar.addi v40 c128_i32_691
  let v899 : BitVec 1 := Scalar.cmpi .slt v896 v898
  let v900 : BitVec 1 := Scalar.andi v897 v899
  let v905 : BitVec 32 := Scalar.extui v900
  let c0_i32_694 : BitVec 32 := 0#32
  let v906 : BitVec 1 := Scalar.cmpi .ne v905 c0_i32_694
  v906

def k0_off182 (i : grid0.Coords) : Fin 4 → Nat :=
  let arg1 : BitVec 32 := BitVec.ofNat 32 (i 1).val
  let c2_i32_693 : BitVec 32 := 2#32
  let c0_i32_783 : BitVec 32 := 0#32
  let c0_i32_784 : BitVec 32 := 0#32
  ![arg1.toNat, 2, 0, 0]
def k0_off183 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c464_i32 : BitVec 32 := 464#32
  let v896 : BitVec 32 := Scalar.addi v30 c464_i32
  let v1002 : BitVec 32 := Scalar.addi v1001 v896
  let v1003 : BitVec 32 := Scalar.subi v1002 v40
  let v1004 : BitVec 32 := v1003
  let c0_i32_785 : BitVec 32 := 0#32
  ![v1004.toNat, 0]
def k0_mult60 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c464_i32 : BitVec 32 := 464#32
  let v896 : BitVec 32 := Scalar.addi v30 c464_i32
  let v1002 : BitVec 32 := Scalar.addi v1001 v896
  let v1003 : BitVec 32 := Scalar.subi v1002 v36
  v1003
def k0_cond89 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c464_i32 : BitVec 32 := 464#32
  let v896 : BitVec 32 := Scalar.addi v30 c464_i32
  let v901 : BitVec 1 := Scalar.cmpi .sge v896 v36
  let c256_i32_692 : BitVec 32 := 256#32
  let v902 : BitVec 32 := Scalar.addi v36 c256_i32_692
  let v903 : BitVec 1 := Scalar.cmpi .slt v896 v902
  let v904 : BitVec 1 := Scalar.andi v901 v903
  let v897 : BitVec 1 := Scalar.cmpi .sge v896 v40
  let c128_i32_691 : BitVec 32 := 128#32
  let v898 : BitVec 32 := Scalar.addi v40 c128_i32_691
  let v899 : BitVec 1 := Scalar.cmpi .slt v896 v898
  let v900 : BitVec 1 := Scalar.andi v897 v899
  let true_695 : BitVec 1 := 1#1
  let v907 : BitVec 1 := Scalar.xori v900 true_695
  let v908 : BitVec 1 := Scalar.andi v904 v907
  let v909 : BitVec 32 := Scalar.extui v908
  let c0_i32_697 : BitVec 32 := 0#32
  let v910 : BitVec 1 := Scalar.cmpi .ne v909 c0_i32_697
  v910

def k0_off184 (i : grid0.Coords) : Fin 4 → Nat :=
  let arg1 : BitVec 32 := BitVec.ofNat 32 (i 1).val
  let c2_i32_696 : BitVec 32 := 2#32
  let c0_i32_783 : BitVec 32 := 0#32
  let c0_i32_784 : BitVec 32 := 0#32
  ![arg1.toNat, 2, 0, 0]
def k0_off185 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c464_i32 : BitVec 32 := 464#32
  let v896 : BitVec 32 := Scalar.addi v30 c464_i32
  let v1002 : BitVec 32 := Scalar.addi v1001 v896
  let v1003 : BitVec 32 := Scalar.subi v1002 v36
  let v1004 : BitVec 32 := v1003
  let c0_i32_785 : BitVec 32 := 0#32
  ![v1004.toNat, 0]
def k0_off186 (i : grid0.Coords) : Fin 4 → Nat :=
  let arg1 : BitVec 32 := BitVec.ofNat 32 (i 1).val
  let c2_i32_699 : BitVec 32 := 2#32
  let c0_i32_783 : BitVec 32 := 0#32
  let c0_i32_784 : BitVec 32 := 0#32
  ![arg1.toNat, 2, 0, 0]
def k0_off187 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c464_i32_782 : BitVec 32 := 464#32
  let v1001 : BitVec 32 := Scalar.addi v2 c464_i32_782
  let c0_i32_785 : BitVec 32 := 0#32
  ![v1001.toNat, 0]
def k0_mult61 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c480_i32 : BitVec 32 := 480#32
  let v926 : BitVec 32 := Scalar.addi v30 c480_i32
  let v1002 : BitVec 32 := Scalar.addi v1001 v926
  let v1003 : BitVec 32 := Scalar.subi v1002 v40
  v1003
def k0_cond91 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c480_i32 : BitVec 32 := 480#32
  let v926 : BitVec 32 := Scalar.addi v30 c480_i32
  let v927 : BitVec 1 := Scalar.cmpi .sge v926 v40
  let c128_i32_715 : BitVec 32 := 128#32
  let v928 : BitVec 32 := Scalar.addi v40 c128_i32_715
  let v929 : BitVec 1 := Scalar.cmpi .slt v926 v928
  let v930 : BitVec 1 := Scalar.andi v927 v929
  let v935 : BitVec 32 := Scalar.extui v930
  let c0_i32_718 : BitVec 32 := 0#32
  let v936 : BitVec 1 := Scalar.cmpi .ne v935 c0_i32_718
  v936

def k0_off188 (i : grid0.Coords) : Fin 4 → Nat :=
  let arg1 : BitVec 32 := BitVec.ofNat 32 (i 1).val
  let c0_i32_717 : BitVec 32 := 0#32
  let c0_i32_783 : BitVec 32 := 0#32
  let c0_i32_784 : BitVec 32 := 0#32
  ![arg1.toNat, 0, 0, 0]
def k0_off189 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c480_i32 : BitVec 32 := 480#32
  let v926 : BitVec 32 := Scalar.addi v30 c480_i32
  let v1002 : BitVec 32 := Scalar.addi v1001 v926
  let v1003 : BitVec 32 := Scalar.subi v1002 v40
  let v1004 : BitVec 32 := v1003
  let c0_i32_785 : BitVec 32 := 0#32
  ![v1004.toNat, 0]
def k0_mult62 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c480_i32 : BitVec 32 := 480#32
  let v926 : BitVec 32 := Scalar.addi v30 c480_i32
  let v1002 : BitVec 32 := Scalar.addi v1001 v926
  let v1003 : BitVec 32 := Scalar.subi v1002 v36
  v1003
def k0_cond92 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c480_i32 : BitVec 32 := 480#32
  let v926 : BitVec 32 := Scalar.addi v30 c480_i32
  let v931 : BitVec 1 := Scalar.cmpi .sge v926 v36
  let c256_i32_716 : BitVec 32 := 256#32
  let v932 : BitVec 32 := Scalar.addi v36 c256_i32_716
  let v933 : BitVec 1 := Scalar.cmpi .slt v926 v932
  let v934 : BitVec 1 := Scalar.andi v931 v933
  let v927 : BitVec 1 := Scalar.cmpi .sge v926 v40
  let c128_i32_715 : BitVec 32 := 128#32
  let v928 : BitVec 32 := Scalar.addi v40 c128_i32_715
  let v929 : BitVec 1 := Scalar.cmpi .slt v926 v928
  let v930 : BitVec 1 := Scalar.andi v927 v929
  let true_719 : BitVec 1 := 1#1
  let v937 : BitVec 1 := Scalar.xori v930 true_719
  let v938 : BitVec 1 := Scalar.andi v934 v937
  let v939 : BitVec 32 := Scalar.extui v938
  let c0_i32_721 : BitVec 32 := 0#32
  let v940 : BitVec 1 := Scalar.cmpi .ne v939 c0_i32_721
  v940

def k0_off190 (i : grid0.Coords) : Fin 4 → Nat :=
  let arg1 : BitVec 32 := BitVec.ofNat 32 (i 1).val
  let c0_i32_720 : BitVec 32 := 0#32
  let c0_i32_783 : BitVec 32 := 0#32
  let c0_i32_784 : BitVec 32 := 0#32
  ![arg1.toNat, 0, 0, 0]
def k0_off191 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c480_i32 : BitVec 32 := 480#32
  let v926 : BitVec 32 := Scalar.addi v30 c480_i32
  let v1002 : BitVec 32 := Scalar.addi v1001 v926
  let v1003 : BitVec 32 := Scalar.subi v1002 v36
  let v1004 : BitVec 32 := v1003
  let c0_i32_785 : BitVec 32 := 0#32
  ![v1004.toNat, 0]
def k0_off192 (i : grid0.Coords) : Fin 4 → Nat :=
  let arg1 : BitVec 32 := BitVec.ofNat 32 (i 1).val
  let c0_i32_723 : BitVec 32 := 0#32
  let c0_i32_783 : BitVec 32 := 0#32
  let c0_i32_784 : BitVec 32 := 0#32
  ![arg1.toNat, 0, 0, 0]
def k0_off193 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c480_i32_782 : BitVec 32 := 480#32
  let v1001 : BitVec 32 := Scalar.addi v2 c480_i32_782
  let c0_i32_785 : BitVec 32 := 0#32
  ![v1001.toNat, 0]
def k0_mult63 (i : grid0.Coords) (v40 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c496_i32 : BitVec 32 := 496#32
  let v956 : BitVec 32 := Scalar.addi v30 c496_i32
  let v1002 : BitVec 32 := Scalar.addi v1001 v956
  let v1003 : BitVec 32 := Scalar.subi v1002 v40
  v1003
def k0_cond94 (i : grid0.Coords) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c496_i32 : BitVec 32 := 496#32
  let v956 : BitVec 32 := Scalar.addi v30 c496_i32
  let v957 : BitVec 1 := Scalar.cmpi .sge v956 v40
  let c128_i32_739 : BitVec 32 := 128#32
  let v958 : BitVec 32 := Scalar.addi v40 c128_i32_739
  let v959 : BitVec 1 := Scalar.cmpi .slt v956 v958
  let v960 : BitVec 1 := Scalar.andi v957 v959
  let v965 : BitVec 32 := Scalar.extui v960
  let c0_i32_742 : BitVec 32 := 0#32
  let v966 : BitVec 1 := Scalar.cmpi .ne v965 c0_i32_742
  v966

def k0_off194 (i : grid0.Coords) : Fin 4 → Nat :=
  let arg1 : BitVec 32 := BitVec.ofNat 32 (i 1).val
  let c1_i32_741 : BitVec 32 := 1#32
  let c0_i32_783 : BitVec 32 := 0#32
  let c0_i32_784 : BitVec 32 := 0#32
  ![arg1.toNat, 1, 0, 0]
def k0_off195 (i : grid0.Coords) (v40 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c128_i32_782 : BitVec 32 := 128#32
  let v1001 : BitVec 32 := Scalar.muli v19 c128_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c496_i32 : BitVec 32 := 496#32
  let v956 : BitVec 32 := Scalar.addi v30 c496_i32
  let v1002 : BitVec 32 := Scalar.addi v1001 v956
  let v1003 : BitVec 32 := Scalar.subi v1002 v40
  let v1004 : BitVec 32 := v1003
  let c0_i32_785 : BitVec 32 := 0#32
  ![v1004.toNat, 0]
def k0_mult64 (i : grid0.Coords) (v36 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c496_i32 : BitVec 32 := 496#32
  let v956 : BitVec 32 := Scalar.addi v30 c496_i32
  let v1002 : BitVec 32 := Scalar.addi v1001 v956
  let v1003 : BitVec 32 := Scalar.subi v1002 v36
  v1003
def k0_cond95 (i : grid0.Coords) (v36 : BitVec 32) (v40 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c496_i32 : BitVec 32 := 496#32
  let v956 : BitVec 32 := Scalar.addi v30 c496_i32
  let v961 : BitVec 1 := Scalar.cmpi .sge v956 v36
  let c256_i32_740 : BitVec 32 := 256#32
  let v962 : BitVec 32 := Scalar.addi v36 c256_i32_740
  let v963 : BitVec 1 := Scalar.cmpi .slt v956 v962
  let v964 : BitVec 1 := Scalar.andi v961 v963
  let v957 : BitVec 1 := Scalar.cmpi .sge v956 v40
  let c128_i32_739 : BitVec 32 := 128#32
  let v958 : BitVec 32 := Scalar.addi v40 c128_i32_739
  let v959 : BitVec 1 := Scalar.cmpi .slt v956 v958
  let v960 : BitVec 1 := Scalar.andi v957 v959
  let true_743 : BitVec 1 := 1#1
  let v967 : BitVec 1 := Scalar.xori v960 true_743
  let v968 : BitVec 1 := Scalar.andi v964 v967
  let v969 : BitVec 32 := Scalar.extui v968
  let c0_i32_745 : BitVec 32 := 0#32
  let v970 : BitVec 1 := Scalar.cmpi .ne v969 c0_i32_745
  v970

def k0_off196 (i : grid0.Coords) : Fin 4 → Nat :=
  let arg1 : BitVec 32 := BitVec.ofNat 32 (i 1).val
  let c1_i32_744 : BitVec 32 := 1#32
  let c0_i32_783 : BitVec 32 := 0#32
  let c0_i32_784 : BitVec 32 := 0#32
  ![arg1.toNat, 1, 0, 0]
def k0_off197 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32_782 : BitVec 32 := 256#32
  let v1001 : BitVec 32 := Scalar.muli v19 c256_i32_782
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c512_i32_10 : BitVec 32 := 512#32
  let v30 : BitVec 32 := Scalar.muli v29 c512_i32_10
  let c496_i32 : BitVec 32 := 496#32
  let v956 : BitVec 32 := Scalar.addi v30 c496_i32
  let v1002 : BitVec 32 := Scalar.addi v1001 v956
  let v1003 : BitVec 32 := Scalar.subi v1002 v36
  let v1004 : BitVec 32 := v1003
  let c0_i32_785 : BitVec 32 := 0#32
  ![v1004.toNat, 0]

def k0_chk1_0 (i : grid0.Coords) (v36 : BitVec 32) (v40 : BitVec 32) : Prop :=
  (∀ (k0_h1 : k0_cond1 i v40 = 1#1), 16 ∣ (k0_mult1 i v40).toNat) ∧
  (∀ (k0_h1 : k0_cond1 i v40 = 1#1), ∀ a, (k0_off4 i v40) a + S16x2048.size a ≤ S512x2048.size a) ∧
  (∀ (k0_h2 : k0_cond2 i v36 v40 = 1#1), 16 ∣ (k0_mult2 i v36).toNat) ∧
  (∀ (k0_h2 : k0_cond2 i v36 v40 = 1#1), ∀ a, (k0_off6 i v36) a + S16x2048.size a ≤ S1024x2048.size a) ∧
  (∀ (k0_h4 : k0_cond4 i v40 = 1#1), 16 ∣ (k0_mult3 i v40).toNat) ∧
  (∀ (k0_h4 : k0_cond4 i v40 = 1#1), ∀ a, (k0_off10 i v40) a + S16x2048.size a ≤ S512x2048.size a) ∧
  (∀ (k0_h5 : k0_cond5 i v36 v40 = 1#1), 16 ∣ (k0_mult4 i v36).toNat) ∧
  (∀ (k0_h5 : k0_cond5 i v36 v40 = 1#1), ∀ a, (k0_off12 i v36) a + S16x2048.size a ≤ S1024x2048.size a) ∧
  (∀ (k0_h7 : k0_cond7 i v40 = 1#1), 16 ∣ (k0_mult5 i v40).toNat) ∧
  (∀ (k0_h7 : k0_cond7 i v40 = 1#1), ∀ a, (k0_off19 i v40) a + S16x2048.size a ≤ S512x2048.size a) ∧
  (∀ (k0_h8 : k0_cond8 i v36 v40 = 1#1), 16 ∣ (k0_mult6 i v36).toNat) ∧
  (∀ (k0_h8 : k0_cond8 i v36 v40 = 1#1), ∀ a, (k0_off21 i v36) a + S16x2048.size a ≤ S1024x2048.size a) ∧
  (∀ (k0_h10 : k0_cond10 i v40 = 1#1), 16 ∣ (k0_mult7 i v40).toNat) ∧
  (∀ (k0_h10 : k0_cond10 i v40 = 1#1), ∀ a, (k0_off26 i v40) a + S16x2048.size a ≤ S512x2048.size a) ∧
  (∀ (k0_h11 : k0_cond11 i v36 v40 = 1#1), 16 ∣ (k0_mult8 i v36).toNat) ∧
  (∀ (k0_h11 : k0_cond11 i v36 v40 = 1#1), ∀ a, (k0_off28 i v36) a + S16x2048.size a ≤ S1024x2048.size a) ∧
  (∀ (k0_h13 : k0_cond13 i v40 = 1#1), 16 ∣ (k0_mult9 i v40).toNat) ∧
  (∀ (k0_h13 : k0_cond13 i v40 = 1#1), ∀ a, (k0_off33 i v40) a + S16x2048.size a ≤ S512x2048.size a) ∧
  (∀ (k0_h14 : k0_cond14 i v36 v40 = 1#1), 16 ∣ (k0_mult10 i v36).toNat) ∧
  (∀ (k0_h14 : k0_cond14 i v36 v40 = 1#1), ∀ a, (k0_off35 i v36) a + S16x2048.size a ≤ S1024x2048.size a) ∧
  (∀ (k0_h16 : k0_cond16 i v40 = 1#1), 16 ∣ (k0_mult11 i v40).toNat) ∧
  (∀ (k0_h16 : k0_cond16 i v40 = 1#1), ∀ a, (k0_off39 i v40) a + S16x2048.size a ≤ S512x2048.size a) ∧
  (∀ (k0_h17 : k0_cond17 i v36 v40 = 1#1), 16 ∣ (k0_mult12 i v36).toNat) ∧
  (∀ (k0_h17 : k0_cond17 i v36 v40 = 1#1), ∀ a, (k0_off41 i v36) a + S16x2048.size a ≤ S1024x2048.size a) ∧
  (∀ (k0_h19 : k0_cond19 i v40 = 1#1), 16 ∣ (k0_mult13 i v40).toNat) ∧
  (∀ (k0_h19 : k0_cond19 i v40 = 1#1), ∀ a, (k0_off45 i v40) a + S16x2048.size a ≤ S512x2048.size a) ∧
  (∀ (k0_h20 : k0_cond20 i v36 v40 = 1#1), 16 ∣ (k0_mult14 i v36).toNat) ∧
  (∀ (k0_h20 : k0_cond20 i v36 v40 = 1#1), ∀ a, (k0_off47 i v36) a + S16x2048.size a ≤ S1024x2048.size a) ∧
  (∀ (k0_h22 : k0_cond22 i v40 = 1#1), 16 ∣ (k0_mult15 i v40).toNat) ∧
  (∀ (k0_h22 : k0_cond22 i v40 = 1#1), ∀ a, (k0_off51 i v40) a + S16x2048.size a ≤ S512x2048.size a) ∧
  (∀ (k0_h23 : k0_cond23 i v36 v40 = 1#1), 16 ∣ (k0_mult16 i v36).toNat) ∧
  (∀ (k0_h23 : k0_cond23 i v36 v40 = 1#1), ∀ a, (k0_off53 i v36) a + S16x2048.size a ≤ S1024x2048.size a)
def k0_chk1_1 (i : grid0.Coords) (v36 : BitVec 32) (v40 : BitVec 32) : Prop :=
  (∀ (k0_h25 : k0_cond25 i v40 = 1#1), 16 ∣ (k0_mult17 i v40).toNat) ∧
  (∀ (k0_h25 : k0_cond25 i v40 = 1#1), ∀ a, (k0_off57 i v40) a + S16x2048.size a ≤ S512x2048.size a) ∧
  (∀ (k0_h26 : k0_cond26 i v36 v40 = 1#1), 16 ∣ (k0_mult18 i v36).toNat) ∧
  (∀ (k0_h26 : k0_cond26 i v36 v40 = 1#1), ∀ a, (k0_off59 i v36) a + S16x2048.size a ≤ S1024x2048.size a) ∧
  (∀ (k0_h28 : k0_cond28 i v40 = 1#1), 16 ∣ (k0_mult19 i v40).toNat) ∧
  (∀ (k0_h28 : k0_cond28 i v40 = 1#1), ∀ a, (k0_off63 i v40) a + S16x2048.size a ≤ S512x2048.size a) ∧
  (∀ (k0_h29 : k0_cond29 i v36 v40 = 1#1), 16 ∣ (k0_mult20 i v36).toNat) ∧
  (∀ (k0_h29 : k0_cond29 i v36 v40 = 1#1), ∀ a, (k0_off65 i v36) a + S16x2048.size a ≤ S1024x2048.size a) ∧
  (∀ (k0_h31 : k0_cond31 i v40 = 1#1), 16 ∣ (k0_mult21 i v40).toNat) ∧
  (∀ (k0_h31 : k0_cond31 i v40 = 1#1), ∀ a, (k0_off69 i v40) a + S16x2048.size a ≤ S512x2048.size a) ∧
  (∀ (k0_h32 : k0_cond32 i v36 v40 = 1#1), 16 ∣ (k0_mult22 i v36).toNat) ∧
  (∀ (k0_h32 : k0_cond32 i v36 v40 = 1#1), ∀ a, (k0_off71 i v36) a + S16x2048.size a ≤ S1024x2048.size a) ∧
  (∀ (k0_h34 : k0_cond34 i v40 = 1#1), 16 ∣ (k0_mult23 i v40).toNat) ∧
  (∀ (k0_h34 : k0_cond34 i v40 = 1#1), ∀ a, (k0_off75 i v40) a + S16x2048.size a ≤ S512x2048.size a) ∧
  (∀ (k0_h35 : k0_cond35 i v36 v40 = 1#1), 16 ∣ (k0_mult24 i v36).toNat) ∧
  (∀ (k0_h35 : k0_cond35 i v36 v40 = 1#1), ∀ a, (k0_off77 i v36) a + S16x2048.size a ≤ S1024x2048.size a) ∧
  (∀ (k0_h37 : k0_cond37 i v40 = 1#1), 16 ∣ (k0_mult25 i v40).toNat) ∧
  (∀ (k0_h37 : k0_cond37 i v40 = 1#1), ∀ a, (k0_off81 i v40) a + S16x2048.size a ≤ S512x2048.size a) ∧
  (∀ (k0_h38 : k0_cond38 i v36 v40 = 1#1), 16 ∣ (k0_mult26 i v36).toNat) ∧
  (∀ (k0_h38 : k0_cond38 i v36 v40 = 1#1), ∀ a, (k0_off83 i v36) a + S16x2048.size a ≤ S1024x2048.size a) ∧
  (∀ (k0_h40 : k0_cond40 i v40 = 1#1), 16 ∣ (k0_mult27 i v40).toNat) ∧
  (∀ (k0_h40 : k0_cond40 i v40 = 1#1), ∀ a, (k0_off87 i v40) a + S16x2048.size a ≤ S512x2048.size a) ∧
  (∀ (k0_h41 : k0_cond41 i v36 v40 = 1#1), 16 ∣ (k0_mult28 i v36).toNat) ∧
  (∀ (k0_h41 : k0_cond41 i v36 v40 = 1#1), ∀ a, (k0_off89 i v36) a + S16x2048.size a ≤ S1024x2048.size a) ∧
  (∀ (k0_h43 : k0_cond43 i v40 = 1#1), 16 ∣ (k0_mult29 i v40).toNat) ∧
  (∀ (k0_h43 : k0_cond43 i v40 = 1#1), ∀ a, (k0_off93 i v40) a + S16x2048.size a ≤ S512x2048.size a) ∧
  (∀ (k0_h44 : k0_cond44 i v36 v40 = 1#1), 16 ∣ (k0_mult30 i v36).toNat) ∧
  (∀ (k0_h44 : k0_cond44 i v36 v40 = 1#1), ∀ a, (k0_off95 i v36) a + S16x2048.size a ≤ S1024x2048.size a) ∧
  (∀ (k0_h46 : k0_cond46 i v40 = 1#1), 16 ∣ (k0_mult31 i v40).toNat) ∧
  (∀ (k0_h46 : k0_cond46 i v40 = 1#1), ∀ a, (k0_off99 i v40) a + S16x2048.size a ≤ S512x2048.size a) ∧
  (∀ (k0_h47 : k0_cond47 i v36 v40 = 1#1), 16 ∣ (k0_mult32 i v36).toNat) ∧
  (∀ (k0_h47 : k0_cond47 i v36 v40 = 1#1), ∀ a, (k0_off101 i v36) a + S16x2048.size a ≤ S1024x2048.size a)
def k0_chk1_2 (i : grid0.Coords) (v36 : BitVec 32) (v40 : BitVec 32) : Prop :=
  (∀ (k0_h49 : k0_cond49 i v40 = 1#1), 16 ∣ (k0_mult33 i v40).toNat) ∧
  (∀ (k0_h49 : k0_cond49 i v40 = 1#1), ∀ a, (k0_off105 i v40) a + S16x2048.size a ≤ S512x2048.size a) ∧
  (∀ (k0_h50 : k0_cond50 i v36 v40 = 1#1), 16 ∣ (k0_mult34 i v36).toNat) ∧
  (∀ (k0_h50 : k0_cond50 i v36 v40 = 1#1), ∀ a, (k0_off107 i v36) a + S16x2048.size a ≤ S1024x2048.size a) ∧
  (∀ (k0_h52 : k0_cond52 i v40 = 1#1), 16 ∣ (k0_mult35 i v40).toNat) ∧
  (∀ (k0_h52 : k0_cond52 i v40 = 1#1), ∀ a, (k0_off111 i v40) a + S16x2048.size a ≤ S512x2048.size a) ∧
  (∀ (k0_h53 : k0_cond53 i v36 v40 = 1#1), 16 ∣ (k0_mult36 i v36).toNat) ∧
  (∀ (k0_h53 : k0_cond53 i v36 v40 = 1#1), ∀ a, (k0_off113 i v36) a + S16x2048.size a ≤ S1024x2048.size a) ∧
  (∀ (k0_h55 : k0_cond55 i v40 = 1#1), 16 ∣ (k0_mult37 i v40).toNat) ∧
  (∀ (k0_h55 : k0_cond55 i v40 = 1#1), ∀ a, (k0_off117 i v40) a + S16x2048.size a ≤ S512x2048.size a) ∧
  (∀ (k0_h56 : k0_cond56 i v36 v40 = 1#1), 16 ∣ (k0_mult38 i v36).toNat) ∧
  (∀ (k0_h56 : k0_cond56 i v36 v40 = 1#1), ∀ a, (k0_off119 i v36) a + S16x2048.size a ≤ S1024x2048.size a) ∧
  (∀ (k0_h58 : k0_cond58 i v40 = 1#1), 16 ∣ (k0_mult39 i v40).toNat) ∧
  (∀ (k0_h58 : k0_cond58 i v40 = 1#1), ∀ a, (k0_off123 i v40) a + S16x2048.size a ≤ S512x2048.size a) ∧
  (∀ (k0_h59 : k0_cond59 i v36 v40 = 1#1), 16 ∣ (k0_mult40 i v36).toNat) ∧
  (∀ (k0_h59 : k0_cond59 i v36 v40 = 1#1), ∀ a, (k0_off125 i v36) a + S16x2048.size a ≤ S1024x2048.size a) ∧
  (∀ (k0_h61 : k0_cond61 i v40 = 1#1), 16 ∣ (k0_mult41 i v40).toNat) ∧
  (∀ (k0_h61 : k0_cond61 i v40 = 1#1), ∀ a, (k0_off129 i v40) a + S16x2048.size a ≤ S512x2048.size a) ∧
  (∀ (k0_h62 : k0_cond62 i v36 v40 = 1#1), 16 ∣ (k0_mult42 i v36).toNat) ∧
  (∀ (k0_h62 : k0_cond62 i v36 v40 = 1#1), ∀ a, (k0_off131 i v36) a + S16x2048.size a ≤ S1024x2048.size a) ∧
  (∀ (k0_h64 : k0_cond64 i v40 = 1#1), 16 ∣ (k0_mult43 i v40).toNat) ∧
  (∀ (k0_h64 : k0_cond64 i v40 = 1#1), ∀ a, (k0_off135 i v40) a + S16x2048.size a ≤ S512x2048.size a) ∧
  (∀ (k0_h65 : k0_cond65 i v36 v40 = 1#1), 16 ∣ (k0_mult44 i v36).toNat) ∧
  (∀ (k0_h65 : k0_cond65 i v36 v40 = 1#1), ∀ a, (k0_off137 i v36) a + S16x2048.size a ≤ S1024x2048.size a) ∧
  (∀ (k0_h67 : k0_cond67 i v40 = 1#1), 16 ∣ (k0_mult45 i v40).toNat) ∧
  (∀ (k0_h67 : k0_cond67 i v40 = 1#1), ∀ a, (k0_off141 i v40) a + S16x2048.size a ≤ S512x2048.size a) ∧
  (∀ (k0_h68 : k0_cond68 i v36 v40 = 1#1), 16 ∣ (k0_mult46 i v36).toNat) ∧
  (∀ (k0_h68 : k0_cond68 i v36 v40 = 1#1), ∀ a, (k0_off143 i v36) a + S16x2048.size a ≤ S1024x2048.size a) ∧
  (∀ (k0_h70 : k0_cond70 i v40 = 1#1), 16 ∣ (k0_mult47 i v40).toNat) ∧
  (∀ (k0_h70 : k0_cond70 i v40 = 1#1), ∀ a, (k0_off147 i v40) a + S16x2048.size a ≤ S512x2048.size a) ∧
  (∀ (k0_h71 : k0_cond71 i v36 v40 = 1#1), 16 ∣ (k0_mult48 i v36).toNat) ∧
  (∀ (k0_h71 : k0_cond71 i v36 v40 = 1#1), ∀ a, (k0_off149 i v36) a + S16x2048.size a ≤ S1024x2048.size a)
def k0_chk1_3 (i : grid0.Coords) (v36 : BitVec 32) (v40 : BitVec 32) : Prop :=
  (∀ (k0_h73 : k0_cond73 i v40 = 1#1), 16 ∣ (k0_mult49 i v40).toNat) ∧
  (∀ (k0_h73 : k0_cond73 i v40 = 1#1), ∀ a, (k0_off153 i v40) a + S16x2048.size a ≤ S512x2048.size a) ∧
  (∀ (k0_h74 : k0_cond74 i v36 v40 = 1#1), 16 ∣ (k0_mult50 i v36).toNat) ∧
  (∀ (k0_h74 : k0_cond74 i v36 v40 = 1#1), ∀ a, (k0_off155 i v36) a + S16x2048.size a ≤ S1024x2048.size a) ∧
  (∀ (k0_h76 : k0_cond76 i v40 = 1#1), 16 ∣ (k0_mult51 i v40).toNat) ∧
  (∀ (k0_h76 : k0_cond76 i v40 = 1#1), ∀ a, (k0_off159 i v40) a + S16x2048.size a ≤ S512x2048.size a) ∧
  (∀ (k0_h77 : k0_cond77 i v36 v40 = 1#1), 16 ∣ (k0_mult52 i v36).toNat) ∧
  (∀ (k0_h77 : k0_cond77 i v36 v40 = 1#1), ∀ a, (k0_off161 i v36) a + S16x2048.size a ≤ S1024x2048.size a) ∧
  (∀ (k0_h79 : k0_cond79 i v40 = 1#1), 16 ∣ (k0_mult53 i v40).toNat) ∧
  (∀ (k0_h79 : k0_cond79 i v40 = 1#1), ∀ a, (k0_off165 i v40) a + S16x2048.size a ≤ S512x2048.size a) ∧
  (∀ (k0_h80 : k0_cond80 i v36 v40 = 1#1), 16 ∣ (k0_mult54 i v36).toNat) ∧
  (∀ (k0_h80 : k0_cond80 i v36 v40 = 1#1), ∀ a, (k0_off167 i v36) a + S16x2048.size a ≤ S1024x2048.size a) ∧
  (∀ (k0_h82 : k0_cond82 i v40 = 1#1), 16 ∣ (k0_mult55 i v40).toNat) ∧
  (∀ (k0_h82 : k0_cond82 i v40 = 1#1), ∀ a, (k0_off171 i v40) a + S16x2048.size a ≤ S512x2048.size a) ∧
  (∀ (k0_h83 : k0_cond83 i v36 v40 = 1#1), 16 ∣ (k0_mult56 i v36).toNat) ∧
  (∀ (k0_h83 : k0_cond83 i v36 v40 = 1#1), ∀ a, (k0_off173 i v36) a + S16x2048.size a ≤ S1024x2048.size a) ∧
  (∀ (k0_h85 : k0_cond85 i v40 = 1#1), 16 ∣ (k0_mult57 i v40).toNat) ∧
  (∀ (k0_h85 : k0_cond85 i v40 = 1#1), ∀ a, (k0_off177 i v40) a + S16x2048.size a ≤ S512x2048.size a) ∧
  (∀ (k0_h86 : k0_cond86 i v36 v40 = 1#1), 16 ∣ (k0_mult58 i v36).toNat) ∧
  (∀ (k0_h86 : k0_cond86 i v36 v40 = 1#1), ∀ a, (k0_off179 i v36) a + S16x2048.size a ≤ S1024x2048.size a) ∧
  (∀ (k0_h88 : k0_cond88 i v40 = 1#1), 16 ∣ (k0_mult59 i v40).toNat) ∧
  (∀ (k0_h88 : k0_cond88 i v40 = 1#1), ∀ a, (k0_off183 i v40) a + S16x2048.size a ≤ S512x2048.size a) ∧
  (∀ (k0_h89 : k0_cond89 i v36 v40 = 1#1), 16 ∣ (k0_mult60 i v36).toNat) ∧
  (∀ (k0_h89 : k0_cond89 i v36 v40 = 1#1), ∀ a, (k0_off185 i v36) a + S16x2048.size a ≤ S1024x2048.size a) ∧
  (∀ (k0_h91 : k0_cond91 i v40 = 1#1), 16 ∣ (k0_mult61 i v40).toNat) ∧
  (∀ (k0_h91 : k0_cond91 i v40 = 1#1), ∀ a, (k0_off189 i v40) a + S16x2048.size a ≤ S512x2048.size a) ∧
  (∀ (k0_h92 : k0_cond92 i v36 v40 = 1#1), 16 ∣ (k0_mult62 i v36).toNat) ∧
  (∀ (k0_h92 : k0_cond92 i v36 v40 = 1#1), ∀ a, (k0_off191 i v36) a + S16x2048.size a ≤ S1024x2048.size a) ∧
  (∀ (k0_h94 : k0_cond94 i v40 = 1#1), 16 ∣ (k0_mult63 i v40).toNat) ∧
  (∀ (k0_h94 : k0_cond94 i v40 = 1#1), ∀ a, (k0_off195 i v40) a + S16x2048.size a ≤ S512x2048.size a) ∧
  (∀ (k0_h95 : k0_cond95 i v36 v40 = 1#1), 16 ∣ (k0_mult64 i v36).toNat) ∧
  (∀ (k0_h95 : k0_cond95 i v36 v40 = 1#1), ∀ a, (k0_off197 i v36) a + S16x2048.size a ≤ S1024x2048.size a)
def k0_chk1 (i : grid0.Coords) (v36 : BitVec 32) (v40 : BitVec 32) : Prop :=
  k0_chk1_0 i v36 v40 ∧
  k0_chk1_1 i v36 v40 ∧
  k0_chk1_2 i v36 v40 ∧
  k0_chk1_3 i v36 v40
theorem k0_mult1_dvd : ∀ (i : grid0.Coords) (v36 : BitVec 32) (v40 : BitVec 32) (k0_hw1 : k0_chk1 i v36 v40), ∀ (k0_h1 : k0_cond1 i v40 = 1#1), 16 ∣ (k0_mult1 i v40).toNat := fun i v36 v40 k0_hw1 k0_h1 => k0_hw1.1.1 k0_h1
theorem k0_off4_inb : ∀ (i : grid0.Coords) (v36 : BitVec 32) (v40 : BitVec 32) (k0_hw1 : k0_chk1 i v36 v40), ∀ (k0_h1 : k0_cond1 i v40 = 1#1), ∀ a, (k0_off4 i v40) a + S16x2048.size a ≤ S512x2048.size a := fun i v36 v40 k0_hw1 k0_h1 => k0_hw1.1.2.1 k0_h1
theorem k0_mult2_dvd : ∀ (i : grid0.Coords) (v36 : BitVec 32) (v40 : BitVec 32) (k0_hw1 : k0_chk1 i v36 v40), ∀ (k0_h2 : k0_cond2 i v36 v40 = 1#1), 16 ∣ (k0_mult2 i v36).toNat := fun i v36 v40 k0_hw1 k0_h2 => k0_hw1.1.2.2.1 k0_h2
theorem k0_off6_inb : ∀ (i : grid0.Coords) (v36 : BitVec 32) (v40 : BitVec 32) (k0_hw1 : k0_chk1 i v36 v40), ∀ (k0_h2 : k0_cond2 i v36 v40 = 1#1), ∀ a, (k0_off6 i v36) a + S16x2048.size a ≤ S1024x2048.size a := fun i v36 v40 k0_hw1 k0_h2 => k0_hw1.1.2.2.2.1 k0_h2
theorem k0_mult3_dvd : ∀ (i : grid0.Coords) (v36 : BitVec 32) (v40 : BitVec 32) (k0_hw1 : k0_chk1 i v36 v40), ∀ (k0_h4 : k0_cond4 i v40 = 1#1), 16 ∣ (k0_mult3 i v40).toNat := fun i v36 v40 k0_hw1 k0_h4 => k0_hw1.1.2.2.2.2.1 k0_h4
theorem k0_off10_inb : ∀ (i : grid0.Coords) (v36 : BitVec 32) (v40 : BitVec 32) (k0_hw1 : k0_chk1 i v36 v40), ∀ (k0_h4 : k0_cond4 i v40 = 1#1), ∀ a, (k0_off10 i v40) a + S16x2048.size a ≤ S512x2048.size a := fun i v36 v40 k0_hw1 k0_h4 => k0_hw1.1.2.2.2.2.2.1 k0_h4
theorem k0_mult4_dvd : ∀ (i : grid0.Coords) (v36 : BitVec 32) (v40 : BitVec 32) (k0_hw1 : k0_chk1 i v36 v40), ∀ (k0_h5 : k0_cond5 i v36 v40 = 1#1), 16 ∣ (k0_mult4 i v36).toNat := fun i v36 v40 k0_hw1 k0_h5 => k0_hw1.1.2.2.2.2.2.2.1 k0_h5
theorem k0_off12_inb : ∀ (i : grid0.Coords) (v36 : BitVec 32) (v40 : BitVec 32) (k0_hw1 : k0_chk1 i v36 v40), ∀ (k0_h5 : k0_cond5 i v36 v40 = 1#1), ∀ a, (k0_off12 i v36) a + S16x2048.size a ≤ S1024x2048.size a := fun i v36 v40 k0_hw1 k0_h5 => k0_hw1.1.2.2.2.2.2.2.2.1 k0_h5
theorem k0_mult5_dvd : ∀ (i : grid0.Coords) (v36 : BitVec 32) (v40 : BitVec 32) (k0_hw1 : k0_chk1 i v36 v40), ∀ (k0_h7 : k0_cond7 i v40 = 1#1), 16 ∣ (k0_mult5 i v40).toNat := fun i v36 v40 k0_hw1 k0_h7 => k0_hw1.1.2.2.2.2.2.2.2.2.1 k0_h7
theorem k0_off19_inb : ∀ (i : grid0.Coords) (v36 : BitVec 32) (v40 : BitVec 32) (k0_hw1 : k0_chk1 i v36 v40), ∀ (k0_h7 : k0_cond7 i v40 = 1#1), ∀ a, (k0_off19 i v40) a + S16x2048.size a ≤ S512x2048.size a := fun i v36 v40 k0_hw1 k0_h7 => k0_hw1.1.2.2.2.2.2.2.2.2.2.1 k0_h7
theorem k0_mult6_dvd : ∀ (i : grid0.Coords) (v36 : BitVec 32) (v40 : BitVec 32) (k0_hw1 : k0_chk1 i v36 v40), ∀ (k0_h8 : k0_cond8 i v36 v40 = 1#1), 16 ∣ (k0_mult6 i v36).toNat := fun i v36 v40 k0_hw1 k0_h8 => k0_hw1.1.2.2.2.2.2.2.2.2.2.2.1 k0_h8
theorem k0_off21_inb : ∀ (i : grid0.Coords) (v36 : BitVec 32) (v40 : BitVec 32) (k0_hw1 : k0_chk1 i v36 v40), ∀ (k0_h8 : k0_cond8 i v36 v40 = 1#1), ∀ a, (k0_off21 i v36) a + S16x2048.size a ≤ S1024x2048.size a := fun i v36 v40 k0_hw1 k0_h8 => k0_hw1.1.2.2.2.2.2.2.2.2.2.2.2.1 k0_h8
theorem k0_mult7_dvd : ∀ (i : grid0.Coords) (v36 : BitVec 32) (v40 : BitVec 32) (k0_hw1 : k0_chk1 i v36 v40), ∀ (k0_h10 : k0_cond10 i v40 = 1#1), 16 ∣ (k0_mult7 i v40).toNat := fun i v36 v40 k0_hw1 k0_h10 => k0_hw1.1.2.2.2.2.2.2.2.2.2.2.2.2.1 k0_h10
theorem k0_off26_inb : ∀ (i : grid0.Coords) (v36 : BitVec 32) (v40 : BitVec 32) (k0_hw1 : k0_chk1 i v36 v40), ∀ (k0_h10 : k0_cond10 i v40 = 1#1), ∀ a, (k0_off26 i v40) a + S16x2048.size a ≤ S512x2048.size a := fun i v36 v40 k0_hw1 k0_h10 => k0_hw1.1.2.2.2.2.2.2.2.2.2.2.2.2.2.1 k0_h10
theorem k0_mult8_dvd : ∀ (i : grid0.Coords) (v36 : BitVec 32) (v40 : BitVec 32) (k0_hw1 : k0_chk1 i v36 v40), ∀ (k0_h11 : k0_cond11 i v36 v40 = 1#1), 16 ∣ (k0_mult8 i v36).toNat := fun i v36 v40 k0_hw1 k0_h11 => k0_hw1.1.2.2.2.2.2.2.2.2.2.2.2.2.2.2.1 k0_h11
theorem k0_off28_inb : ∀ (i : grid0.Coords) (v36 : BitVec 32) (v40 : BitVec 32) (k0_hw1 : k0_chk1 i v36 v40), ∀ (k0_h11 : k0_cond11 i v36 v40 = 1#1), ∀ a, (k0_off28 i v36) a + S16x2048.size a ≤ S1024x2048.size a := fun i v36 v40 k0_hw1 k0_h11 => k0_hw1.1.2.2.2.2.2.2.2.2.2.2.2.2.2.2.2.1 k0_h11
theorem k0_mult9_dvd : ∀ (i : grid0.Coords) (v36 : BitVec 32) (v40 : BitVec 32) (k0_hw1 : k0_chk1 i v36 v40), ∀ (k0_h13 : k0_cond13 i v40 = 1#1), 16 ∣ (k0_mult9 i v40).toNat := fun i v36 v40 k0_hw1 k0_h13 => k0_hw1.1.2.2.2.2.2.2.2.2.2.2.2.2.2.2.2.2.1 k0_h13
theorem k0_off33_inb : ∀ (i : grid0.Coords) (v36 : BitVec 32) (v40 : BitVec 32) (k0_hw1 : k0_chk1 i v36 v40), ∀ (k0_h13 : k0_cond13 i v40 = 1#1), ∀ a, (k0_off33 i v40) a + S16x2048.size a ≤ S512x2048.size a := fun i v36 v40 k0_hw1 k0_h13 => k0_hw1.1.2.2.2.2.2.2.2.2.2.2.2.2.2.2.2.2.2.1 k0_h13
theorem k0_mult10_dvd : ∀ (i : grid0.Coords) (v36 : BitVec 32) (v40 : BitVec 32) (k0_hw1 : k0_chk1 i v36 v40), ∀ (k0_h14 : k0_cond14 i v36 v40 = 1#1), 16 ∣ (k0_mult10 i v36).toNat := fun i v36 v40 k0_hw1 k0_h14 => k0_hw1.1.2.2.2.2.2.2.2.2.2.2.2.2.2.2.2.2.2.2.1 k0_h14
theorem k0_off35_inb : ∀ (i : grid0.Coords) (v36 : BitVec 32) (v40 : BitVec 32) (k0_hw1 : k0_chk1 i v36 v40), ∀ (k0_h14 : k0_cond14 i v36 v40 = 1#1), ∀ a, (k0_off35 i v36) a + S16x2048.size a ≤ S1024x2048.size a := fun i v36 v40 k0_hw1 k0_h14 => k0_hw1.1.2.2.2.2.2.2.2.2.2.2.2.2.2.2.2.2.2.2.2.1 k0_h14
theorem k0_mult11_dvd : ∀ (i : grid0.Coords) (v36 : BitVec 32) (v40 : BitVec 32) (k0_hw1 : k0_chk1 i v36 v40), ∀ (k0_h16 : k0_cond16 i v40 = 1#1), 16 ∣ (k0_mult11 i v40).toNat := fun i v36 v40 k0_hw1 k0_h16 => k0_hw1.1.2.2.2.2.2.2.2.2.2.2.2.2.2.2.2.2.2.2.2.2.1 k0_h16
theorem k0_off39_inb : ∀ (i : grid0.Coords) (v36 : BitVec 32) (v40 : BitVec 32) (k0_hw1 : k0_chk1 i v36 v40), ∀ (k0_h16 : k0_cond16 i v40 = 1#1), ∀ a, (k0_off39 i v40) a + S16x2048.size a ≤ S512x2048.size a := fun i v36 v40 k0_hw1 k0_h16 => k0_hw1.1.2.2.2.2.2.2.2.2.2.2.2.2.2.2.2.2.2.2.2.2.2.1 k0_h16
theorem k0_mult12_dvd : ∀ (i : grid0.Coords) (v36 : BitVec 32) (v40 : BitVec 32) (k0_hw1 : k0_chk1 i v36 v40), ∀ (k0_h17 : k0_cond17 i v36 v40 = 1#1), 16 ∣ (k0_mult12 i v36).toNat := fun i v36 v40 k0_hw1 k0_h17 => k0_hw1.1.2.2.2.2.2.2.2.2.2.2.2.2.2.2.2.2.2.2.2.2.2.2.1 k0_h17
theorem k0_off41_inb : ∀ (i : grid0.Coords) (v36 : BitVec 32) (v40 : BitVec 32) (k0_hw1 : k0_chk1 i v36 v40), ∀ (k0_h17 : k0_cond17 i v36 v40 = 1#1), ∀ a, (k0_off41 i v36) a + S16x2048.size a ≤ S1024x2048.size a := fun i v36 v40 k0_hw1 k0_h17 => k0_hw1.1.2.2.2.2.2.2.2.2.2.2.2.2.2.2.2.2.2.2.2.2.2.2.2.1 k0_h17
theorem k0_mult13_dvd : ∀ (i : grid0.Coords) (v36 : BitVec 32) (v40 : BitVec 32) (k0_hw1 : k0_chk1 i v36 v40), ∀ (k0_h19 : k0_cond19 i v40 = 1#1), 16 ∣ (k0_mult13 i v40).toNat := fun i v36 v40 k0_hw1 k0_h19 => k0_hw1.1.2.2.2.2.2.2.2.2.2.2.2.2.2.2.2.2.2.2.2.2.2.2.2.2.1 k0_h19
theorem k0_off45_inb : ∀ (i : grid0.Coords) (v36 : BitVec 32) (v40 : BitVec 32) (k0_hw1 : k0_chk1 i v36 v40), ∀ (k0_h19 : k0_cond19 i v40 = 1#1), ∀ a, (k0_off45 i v40) a + S16x2048.size a ≤ S512x2048.size a := fun i v36 v40 k0_hw1 k0_h19 => k0_hw1.1.2.2.2.2.2.2.2.2.2.2.2.2.2.2.2.2.2.2.2.2.2.2.2.2.2.1 k0_h19
theorem k0_mult14_dvd : ∀ (i : grid0.Coords) (v36 : BitVec 32) (v40 : BitVec 32) (k0_hw1 : k0_chk1 i v36 v40), ∀ (k0_h20 : k0_cond20 i v36 v40 = 1#1), 16 ∣ (k0_mult14 i v36).toNat := fun i v36 v40 k0_hw1 k0_h20 => k0_hw1.1.2.2.2.2.2.2.2.2.2.2.2.2.2.2.2.2.2.2.2.2.2.2.2.2.2.2.1 k0_h20
theorem k0_off47_inb : ∀ (i : grid0.Coords) (v36 : BitVec 32) (v40 : BitVec 32) (k0_hw1 : k0_chk1 i v36 v40), ∀ (k0_h20 : k0_cond20 i v36 v40 = 1#1), ∀ a, (k0_off47 i v36) a + S16x2048.size a ≤ S1024x2048.size a := fun i v36 v40 k0_hw1 k0_h20 => k0_hw1.1.2.2.2.2.2.2.2.2.2.2.2.2.2.2.2.2.2.2.2.2.2.2.2.2.2.2.2.1 k0_h20
theorem k0_mult15_dvd : ∀ (i : grid0.Coords) (v36 : BitVec 32) (v40 : BitVec 32) (k0_hw1 : k0_chk1 i v36 v40), ∀ (k0_h22 : k0_cond22 i v40 = 1#1), 16 ∣ (k0_mult15 i v40).toNat := fun i v36 v40 k0_hw1 k0_h22 => k0_hw1.1.2.2.2.2.2.2.2.2.2.2.2.2.2.2.2.2.2.2.2.2.2.2.2.2.2.2.2.2.1 k0_h22
theorem k0_off51_inb : ∀ (i : grid0.Coords) (v36 : BitVec 32) (v40 : BitVec 32) (k0_hw1 : k0_chk1 i v36 v40), ∀ (k0_h22 : k0_cond22 i v40 = 1#1), ∀ a, (k0_off51 i v40) a + S16x2048.size a ≤ S512x2048.size a := fun i v36 v40 k0_hw1 k0_h22 => k0_hw1.1.2.2.2.2.2.2.2.2.2.2.2.2.2.2.2.2.2.2.2.2.2.2.2.2.2.2.2.2.2.1 k0_h22
theorem k0_mult16_dvd : ∀ (i : grid0.Coords) (v36 : BitVec 32) (v40 : BitVec 32) (k0_hw1 : k0_chk1 i v36 v40), ∀ (k0_h23 : k0_cond23 i v36 v40 = 1#1), 16 ∣ (k0_mult16 i v36).toNat := fun i v36 v40 k0_hw1 k0_h23 => k0_hw1.1.2.2.2.2.2.2.2.2.2.2.2.2.2.2.2.2.2.2.2.2.2.2.2.2.2.2.2.2.2.2.1 k0_h23
theorem k0_off53_inb : ∀ (i : grid0.Coords) (v36 : BitVec 32) (v40 : BitVec 32) (k0_hw1 : k0_chk1 i v36 v40), ∀ (k0_h23 : k0_cond23 i v36 v40 = 1#1), ∀ a, (k0_off53 i v36) a + S16x2048.size a ≤ S1024x2048.size a := fun i v36 v40 k0_hw1 k0_h23 => k0_hw1.1.2.2.2.2.2.2.2.2.2.2.2.2.2.2.2.2.2.2.2.2.2.2.2.2.2.2.2.2.2.2.2 k0_h23
theorem k0_mult17_dvd : ∀ (i : grid0.Coords) (v36 : BitVec 32) (v40 : BitVec 32) (k0_hw1 : k0_chk1 i v36 v40), ∀ (k0_h25 : k0_cond25 i v40 = 1#1), 16 ∣ (k0_mult17 i v40).toNat := fun i v36 v40 k0_hw1 k0_h25 => k0_hw1.2.1.1 k0_h25
theorem k0_off57_inb : ∀ (i : grid0.Coords) (v36 : BitVec 32) (v40 : BitVec 32) (k0_hw1 : k0_chk1 i v36 v40), ∀ (k0_h25 : k0_cond25 i v40 = 1#1), ∀ a, (k0_off57 i v40) a + S16x2048.size a ≤ S512x2048.size a := fun i v36 v40 k0_hw1 k0_h25 => k0_hw1.2.1.2.1 k0_h25
theorem k0_mult18_dvd : ∀ (i : grid0.Coords) (v36 : BitVec 32) (v40 : BitVec 32) (k0_hw1 : k0_chk1 i v36 v40), ∀ (k0_h26 : k0_cond26 i v36 v40 = 1#1), 16 ∣ (k0_mult18 i v36).toNat := fun i v36 v40 k0_hw1 k0_h26 => k0_hw1.2.1.2.2.1 k0_h26
theorem k0_off59_inb : ∀ (i : grid0.Coords) (v36 : BitVec 32) (v40 : BitVec 32) (k0_hw1 : k0_chk1 i v36 v40), ∀ (k0_h26 : k0_cond26 i v36 v40 = 1#1), ∀ a, (k0_off59 i v36) a + S16x2048.size a ≤ S1024x2048.size a := fun i v36 v40 k0_hw1 k0_h26 => k0_hw1.2.1.2.2.2.1 k0_h26
theorem k0_mult19_dvd : ∀ (i : grid0.Coords) (v36 : BitVec 32) (v40 : BitVec 32) (k0_hw1 : k0_chk1 i v36 v40), ∀ (k0_h28 : k0_cond28 i v40 = 1#1), 16 ∣ (k0_mult19 i v40).toNat := fun i v36 v40 k0_hw1 k0_h28 => k0_hw1.2.1.2.2.2.2.1 k0_h28
theorem k0_off63_inb : ∀ (i : grid0.Coords) (v36 : BitVec 32) (v40 : BitVec 32) (k0_hw1 : k0_chk1 i v36 v40), ∀ (k0_h28 : k0_cond28 i v40 = 1#1), ∀ a, (k0_off63 i v40) a + S16x2048.size a ≤ S512x2048.size a := fun i v36 v40 k0_hw1 k0_h28 => k0_hw1.2.1.2.2.2.2.2.1 k0_h28
theorem k0_mult20_dvd : ∀ (i : grid0.Coords) (v36 : BitVec 32) (v40 : BitVec 32) (k0_hw1 : k0_chk1 i v36 v40), ∀ (k0_h29 : k0_cond29 i v36 v40 = 1#1), 16 ∣ (k0_mult20 i v36).toNat := fun i v36 v40 k0_hw1 k0_h29 => k0_hw1.2.1.2.2.2.2.2.2.1 k0_h29
theorem k0_off65_inb : ∀ (i : grid0.Coords) (v36 : BitVec 32) (v40 : BitVec 32) (k0_hw1 : k0_chk1 i v36 v40), ∀ (k0_h29 : k0_cond29 i v36 v40 = 1#1), ∀ a, (k0_off65 i v36) a + S16x2048.size a ≤ S1024x2048.size a := fun i v36 v40 k0_hw1 k0_h29 => k0_hw1.2.1.2.2.2.2.2.2.2.1 k0_h29
theorem k0_mult21_dvd : ∀ (i : grid0.Coords) (v36 : BitVec 32) (v40 : BitVec 32) (k0_hw1 : k0_chk1 i v36 v40), ∀ (k0_h31 : k0_cond31 i v40 = 1#1), 16 ∣ (k0_mult21 i v40).toNat := fun i v36 v40 k0_hw1 k0_h31 => k0_hw1.2.1.2.2.2.2.2.2.2.2.1 k0_h31
theorem k0_off69_inb : ∀ (i : grid0.Coords) (v36 : BitVec 32) (v40 : BitVec 32) (k0_hw1 : k0_chk1 i v36 v40), ∀ (k0_h31 : k0_cond31 i v40 = 1#1), ∀ a, (k0_off69 i v40) a + S16x2048.size a ≤ S512x2048.size a := fun i v36 v40 k0_hw1 k0_h31 => k0_hw1.2.1.2.2.2.2.2.2.2.2.2.1 k0_h31
theorem k0_mult22_dvd : ∀ (i : grid0.Coords) (v36 : BitVec 32) (v40 : BitVec 32) (k0_hw1 : k0_chk1 i v36 v40), ∀ (k0_h32 : k0_cond32 i v36 v40 = 1#1), 16 ∣ (k0_mult22 i v36).toNat := fun i v36 v40 k0_hw1 k0_h32 => k0_hw1.2.1.2.2.2.2.2.2.2.2.2.2.1 k0_h32
theorem k0_off71_inb : ∀ (i : grid0.Coords) (v36 : BitVec 32) (v40 : BitVec 32) (k0_hw1 : k0_chk1 i v36 v40), ∀ (k0_h32 : k0_cond32 i v36 v40 = 1#1), ∀ a, (k0_off71 i v36) a + S16x2048.size a ≤ S1024x2048.size a := fun i v36 v40 k0_hw1 k0_h32 => k0_hw1.2.1.2.2.2.2.2.2.2.2.2.2.2.1 k0_h32
theorem k0_mult23_dvd : ∀ (i : grid0.Coords) (v36 : BitVec 32) (v40 : BitVec 32) (k0_hw1 : k0_chk1 i v36 v40), ∀ (k0_h34 : k0_cond34 i v40 = 1#1), 16 ∣ (k0_mult23 i v40).toNat := fun i v36 v40 k0_hw1 k0_h34 => k0_hw1.2.1.2.2.2.2.2.2.2.2.2.2.2.2.1 k0_h34
theorem k0_off75_inb : ∀ (i : grid0.Coords) (v36 : BitVec 32) (v40 : BitVec 32) (k0_hw1 : k0_chk1 i v36 v40), ∀ (k0_h34 : k0_cond34 i v40 = 1#1), ∀ a, (k0_off75 i v40) a + S16x2048.size a ≤ S512x2048.size a := fun i v36 v40 k0_hw1 k0_h34 => k0_hw1.2.1.2.2.2.2.2.2.2.2.2.2.2.2.2.1 k0_h34
theorem k0_mult24_dvd : ∀ (i : grid0.Coords) (v36 : BitVec 32) (v40 : BitVec 32) (k0_hw1 : k0_chk1 i v36 v40), ∀ (k0_h35 : k0_cond35 i v36 v40 = 1#1), 16 ∣ (k0_mult24 i v36).toNat := fun i v36 v40 k0_hw1 k0_h35 => k0_hw1.2.1.2.2.2.2.2.2.2.2.2.2.2.2.2.2.1 k0_h35
theorem k0_off77_inb : ∀ (i : grid0.Coords) (v36 : BitVec 32) (v40 : BitVec 32) (k0_hw1 : k0_chk1 i v36 v40), ∀ (k0_h35 : k0_cond35 i v36 v40 = 1#1), ∀ a, (k0_off77 i v36) a + S16x2048.size a ≤ S1024x2048.size a := fun i v36 v40 k0_hw1 k0_h35 => k0_hw1.2.1.2.2.2.2.2.2.2.2.2.2.2.2.2.2.2.1 k0_h35
theorem k0_mult25_dvd : ∀ (i : grid0.Coords) (v36 : BitVec 32) (v40 : BitVec 32) (k0_hw1 : k0_chk1 i v36 v40), ∀ (k0_h37 : k0_cond37 i v40 = 1#1), 16 ∣ (k0_mult25 i v40).toNat := fun i v36 v40 k0_hw1 k0_h37 => k0_hw1.2.1.2.2.2.2.2.2.2.2.2.2.2.2.2.2.2.2.1 k0_h37
theorem k0_off81_inb : ∀ (i : grid0.Coords) (v36 : BitVec 32) (v40 : BitVec 32) (k0_hw1 : k0_chk1 i v36 v40), ∀ (k0_h37 : k0_cond37 i v40 = 1#1), ∀ a, (k0_off81 i v40) a + S16x2048.size a ≤ S512x2048.size a := fun i v36 v40 k0_hw1 k0_h37 => k0_hw1.2.1.2.2.2.2.2.2.2.2.2.2.2.2.2.2.2.2.2.1 k0_h37
theorem k0_mult26_dvd : ∀ (i : grid0.Coords) (v36 : BitVec 32) (v40 : BitVec 32) (k0_hw1 : k0_chk1 i v36 v40), ∀ (k0_h38 : k0_cond38 i v36 v40 = 1#1), 16 ∣ (k0_mult26 i v36).toNat := fun i v36 v40 k0_hw1 k0_h38 => k0_hw1.2.1.2.2.2.2.2.2.2.2.2.2.2.2.2.2.2.2.2.2.1 k0_h38
theorem k0_off83_inb : ∀ (i : grid0.Coords) (v36 : BitVec 32) (v40 : BitVec 32) (k0_hw1 : k0_chk1 i v36 v40), ∀ (k0_h38 : k0_cond38 i v36 v40 = 1#1), ∀ a, (k0_off83 i v36) a + S16x2048.size a ≤ S1024x2048.size a := fun i v36 v40 k0_hw1 k0_h38 => k0_hw1.2.1.2.2.2.2.2.2.2.2.2.2.2.2.2.2.2.2.2.2.2.1 k0_h38
theorem k0_mult27_dvd : ∀ (i : grid0.Coords) (v36 : BitVec 32) (v40 : BitVec 32) (k0_hw1 : k0_chk1 i v36 v40), ∀ (k0_h40 : k0_cond40 i v40 = 1#1), 16 ∣ (k0_mult27 i v40).toNat := fun i v36 v40 k0_hw1 k0_h40 => k0_hw1.2.1.2.2.2.2.2.2.2.2.2.2.2.2.2.2.2.2.2.2.2.2.1 k0_h40
theorem k0_off87_inb : ∀ (i : grid0.Coords) (v36 : BitVec 32) (v40 : BitVec 32) (k0_hw1 : k0_chk1 i v36 v40), ∀ (k0_h40 : k0_cond40 i v40 = 1#1), ∀ a, (k0_off87 i v40) a + S16x2048.size a ≤ S512x2048.size a := fun i v36 v40 k0_hw1 k0_h40 => k0_hw1.2.1.2.2.2.2.2.2.2.2.2.2.2.2.2.2.2.2.2.2.2.2.2.1 k0_h40
theorem k0_mult28_dvd : ∀ (i : grid0.Coords) (v36 : BitVec 32) (v40 : BitVec 32) (k0_hw1 : k0_chk1 i v36 v40), ∀ (k0_h41 : k0_cond41 i v36 v40 = 1#1), 16 ∣ (k0_mult28 i v36).toNat := fun i v36 v40 k0_hw1 k0_h41 => k0_hw1.2.1.2.2.2.2.2.2.2.2.2.2.2.2.2.2.2.2.2.2.2.2.2.2.1 k0_h41
theorem k0_off89_inb : ∀ (i : grid0.Coords) (v36 : BitVec 32) (v40 : BitVec 32) (k0_hw1 : k0_chk1 i v36 v40), ∀ (k0_h41 : k0_cond41 i v36 v40 = 1#1), ∀ a, (k0_off89 i v36) a + S16x2048.size a ≤ S1024x2048.size a := fun i v36 v40 k0_hw1 k0_h41 => k0_hw1.2.1.2.2.2.2.2.2.2.2.2.2.2.2.2.2.2.2.2.2.2.2.2.2.2.1 k0_h41
theorem k0_mult29_dvd : ∀ (i : grid0.Coords) (v36 : BitVec 32) (v40 : BitVec 32) (k0_hw1 : k0_chk1 i v36 v40), ∀ (k0_h43 : k0_cond43 i v40 = 1#1), 16 ∣ (k0_mult29 i v40).toNat := fun i v36 v40 k0_hw1 k0_h43 => k0_hw1.2.1.2.2.2.2.2.2.2.2.2.2.2.2.2.2.2.2.2.2.2.2.2.2.2.2.1 k0_h43
theorem k0_off93_inb : ∀ (i : grid0.Coords) (v36 : BitVec 32) (v40 : BitVec 32) (k0_hw1 : k0_chk1 i v36 v40), ∀ (k0_h43 : k0_cond43 i v40 = 1#1), ∀ a, (k0_off93 i v40) a + S16x2048.size a ≤ S512x2048.size a := fun i v36 v40 k0_hw1 k0_h43 => k0_hw1.2.1.2.2.2.2.2.2.2.2.2.2.2.2.2.2.2.2.2.2.2.2.2.2.2.2.2.1 k0_h43
theorem k0_mult30_dvd : ∀ (i : grid0.Coords) (v36 : BitVec 32) (v40 : BitVec 32) (k0_hw1 : k0_chk1 i v36 v40), ∀ (k0_h44 : k0_cond44 i v36 v40 = 1#1), 16 ∣ (k0_mult30 i v36).toNat := fun i v36 v40 k0_hw1 k0_h44 => k0_hw1.2.1.2.2.2.2.2.2.2.2.2.2.2.2.2.2.2.2.2.2.2.2.2.2.2.2.2.2.1 k0_h44
theorem k0_off95_inb : ∀ (i : grid0.Coords) (v36 : BitVec 32) (v40 : BitVec 32) (k0_hw1 : k0_chk1 i v36 v40), ∀ (k0_h44 : k0_cond44 i v36 v40 = 1#1), ∀ a, (k0_off95 i v36) a + S16x2048.size a ≤ S1024x2048.size a := fun i v36 v40 k0_hw1 k0_h44 => k0_hw1.2.1.2.2.2.2.2.2.2.2.2.2.2.2.2.2.2.2.2.2.2.2.2.2.2.2.2.2.2.1 k0_h44
theorem k0_mult31_dvd : ∀ (i : grid0.Coords) (v36 : BitVec 32) (v40 : BitVec 32) (k0_hw1 : k0_chk1 i v36 v40), ∀ (k0_h46 : k0_cond46 i v40 = 1#1), 16 ∣ (k0_mult31 i v40).toNat := fun i v36 v40 k0_hw1 k0_h46 => k0_hw1.2.1.2.2.2.2.2.2.2.2.2.2.2.2.2.2.2.2.2.2.2.2.2.2.2.2.2.2.2.2.1 k0_h46
theorem k0_off99_inb : ∀ (i : grid0.Coords) (v36 : BitVec 32) (v40 : BitVec 32) (k0_hw1 : k0_chk1 i v36 v40), ∀ (k0_h46 : k0_cond46 i v40 = 1#1), ∀ a, (k0_off99 i v40) a + S16x2048.size a ≤ S512x2048.size a := fun i v36 v40 k0_hw1 k0_h46 => k0_hw1.2.1.2.2.2.2.2.2.2.2.2.2.2.2.2.2.2.2.2.2.2.2.2.2.2.2.2.2.2.2.2.1 k0_h46
theorem k0_mult32_dvd : ∀ (i : grid0.Coords) (v36 : BitVec 32) (v40 : BitVec 32) (k0_hw1 : k0_chk1 i v36 v40), ∀ (k0_h47 : k0_cond47 i v36 v40 = 1#1), 16 ∣ (k0_mult32 i v36).toNat := fun i v36 v40 k0_hw1 k0_h47 => k0_hw1.2.1.2.2.2.2.2.2.2.2.2.2.2.2.2.2.2.2.2.2.2.2.2.2.2.2.2.2.2.2.2.2.1 k0_h47
theorem k0_off101_inb : ∀ (i : grid0.Coords) (v36 : BitVec 32) (v40 : BitVec 32) (k0_hw1 : k0_chk1 i v36 v40), ∀ (k0_h47 : k0_cond47 i v36 v40 = 1#1), ∀ a, (k0_off101 i v36) a + S16x2048.size a ≤ S1024x2048.size a := fun i v36 v40 k0_hw1 k0_h47 => k0_hw1.2.1.2.2.2.2.2.2.2.2.2.2.2.2.2.2.2.2.2.2.2.2.2.2.2.2.2.2.2.2.2.2.2 k0_h47
theorem k0_mult33_dvd : ∀ (i : grid0.Coords) (v36 : BitVec 32) (v40 : BitVec 32) (k0_hw1 : k0_chk1 i v36 v40), ∀ (k0_h49 : k0_cond49 i v40 = 1#1), 16 ∣ (k0_mult33 i v40).toNat := fun i v36 v40 k0_hw1 k0_h49 => k0_hw1.2.2.1.1 k0_h49
theorem k0_off105_inb : ∀ (i : grid0.Coords) (v36 : BitVec 32) (v40 : BitVec 32) (k0_hw1 : k0_chk1 i v36 v40), ∀ (k0_h49 : k0_cond49 i v40 = 1#1), ∀ a, (k0_off105 i v40) a + S16x2048.size a ≤ S512x2048.size a := fun i v36 v40 k0_hw1 k0_h49 => k0_hw1.2.2.1.2.1 k0_h49
theorem k0_mult34_dvd : ∀ (i : grid0.Coords) (v36 : BitVec 32) (v40 : BitVec 32) (k0_hw1 : k0_chk1 i v36 v40), ∀ (k0_h50 : k0_cond50 i v36 v40 = 1#1), 16 ∣ (k0_mult34 i v36).toNat := fun i v36 v40 k0_hw1 k0_h50 => k0_hw1.2.2.1.2.2.1 k0_h50
theorem k0_off107_inb : ∀ (i : grid0.Coords) (v36 : BitVec 32) (v40 : BitVec 32) (k0_hw1 : k0_chk1 i v36 v40), ∀ (k0_h50 : k0_cond50 i v36 v40 = 1#1), ∀ a, (k0_off107 i v36) a + S16x2048.size a ≤ S1024x2048.size a := fun i v36 v40 k0_hw1 k0_h50 => k0_hw1.2.2.1.2.2.2.1 k0_h50
theorem k0_mult35_dvd : ∀ (i : grid0.Coords) (v36 : BitVec 32) (v40 : BitVec 32) (k0_hw1 : k0_chk1 i v36 v40), ∀ (k0_h52 : k0_cond52 i v40 = 1#1), 16 ∣ (k0_mult35 i v40).toNat := fun i v36 v40 k0_hw1 k0_h52 => k0_hw1.2.2.1.2.2.2.2.1 k0_h52
theorem k0_off111_inb : ∀ (i : grid0.Coords) (v36 : BitVec 32) (v40 : BitVec 32) (k0_hw1 : k0_chk1 i v36 v40), ∀ (k0_h52 : k0_cond52 i v40 = 1#1), ∀ a, (k0_off111 i v40) a + S16x2048.size a ≤ S512x2048.size a := fun i v36 v40 k0_hw1 k0_h52 => k0_hw1.2.2.1.2.2.2.2.2.1 k0_h52
theorem k0_mult36_dvd : ∀ (i : grid0.Coords) (v36 : BitVec 32) (v40 : BitVec 32) (k0_hw1 : k0_chk1 i v36 v40), ∀ (k0_h53 : k0_cond53 i v36 v40 = 1#1), 16 ∣ (k0_mult36 i v36).toNat := fun i v36 v40 k0_hw1 k0_h53 => k0_hw1.2.2.1.2.2.2.2.2.2.1 k0_h53
theorem k0_off113_inb : ∀ (i : grid0.Coords) (v36 : BitVec 32) (v40 : BitVec 32) (k0_hw1 : k0_chk1 i v36 v40), ∀ (k0_h53 : k0_cond53 i v36 v40 = 1#1), ∀ a, (k0_off113 i v36) a + S16x2048.size a ≤ S1024x2048.size a := fun i v36 v40 k0_hw1 k0_h53 => k0_hw1.2.2.1.2.2.2.2.2.2.2.1 k0_h53
theorem k0_mult37_dvd : ∀ (i : grid0.Coords) (v36 : BitVec 32) (v40 : BitVec 32) (k0_hw1 : k0_chk1 i v36 v40), ∀ (k0_h55 : k0_cond55 i v40 = 1#1), 16 ∣ (k0_mult37 i v40).toNat := fun i v36 v40 k0_hw1 k0_h55 => k0_hw1.2.2.1.2.2.2.2.2.2.2.2.1 k0_h55
theorem k0_off117_inb : ∀ (i : grid0.Coords) (v36 : BitVec 32) (v40 : BitVec 32) (k0_hw1 : k0_chk1 i v36 v40), ∀ (k0_h55 : k0_cond55 i v40 = 1#1), ∀ a, (k0_off117 i v40) a + S16x2048.size a ≤ S512x2048.size a := fun i v36 v40 k0_hw1 k0_h55 => k0_hw1.2.2.1.2.2.2.2.2.2.2.2.2.1 k0_h55
theorem k0_mult38_dvd : ∀ (i : grid0.Coords) (v36 : BitVec 32) (v40 : BitVec 32) (k0_hw1 : k0_chk1 i v36 v40), ∀ (k0_h56 : k0_cond56 i v36 v40 = 1#1), 16 ∣ (k0_mult38 i v36).toNat := fun i v36 v40 k0_hw1 k0_h56 => k0_hw1.2.2.1.2.2.2.2.2.2.2.2.2.2.1 k0_h56
theorem k0_off119_inb : ∀ (i : grid0.Coords) (v36 : BitVec 32) (v40 : BitVec 32) (k0_hw1 : k0_chk1 i v36 v40), ∀ (k0_h56 : k0_cond56 i v36 v40 = 1#1), ∀ a, (k0_off119 i v36) a + S16x2048.size a ≤ S1024x2048.size a := fun i v36 v40 k0_hw1 k0_h56 => k0_hw1.2.2.1.2.2.2.2.2.2.2.2.2.2.2.1 k0_h56
theorem k0_mult39_dvd : ∀ (i : grid0.Coords) (v36 : BitVec 32) (v40 : BitVec 32) (k0_hw1 : k0_chk1 i v36 v40), ∀ (k0_h58 : k0_cond58 i v40 = 1#1), 16 ∣ (k0_mult39 i v40).toNat := fun i v36 v40 k0_hw1 k0_h58 => k0_hw1.2.2.1.2.2.2.2.2.2.2.2.2.2.2.2.1 k0_h58
theorem k0_off123_inb : ∀ (i : grid0.Coords) (v36 : BitVec 32) (v40 : BitVec 32) (k0_hw1 : k0_chk1 i v36 v40), ∀ (k0_h58 : k0_cond58 i v40 = 1#1), ∀ a, (k0_off123 i v40) a + S16x2048.size a ≤ S512x2048.size a := fun i v36 v40 k0_hw1 k0_h58 => k0_hw1.2.2.1.2.2.2.2.2.2.2.2.2.2.2.2.2.1 k0_h58
theorem k0_mult40_dvd : ∀ (i : grid0.Coords) (v36 : BitVec 32) (v40 : BitVec 32) (k0_hw1 : k0_chk1 i v36 v40), ∀ (k0_h59 : k0_cond59 i v36 v40 = 1#1), 16 ∣ (k0_mult40 i v36).toNat := fun i v36 v40 k0_hw1 k0_h59 => k0_hw1.2.2.1.2.2.2.2.2.2.2.2.2.2.2.2.2.2.1 k0_h59
theorem k0_off125_inb : ∀ (i : grid0.Coords) (v36 : BitVec 32) (v40 : BitVec 32) (k0_hw1 : k0_chk1 i v36 v40), ∀ (k0_h59 : k0_cond59 i v36 v40 = 1#1), ∀ a, (k0_off125 i v36) a + S16x2048.size a ≤ S1024x2048.size a := fun i v36 v40 k0_hw1 k0_h59 => k0_hw1.2.2.1.2.2.2.2.2.2.2.2.2.2.2.2.2.2.2.1 k0_h59
theorem k0_mult41_dvd : ∀ (i : grid0.Coords) (v36 : BitVec 32) (v40 : BitVec 32) (k0_hw1 : k0_chk1 i v36 v40), ∀ (k0_h61 : k0_cond61 i v40 = 1#1), 16 ∣ (k0_mult41 i v40).toNat := fun i v36 v40 k0_hw1 k0_h61 => k0_hw1.2.2.1.2.2.2.2.2.2.2.2.2.2.2.2.2.2.2.2.1 k0_h61
theorem k0_off129_inb : ∀ (i : grid0.Coords) (v36 : BitVec 32) (v40 : BitVec 32) (k0_hw1 : k0_chk1 i v36 v40), ∀ (k0_h61 : k0_cond61 i v40 = 1#1), ∀ a, (k0_off129 i v40) a + S16x2048.size a ≤ S512x2048.size a := fun i v36 v40 k0_hw1 k0_h61 => k0_hw1.2.2.1.2.2.2.2.2.2.2.2.2.2.2.2.2.2.2.2.2.1 k0_h61
theorem k0_mult42_dvd : ∀ (i : grid0.Coords) (v36 : BitVec 32) (v40 : BitVec 32) (k0_hw1 : k0_chk1 i v36 v40), ∀ (k0_h62 : k0_cond62 i v36 v40 = 1#1), 16 ∣ (k0_mult42 i v36).toNat := fun i v36 v40 k0_hw1 k0_h62 => k0_hw1.2.2.1.2.2.2.2.2.2.2.2.2.2.2.2.2.2.2.2.2.2.1 k0_h62
theorem k0_off131_inb : ∀ (i : grid0.Coords) (v36 : BitVec 32) (v40 : BitVec 32) (k0_hw1 : k0_chk1 i v36 v40), ∀ (k0_h62 : k0_cond62 i v36 v40 = 1#1), ∀ a, (k0_off131 i v36) a + S16x2048.size a ≤ S1024x2048.size a := fun i v36 v40 k0_hw1 k0_h62 => k0_hw1.2.2.1.2.2.2.2.2.2.2.2.2.2.2.2.2.2.2.2.2.2.2.1 k0_h62
theorem k0_mult43_dvd : ∀ (i : grid0.Coords) (v36 : BitVec 32) (v40 : BitVec 32) (k0_hw1 : k0_chk1 i v36 v40), ∀ (k0_h64 : k0_cond64 i v40 = 1#1), 16 ∣ (k0_mult43 i v40).toNat := fun i v36 v40 k0_hw1 k0_h64 => k0_hw1.2.2.1.2.2.2.2.2.2.2.2.2.2.2.2.2.2.2.2.2.2.2.2.1 k0_h64
theorem k0_off135_inb : ∀ (i : grid0.Coords) (v36 : BitVec 32) (v40 : BitVec 32) (k0_hw1 : k0_chk1 i v36 v40), ∀ (k0_h64 : k0_cond64 i v40 = 1#1), ∀ a, (k0_off135 i v40) a + S16x2048.size a ≤ S512x2048.size a := fun i v36 v40 k0_hw1 k0_h64 => k0_hw1.2.2.1.2.2.2.2.2.2.2.2.2.2.2.2.2.2.2.2.2.2.2.2.2.1 k0_h64
theorem k0_mult44_dvd : ∀ (i : grid0.Coords) (v36 : BitVec 32) (v40 : BitVec 32) (k0_hw1 : k0_chk1 i v36 v40), ∀ (k0_h65 : k0_cond65 i v36 v40 = 1#1), 16 ∣ (k0_mult44 i v36).toNat := fun i v36 v40 k0_hw1 k0_h65 => k0_hw1.2.2.1.2.2.2.2.2.2.2.2.2.2.2.2.2.2.2.2.2.2.2.2.2.2.1 k0_h65
theorem k0_off137_inb : ∀ (i : grid0.Coords) (v36 : BitVec 32) (v40 : BitVec 32) (k0_hw1 : k0_chk1 i v36 v40), ∀ (k0_h65 : k0_cond65 i v36 v40 = 1#1), ∀ a, (k0_off137 i v36) a + S16x2048.size a ≤ S1024x2048.size a := fun i v36 v40 k0_hw1 k0_h65 => k0_hw1.2.2.1.2.2.2.2.2.2.2.2.2.2.2.2.2.2.2.2.2.2.2.2.2.2.2.1 k0_h65
theorem k0_mult45_dvd : ∀ (i : grid0.Coords) (v36 : BitVec 32) (v40 : BitVec 32) (k0_hw1 : k0_chk1 i v36 v40), ∀ (k0_h67 : k0_cond67 i v40 = 1#1), 16 ∣ (k0_mult45 i v40).toNat := fun i v36 v40 k0_hw1 k0_h67 => k0_hw1.2.2.1.2.2.2.2.2.2.2.2.2.2.2.2.2.2.2.2.2.2.2.2.2.2.2.2.1 k0_h67
theorem k0_off141_inb : ∀ (i : grid0.Coords) (v36 : BitVec 32) (v40 : BitVec 32) (k0_hw1 : k0_chk1 i v36 v40), ∀ (k0_h67 : k0_cond67 i v40 = 1#1), ∀ a, (k0_off141 i v40) a + S16x2048.size a ≤ S512x2048.size a := fun i v36 v40 k0_hw1 k0_h67 => k0_hw1.2.2.1.2.2.2.2.2.2.2.2.2.2.2.2.2.2.2.2.2.2.2.2.2.2.2.2.2.1 k0_h67
theorem k0_mult46_dvd : ∀ (i : grid0.Coords) (v36 : BitVec 32) (v40 : BitVec 32) (k0_hw1 : k0_chk1 i v36 v40), ∀ (k0_h68 : k0_cond68 i v36 v40 = 1#1), 16 ∣ (k0_mult46 i v36).toNat := fun i v36 v40 k0_hw1 k0_h68 => k0_hw1.2.2.1.2.2.2.2.2.2.2.2.2.2.2.2.2.2.2.2.2.2.2.2.2.2.2.2.2.2.1 k0_h68
theorem k0_off143_inb : ∀ (i : grid0.Coords) (v36 : BitVec 32) (v40 : BitVec 32) (k0_hw1 : k0_chk1 i v36 v40), ∀ (k0_h68 : k0_cond68 i v36 v40 = 1#1), ∀ a, (k0_off143 i v36) a + S16x2048.size a ≤ S1024x2048.size a := fun i v36 v40 k0_hw1 k0_h68 => k0_hw1.2.2.1.2.2.2.2.2.2.2.2.2.2.2.2.2.2.2.2.2.2.2.2.2.2.2.2.2.2.2.1 k0_h68
theorem k0_mult47_dvd : ∀ (i : grid0.Coords) (v36 : BitVec 32) (v40 : BitVec 32) (k0_hw1 : k0_chk1 i v36 v40), ∀ (k0_h70 : k0_cond70 i v40 = 1#1), 16 ∣ (k0_mult47 i v40).toNat := fun i v36 v40 k0_hw1 k0_h70 => k0_hw1.2.2.1.2.2.2.2.2.2.2.2.2.2.2.2.2.2.2.2.2.2.2.2.2.2.2.2.2.2.2.2.1 k0_h70
theorem k0_off147_inb : ∀ (i : grid0.Coords) (v36 : BitVec 32) (v40 : BitVec 32) (k0_hw1 : k0_chk1 i v36 v40), ∀ (k0_h70 : k0_cond70 i v40 = 1#1), ∀ a, (k0_off147 i v40) a + S16x2048.size a ≤ S512x2048.size a := fun i v36 v40 k0_hw1 k0_h70 => k0_hw1.2.2.1.2.2.2.2.2.2.2.2.2.2.2.2.2.2.2.2.2.2.2.2.2.2.2.2.2.2.2.2.2.1 k0_h70
theorem k0_mult48_dvd : ∀ (i : grid0.Coords) (v36 : BitVec 32) (v40 : BitVec 32) (k0_hw1 : k0_chk1 i v36 v40), ∀ (k0_h71 : k0_cond71 i v36 v40 = 1#1), 16 ∣ (k0_mult48 i v36).toNat := fun i v36 v40 k0_hw1 k0_h71 => k0_hw1.2.2.1.2.2.2.2.2.2.2.2.2.2.2.2.2.2.2.2.2.2.2.2.2.2.2.2.2.2.2.2.2.2.1 k0_h71
theorem k0_off149_inb : ∀ (i : grid0.Coords) (v36 : BitVec 32) (v40 : BitVec 32) (k0_hw1 : k0_chk1 i v36 v40), ∀ (k0_h71 : k0_cond71 i v36 v40 = 1#1), ∀ a, (k0_off149 i v36) a + S16x2048.size a ≤ S1024x2048.size a := fun i v36 v40 k0_hw1 k0_h71 => k0_hw1.2.2.1.2.2.2.2.2.2.2.2.2.2.2.2.2.2.2.2.2.2.2.2.2.2.2.2.2.2.2.2.2.2.2 k0_h71
theorem k0_mult49_dvd : ∀ (i : grid0.Coords) (v36 : BitVec 32) (v40 : BitVec 32) (k0_hw1 : k0_chk1 i v36 v40), ∀ (k0_h73 : k0_cond73 i v40 = 1#1), 16 ∣ (k0_mult49 i v40).toNat := fun i v36 v40 k0_hw1 k0_h73 => k0_hw1.2.2.2.1 k0_h73
theorem k0_off153_inb : ∀ (i : grid0.Coords) (v36 : BitVec 32) (v40 : BitVec 32) (k0_hw1 : k0_chk1 i v36 v40), ∀ (k0_h73 : k0_cond73 i v40 = 1#1), ∀ a, (k0_off153 i v40) a + S16x2048.size a ≤ S512x2048.size a := fun i v36 v40 k0_hw1 k0_h73 => k0_hw1.2.2.2.2.1 k0_h73
theorem k0_mult50_dvd : ∀ (i : grid0.Coords) (v36 : BitVec 32) (v40 : BitVec 32) (k0_hw1 : k0_chk1 i v36 v40), ∀ (k0_h74 : k0_cond74 i v36 v40 = 1#1), 16 ∣ (k0_mult50 i v36).toNat := fun i v36 v40 k0_hw1 k0_h74 => k0_hw1.2.2.2.2.2.1 k0_h74
theorem k0_off155_inb : ∀ (i : grid0.Coords) (v36 : BitVec 32) (v40 : BitVec 32) (k0_hw1 : k0_chk1 i v36 v40), ∀ (k0_h74 : k0_cond74 i v36 v40 = 1#1), ∀ a, (k0_off155 i v36) a + S16x2048.size a ≤ S1024x2048.size a := fun i v36 v40 k0_hw1 k0_h74 => k0_hw1.2.2.2.2.2.2.1 k0_h74
theorem k0_mult51_dvd : ∀ (i : grid0.Coords) (v36 : BitVec 32) (v40 : BitVec 32) (k0_hw1 : k0_chk1 i v36 v40), ∀ (k0_h76 : k0_cond76 i v40 = 1#1), 16 ∣ (k0_mult51 i v40).toNat := fun i v36 v40 k0_hw1 k0_h76 => k0_hw1.2.2.2.2.2.2.2.1 k0_h76
theorem k0_off159_inb : ∀ (i : grid0.Coords) (v36 : BitVec 32) (v40 : BitVec 32) (k0_hw1 : k0_chk1 i v36 v40), ∀ (k0_h76 : k0_cond76 i v40 = 1#1), ∀ a, (k0_off159 i v40) a + S16x2048.size a ≤ S512x2048.size a := fun i v36 v40 k0_hw1 k0_h76 => k0_hw1.2.2.2.2.2.2.2.2.1 k0_h76
theorem k0_mult52_dvd : ∀ (i : grid0.Coords) (v36 : BitVec 32) (v40 : BitVec 32) (k0_hw1 : k0_chk1 i v36 v40), ∀ (k0_h77 : k0_cond77 i v36 v40 = 1#1), 16 ∣ (k0_mult52 i v36).toNat := fun i v36 v40 k0_hw1 k0_h77 => k0_hw1.2.2.2.2.2.2.2.2.2.1 k0_h77
theorem k0_off161_inb : ∀ (i : grid0.Coords) (v36 : BitVec 32) (v40 : BitVec 32) (k0_hw1 : k0_chk1 i v36 v40), ∀ (k0_h77 : k0_cond77 i v36 v40 = 1#1), ∀ a, (k0_off161 i v36) a + S16x2048.size a ≤ S1024x2048.size a := fun i v36 v40 k0_hw1 k0_h77 => k0_hw1.2.2.2.2.2.2.2.2.2.2.1 k0_h77
theorem k0_mult53_dvd : ∀ (i : grid0.Coords) (v36 : BitVec 32) (v40 : BitVec 32) (k0_hw1 : k0_chk1 i v36 v40), ∀ (k0_h79 : k0_cond79 i v40 = 1#1), 16 ∣ (k0_mult53 i v40).toNat := fun i v36 v40 k0_hw1 k0_h79 => k0_hw1.2.2.2.2.2.2.2.2.2.2.2.1 k0_h79
theorem k0_off165_inb : ∀ (i : grid0.Coords) (v36 : BitVec 32) (v40 : BitVec 32) (k0_hw1 : k0_chk1 i v36 v40), ∀ (k0_h79 : k0_cond79 i v40 = 1#1), ∀ a, (k0_off165 i v40) a + S16x2048.size a ≤ S512x2048.size a := fun i v36 v40 k0_hw1 k0_h79 => k0_hw1.2.2.2.2.2.2.2.2.2.2.2.2.1 k0_h79
theorem k0_mult54_dvd : ∀ (i : grid0.Coords) (v36 : BitVec 32) (v40 : BitVec 32) (k0_hw1 : k0_chk1 i v36 v40), ∀ (k0_h80 : k0_cond80 i v36 v40 = 1#1), 16 ∣ (k0_mult54 i v36).toNat := fun i v36 v40 k0_hw1 k0_h80 => k0_hw1.2.2.2.2.2.2.2.2.2.2.2.2.2.1 k0_h80
theorem k0_off167_inb : ∀ (i : grid0.Coords) (v36 : BitVec 32) (v40 : BitVec 32) (k0_hw1 : k0_chk1 i v36 v40), ∀ (k0_h80 : k0_cond80 i v36 v40 = 1#1), ∀ a, (k0_off167 i v36) a + S16x2048.size a ≤ S1024x2048.size a := fun i v36 v40 k0_hw1 k0_h80 => k0_hw1.2.2.2.2.2.2.2.2.2.2.2.2.2.2.1 k0_h80
theorem k0_mult55_dvd : ∀ (i : grid0.Coords) (v36 : BitVec 32) (v40 : BitVec 32) (k0_hw1 : k0_chk1 i v36 v40), ∀ (k0_h82 : k0_cond82 i v40 = 1#1), 16 ∣ (k0_mult55 i v40).toNat := fun i v36 v40 k0_hw1 k0_h82 => k0_hw1.2.2.2.2.2.2.2.2.2.2.2.2.2.2.2.1 k0_h82
theorem k0_off171_inb : ∀ (i : grid0.Coords) (v36 : BitVec 32) (v40 : BitVec 32) (k0_hw1 : k0_chk1 i v36 v40), ∀ (k0_h82 : k0_cond82 i v40 = 1#1), ∀ a, (k0_off171 i v40) a + S16x2048.size a ≤ S512x2048.size a := fun i v36 v40 k0_hw1 k0_h82 => k0_hw1.2.2.2.2.2.2.2.2.2.2.2.2.2.2.2.2.1 k0_h82
theorem k0_mult56_dvd : ∀ (i : grid0.Coords) (v36 : BitVec 32) (v40 : BitVec 32) (k0_hw1 : k0_chk1 i v36 v40), ∀ (k0_h83 : k0_cond83 i v36 v40 = 1#1), 16 ∣ (k0_mult56 i v36).toNat := fun i v36 v40 k0_hw1 k0_h83 => k0_hw1.2.2.2.2.2.2.2.2.2.2.2.2.2.2.2.2.2.1 k0_h83
theorem k0_off173_inb : ∀ (i : grid0.Coords) (v36 : BitVec 32) (v40 : BitVec 32) (k0_hw1 : k0_chk1 i v36 v40), ∀ (k0_h83 : k0_cond83 i v36 v40 = 1#1), ∀ a, (k0_off173 i v36) a + S16x2048.size a ≤ S1024x2048.size a := fun i v36 v40 k0_hw1 k0_h83 => k0_hw1.2.2.2.2.2.2.2.2.2.2.2.2.2.2.2.2.2.2.1 k0_h83
theorem k0_mult57_dvd : ∀ (i : grid0.Coords) (v36 : BitVec 32) (v40 : BitVec 32) (k0_hw1 : k0_chk1 i v36 v40), ∀ (k0_h85 : k0_cond85 i v40 = 1#1), 16 ∣ (k0_mult57 i v40).toNat := fun i v36 v40 k0_hw1 k0_h85 => k0_hw1.2.2.2.2.2.2.2.2.2.2.2.2.2.2.2.2.2.2.2.1 k0_h85
theorem k0_off177_inb : ∀ (i : grid0.Coords) (v36 : BitVec 32) (v40 : BitVec 32) (k0_hw1 : k0_chk1 i v36 v40), ∀ (k0_h85 : k0_cond85 i v40 = 1#1), ∀ a, (k0_off177 i v40) a + S16x2048.size a ≤ S512x2048.size a := fun i v36 v40 k0_hw1 k0_h85 => k0_hw1.2.2.2.2.2.2.2.2.2.2.2.2.2.2.2.2.2.2.2.2.1 k0_h85
theorem k0_mult58_dvd : ∀ (i : grid0.Coords) (v36 : BitVec 32) (v40 : BitVec 32) (k0_hw1 : k0_chk1 i v36 v40), ∀ (k0_h86 : k0_cond86 i v36 v40 = 1#1), 16 ∣ (k0_mult58 i v36).toNat := fun i v36 v40 k0_hw1 k0_h86 => k0_hw1.2.2.2.2.2.2.2.2.2.2.2.2.2.2.2.2.2.2.2.2.2.1 k0_h86
theorem k0_off179_inb : ∀ (i : grid0.Coords) (v36 : BitVec 32) (v40 : BitVec 32) (k0_hw1 : k0_chk1 i v36 v40), ∀ (k0_h86 : k0_cond86 i v36 v40 = 1#1), ∀ a, (k0_off179 i v36) a + S16x2048.size a ≤ S1024x2048.size a := fun i v36 v40 k0_hw1 k0_h86 => k0_hw1.2.2.2.2.2.2.2.2.2.2.2.2.2.2.2.2.2.2.2.2.2.2.1 k0_h86
theorem k0_mult59_dvd : ∀ (i : grid0.Coords) (v36 : BitVec 32) (v40 : BitVec 32) (k0_hw1 : k0_chk1 i v36 v40), ∀ (k0_h88 : k0_cond88 i v40 = 1#1), 16 ∣ (k0_mult59 i v40).toNat := fun i v36 v40 k0_hw1 k0_h88 => k0_hw1.2.2.2.2.2.2.2.2.2.2.2.2.2.2.2.2.2.2.2.2.2.2.2.1 k0_h88
theorem k0_off183_inb : ∀ (i : grid0.Coords) (v36 : BitVec 32) (v40 : BitVec 32) (k0_hw1 : k0_chk1 i v36 v40), ∀ (k0_h88 : k0_cond88 i v40 = 1#1), ∀ a, (k0_off183 i v40) a + S16x2048.size a ≤ S512x2048.size a := fun i v36 v40 k0_hw1 k0_h88 => k0_hw1.2.2.2.2.2.2.2.2.2.2.2.2.2.2.2.2.2.2.2.2.2.2.2.2.1 k0_h88
theorem k0_mult60_dvd : ∀ (i : grid0.Coords) (v36 : BitVec 32) (v40 : BitVec 32) (k0_hw1 : k0_chk1 i v36 v40), ∀ (k0_h89 : k0_cond89 i v36 v40 = 1#1), 16 ∣ (k0_mult60 i v36).toNat := fun i v36 v40 k0_hw1 k0_h89 => k0_hw1.2.2.2.2.2.2.2.2.2.2.2.2.2.2.2.2.2.2.2.2.2.2.2.2.2.1 k0_h89
theorem k0_off185_inb : ∀ (i : grid0.Coords) (v36 : BitVec 32) (v40 : BitVec 32) (k0_hw1 : k0_chk1 i v36 v40), ∀ (k0_h89 : k0_cond89 i v36 v40 = 1#1), ∀ a, (k0_off185 i v36) a + S16x2048.size a ≤ S1024x2048.size a := fun i v36 v40 k0_hw1 k0_h89 => k0_hw1.2.2.2.2.2.2.2.2.2.2.2.2.2.2.2.2.2.2.2.2.2.2.2.2.2.2.1 k0_h89
theorem k0_mult61_dvd : ∀ (i : grid0.Coords) (v36 : BitVec 32) (v40 : BitVec 32) (k0_hw1 : k0_chk1 i v36 v40), ∀ (k0_h91 : k0_cond91 i v40 = 1#1), 16 ∣ (k0_mult61 i v40).toNat := fun i v36 v40 k0_hw1 k0_h91 => k0_hw1.2.2.2.2.2.2.2.2.2.2.2.2.2.2.2.2.2.2.2.2.2.2.2.2.2.2.2.1 k0_h91
theorem k0_off189_inb : ∀ (i : grid0.Coords) (v36 : BitVec 32) (v40 : BitVec 32) (k0_hw1 : k0_chk1 i v36 v40), ∀ (k0_h91 : k0_cond91 i v40 = 1#1), ∀ a, (k0_off189 i v40) a + S16x2048.size a ≤ S512x2048.size a := fun i v36 v40 k0_hw1 k0_h91 => k0_hw1.2.2.2.2.2.2.2.2.2.2.2.2.2.2.2.2.2.2.2.2.2.2.2.2.2.2.2.2.1 k0_h91
theorem k0_mult62_dvd : ∀ (i : grid0.Coords) (v36 : BitVec 32) (v40 : BitVec 32) (k0_hw1 : k0_chk1 i v36 v40), ∀ (k0_h92 : k0_cond92 i v36 v40 = 1#1), 16 ∣ (k0_mult62 i v36).toNat := fun i v36 v40 k0_hw1 k0_h92 => k0_hw1.2.2.2.2.2.2.2.2.2.2.2.2.2.2.2.2.2.2.2.2.2.2.2.2.2.2.2.2.2.1 k0_h92
theorem k0_off191_inb : ∀ (i : grid0.Coords) (v36 : BitVec 32) (v40 : BitVec 32) (k0_hw1 : k0_chk1 i v36 v40), ∀ (k0_h92 : k0_cond92 i v36 v40 = 1#1), ∀ a, (k0_off191 i v36) a + S16x2048.size a ≤ S1024x2048.size a := fun i v36 v40 k0_hw1 k0_h92 => k0_hw1.2.2.2.2.2.2.2.2.2.2.2.2.2.2.2.2.2.2.2.2.2.2.2.2.2.2.2.2.2.2.1 k0_h92
theorem k0_mult63_dvd : ∀ (i : grid0.Coords) (v36 : BitVec 32) (v40 : BitVec 32) (k0_hw1 : k0_chk1 i v36 v40), ∀ (k0_h94 : k0_cond94 i v40 = 1#1), 16 ∣ (k0_mult63 i v40).toNat := fun i v36 v40 k0_hw1 k0_h94 => k0_hw1.2.2.2.2.2.2.2.2.2.2.2.2.2.2.2.2.2.2.2.2.2.2.2.2.2.2.2.2.2.2.2.1 k0_h94
theorem k0_off195_inb : ∀ (i : grid0.Coords) (v36 : BitVec 32) (v40 : BitVec 32) (k0_hw1 : k0_chk1 i v36 v40), ∀ (k0_h94 : k0_cond94 i v40 = 1#1), ∀ a, (k0_off195 i v40) a + S16x2048.size a ≤ S512x2048.size a := fun i v36 v40 k0_hw1 k0_h94 => k0_hw1.2.2.2.2.2.2.2.2.2.2.2.2.2.2.2.2.2.2.2.2.2.2.2.2.2.2.2.2.2.2.2.2.1 k0_h94
theorem k0_mult64_dvd : ∀ (i : grid0.Coords) (v36 : BitVec 32) (v40 : BitVec 32) (k0_hw1 : k0_chk1 i v36 v40), ∀ (k0_h95 : k0_cond95 i v36 v40 = 1#1), 16 ∣ (k0_mult64 i v36).toNat := fun i v36 v40 k0_hw1 k0_h95 => k0_hw1.2.2.2.2.2.2.2.2.2.2.2.2.2.2.2.2.2.2.2.2.2.2.2.2.2.2.2.2.2.2.2.2.2.1 k0_h95
theorem k0_off197_inb : ∀ (i : grid0.Coords) (v36 : BitVec 32) (v40 : BitVec 32) (k0_hw1 : k0_chk1 i v36 v40), ∀ (k0_h95 : k0_cond95 i v36 v40 = 1#1), ∀ a, (k0_off197 i v36) a + S16x2048.size a ≤ S1024x2048.size a := fun i v36 v40 k0_hw1 k0_h95 => k0_hw1.2.2.2.2.2.2.2.2.2.2.2.2.2.2.2.2.2.2.2.2.2.2.2.2.2.2.2.2.2.2.2.2.2.2 k0_h95

def k0_off198 (i : grid0.Coords) : Fin 4 → Nat :=
  let arg1 : BitVec 32 := BitVec.ofNat 32 (i 1).val
  let c1_i32_747 : BitVec 32 := 1#32
  let c0_i32_783 : BitVec 32 := 0#32
  let c0_i32_784 : BitVec 32 := 0#32
  ![arg1.toNat, 1, 0, 0]
def k0_off199 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c496_i32_782 : BitVec 32 := 496#32
  let v1001 : BitVec 32 := Scalar.addi v2 c496_i32_782
  let c0_i32_785 : BitVec 32 := 0#32
  ![v1001.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x2048 : Shape := ⟨3, ![4, 4096, 2048]⟩
abbrev S4x256x2048 : Shape := ⟨3, ![4, 256, 2048]⟩
abbrev S4x256 : Shape := ⟨2, ![4, 256]⟩
abbrev S4x128x2048 : Shape := ⟨3, ![4, 128, 2048]⟩
abbrev S4x128 : Shape := ⟨2, ![4, 128]⟩
abbrev S16384x2048 : Shape := ⟨2, ![16384, 2048]⟩
abbrev S4 : Shape := ⟨1, ![4]⟩
abbrev S_ : Shape := ⟨0, ![]⟩
abbrev S4x1 : Shape := ⟨2, ![4, 1]⟩
abbrev S1024 : Shape := ⟨1, ![1024]⟩
abbrev S1024x2048 : Shape := ⟨2, ![1024, 2048]⟩
abbrev S1024x1 : Shape := ⟨2, ![1024, 1]⟩
abbrev S512 : Shape := ⟨1, ![512]⟩
abbrev S512x2048 : Shape := ⟨2, ![512, 2048]⟩
abbrev S512x1 : Shape := ⟨2, ![512, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S4x256, .i32⟩
  | .hbm, ⟨3, _⟩ => ⟨S4x128x2048, .f32⟩
  | .hbm, ⟨4, _⟩ => ⟨S4x128, .i32⟩
  | .hbm, ⟨5, _⟩ => ⟨S16384x2048, .f32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S4x1, .i32⟩
  | .hbm, ⟨11, _⟩ => ⟨S4x256, .i32⟩
  | .hbm, ⟨12, _⟩ => ⟨S4x256, .i32⟩
  | .hbm, ⟨13, _⟩ => ⟨S1024, .i32⟩
  | .hbm, ⟨14, _⟩ => ⟨S1024x2048, .f32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S16384x2048, .f32⟩
  | .hbm, ⟨24, _⟩ => ⟨S4, .i32⟩
  | .hbm, ⟨25, _⟩ => ⟨S_, .i32⟩
  | .hbm, ⟨26, _⟩ => ⟨S4, .i32⟩
  | .hbm, ⟨27, _⟩ => ⟨S4, .i32⟩
  | .hbm, ⟨28, _⟩ => ⟨S4x1, .i32⟩
  | .hbm, ⟨29, _⟩ => ⟨S4x128, .i32⟩
  | .hbm, ⟨30, _⟩ => ⟨S4x128, .i32⟩
  | .hbm, ⟨31, _⟩ => ⟨S512, .i32⟩
  | .hbm, ⟨32, _⟩ => ⟨S512x2048, .f32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S512, .i32⟩
  | .hbm, ⟨40, _⟩ => ⟨S512x1, .i32⟩
  | .hbm, ⟨41, _⟩ => ⟨S16384x2048, .f32⟩
  | .hbm, ⟨42, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.Body.lean ====
module

public import proofs.«01_k».proof.Proof.Gen.KernelIdeal.Skeleton

/-!
# The tile's program, chunk by chunk

One tile's program as printed repeats the same seven steps for each of 32 chunks of sixteen rows. Here the steps are written
once, over the chunk's number, and the printed program is shown to be those steps in a row.
-/

@[expose] public section

noncomputable section

namespace Cert.Scatter

open Idealize.ShloMosaic Idealize.SL.Sem Cert.KernelIdeal Cert.KernelIdeal.Gen

variable {F : FTy → Type} [FloatOps F]

/-! ## The words the tile computes of its own place -/

/-- The tile's number: two per vector subcore. -/
def tileW (i : grid0.Coords) : BitVec 32 :=
  Scalar.addi (Scalar.muli (BitVec.ofNat 32 (i 1).val) 2#32) (BitVec.ofNat 32 (i 0).val)

/-- The first row of the flat text that the tile copies. -/
def flatW (i : grid0.Coords) : BitVec 32 := Scalar.muli (tileW i) 512#32

/-- The item the tile's rows belong to, as the kernel divides. -/
def itemW (i : grid0.Coords) : BitVec 32 :=
  Scalar.select
    (Scalar.andi
      (Scalar.cmpi .ne
        (Scalar.subi (Scalar.extui (Scalar.cmpi .sgt (tileW i) 0#32)) (Scalar.extui (Scalar.cmpi .slt (tileW i) 0#32)))
        (Scalar.subi (Scalar.extui (Scalar.cmpi .sgt 8#32 0#32)) (Scalar.extui (Scalar.cmpi .slt 8#32 0#32))))
      (Scalar.cmpi .ne (Scalar.remsi (tileW i) 8#32) 0#32))
    (Scalar.subi (Scalar.divsi (tileW i) 8#32) 1#32)
    (Scalar.divsi (tileW i) 8#32)

/-- What the kernel divides by when it takes the remainder. -/
def eightW : BitVec 32 := Scalar.select (Scalar.cmpi .eq 8#32 0#32) 1#32 8#32

/-- The tile's first row inside its item. -/
def rowW (i : grid0.Coords) : BitVec 32 :=
  Scalar.muli
    (Scalar.select
      (Scalar.andi
        (Scalar.xori (Scalar.cmpi .slt (Scalar.remsi (tileW i) eightW) 0#32) (Scalar.cmpi .slt eightW 0#32))
        (Scalar.cmpi .ne (Scalar.remsi (tileW i) eightW) 0#32))
      (Scalar.addi (Scalar.remsi (tileW i) eightW) eightW)
      (Scalar.remsi (tileW i) eightW))
    512#32

/-- The row inside the item at which chunk `c` (in rows) begins. -/
def chunkW (i : grid0.Coords) (c : BitVec 32) : BitVec 32 := Scalar.addi (rowW i) c

/-- Whether the chunk lies in the run of `n` rows from `v` on. -/
def inRun (i : grid0.Coords) (c v n : BitVec 32) : BitVec 1 :=
  Scalar.andi (Scalar.cmpi .sge (chunkW i c) v) (Scalar.cmpi .slt (chunkW i c) (Scalar.addi v n))

/-- The kernel's test: the chunk is audio. -/
def condA (i : grid0.Coords) (c a0 : BitVec 32) : BitVec 1 :=
  Scalar.cmpi .ne (Scalar.extui (inRun i c a0 128#32)) 0#32

/-- The kernel's test: the chunk is image and not audio. -/
def condB (i : grid0.Coords) (c v0 a0 : BitVec 32) : BitVec 1 :=
  Scalar.cmpi .ne (Scalar.extui (Scalar.andi (inRun i c v0 256#32) (Scalar.xori (inRun i c a0 128#32) 1#1))) 0#32

/-- The kernel's test: the chunk is neither. -/
def condC (i : grid0.Coords) (c v0 a0 : BitVec 32) : BitVec 1 :=
  Scalar.cmpi .ne (Scalar.extui (Scalar.xori (Scalar.ori (inRun i c v0 256#32) (inRun i c a0 128#32)) 1#1)) 0#32

/-- The row of the flat audio the chunk is read from. -/
def srcA (i : grid0.Coords) (c a0 : BitVec 32) : BitVec 32 :=
  Scalar.subi (Scalar.addi (Scalar.muli (itemW i) 128#32) (chunkW i c)) a0

/-- The row of the flat image the chunk is read from. -/
def srcB (i : grid0.Coords) (c v0 : BitVec 32) : BitVec 32 :=
  Scalar.subi (Scalar.addi (Scalar.muli (itemW i) 256#32) (chunkW i c)) v0

/-- The offsets of the audio rows. -/
def offA (i : grid0.Coords) (c a0 : BitVec 32) : Fin 2 → Nat := ![(srcA i c a0).toNat, 0]
/-- The offsets of the image rows. -/
def offB (i : grid0.Coords) (c v0 : BitVec 32) : Fin 2 → Nat := ![(srcB i c v0).toNat, 0]
/-- The offsets of the tile's slot `k % 3` in the shared scratch. -/
def offS (i : grid0.Coords) (k : Nat) : Fin 4 → Nat := ![(BitVec.ofNat 32 (i 1).val).toNat, k % 3, 0, 0]

/-- A slot's block lies in the shared scratch. -/
theorem offS_inb (i : grid0.Coords) (k : Nat) : ∀ a, offS i k a + S1x1x16x2048.size a ≤ S16x3x16x2048.size a := by
  have h1 : (i 1).val < 16 := (i 1).isLt
  have hk := Nat.mod_lt k (show 0 < 3 by omega)
  have h2 : (BitVec.ofNat 32 (i 1).val).toNat = (i 1).val := by simp; omega
  intro a
  fin_cases a
  · show (BitVec.ofNat 32 (i 1).val).toNat + 1 ≤ 16; omega
  · show k % 3 + 1 ≤ 3; omega
  · show 0 + 16 ≤ 16; omega
  · show 0 + 2048 ≤ 2048; omega

/-- The side condition of one chunk: its audio or image rows, where it takes them, are whole blocks of the array. -/
def ChunkOk (i : grid0.Coords) (v0 a0 : BitVec 32) (k : Nat) : Prop :=
  (condA i (BitVec.ofNat 32 (16 * k)) a0 = 1#1 → 16 ∣ (srcA i (BitVec.ofNat 32 (16 * k)) a0).toNat) ∧
  (condA i (BitVec.ofNat 32 (16 * k)) a0 = 1#1 →
    ∀ a, offA i (BitVec.ofNat 32 (16 * k)) a0 a + S16x2048.size a ≤ S512x2048.size a) ∧
  (condB i (BitVec.ofNat 32 (16 * k)) v0 a0 = 1#1 → 16 ∣ (srcB i (BitVec.ofNat 32 (16 * k)) v0).toNat) ∧
  (condB i (BitVec.ofNat 32 (16 * k)) v0 a0 = 1#1 →
    ∀ a, offB i (BitVec.ofNat 32 (16 * k)) v0 a + S16x2048.size a ≤ S1024x2048.size a)

/-- The side conditions of chunks `k` to `k + n`, nested as the kernel's check nests them. -/
def okFrom (i : grid0.Coords) (v0 a0 : BitVec 32) : Nat → Nat → Prop
  | 0, k =>
    (condA i (BitVec.ofNat 32 (16 * k)) a0 = 1#1 → 16 ∣ (srcA i (BitVec.ofNat 32 (16 * k)) a0).toNat) ∧
    (condA i (BitVec.ofNat 32 (16 * k)) a0 = 1#1 →
      ∀ a, offA i (BitVec.ofNat 32 (16 * k)) a0 a + S16x2048.size a ≤ S512x2048.size a) ∧
    (condB i (BitVec.ofNat 32 (16 * k)) v0 a0 = 1#1 → 16 ∣ (srcB i (BitVec.ofNat 32 (16 * k)) v0).toNat) ∧
    (condB i (BitVec.ofNat 32 (16 * k)) v0 a0 = 1#1 →
      ∀ a, offB i (BitVec.ofNat 32 (16 * k)) v0 a + S16x2048.size a ≤ S1024x2048.size a)
  | n + 1, k =>
    (condA i (BitVec.ofNat 32 (16 * k)) a0 = 1#1 → 16 ∣ (srcA i (BitVec.ofNat 32 (16 * k)) a0).toNat) ∧
    (condA i (BitVec.ofNat 32 (16 * k)) a0 = 1#1 →
      ∀ a, offA i (BitVec.ofNat 32 (16 * k)) a0 a + S16x2048.size a ≤ S512x2048.size a) ∧
    (condB i (BitVec.ofNat 32 (16 * k)) v0 a0 = 1#1 → 16 ∣ (srcB i (BitVec.ofNat 32 (16 * k)) v0).toNat) ∧
    (condB i (BitVec.ofNat 32 (16 * k)) v0 a0 = 1#1 →
      ∀ a, offB i (BitVec.ofNat 32 (16 * k)) v0 a + S16x2048.size a ≤ S1024x2048.size a) ∧
    okFrom i v0 a0 n (k + 1)

/-- The nested side conditions say the same of every chunk in the range. -/
theorem okFrom_iff (i : grid0.Coords) (v0 a0 : BitVec 32) (n : Nat) :
    ∀ k, okFrom i v0 a0 n k ↔ ∀ j, k ≤ j → j ≤ k + n → ChunkOk i v0 a0 j := by
  induction n with
  | zero =>
    intro k
    constructor
    · intro h j h1 h2
      obtain rfl : j = k := by omega
      exact h
    · intro h
      exact h k (le_refl _) (by omega)
  | succ n ih =>
    intro k
    constructor
    · rintro ⟨h1, h2, h3, h4, h5⟩ j hj hj'
      rcases Nat.lt_or_ge k j with hk | hk
      · exact (ih (k + 1)).mp h5 j hk (by omega)
      · obtain rfl : j = k := by omega
        exact ⟨h1, h2, h3, h4⟩
    · intro h
      obtain ⟨h1, h2, h3, h4⟩ := h k (le_refl _) (by omega)
      exact ⟨h1, h2, h3, h4, (ih (k + 1)).mpr fun j hj hj' => h j (by omega) (by omega)⟩

/-- The kernel's one check is the side condition of each of the 32 chunks. -/
theorem chk_iff (i : grid0.Coords) (v0 a0 : BitVec 32) :
    k0_chk1 i v0 a0 ↔ ∀ k, k < 32 → ChunkOk i v0 a0 k := by
  have h : k0_chk1 i v0 a0 ↔ (okFrom i v0 a0 7 0 ∧ okFrom i v0 a0 7 8 ∧ okFrom i v0 a0 7 16 ∧ okFrom i v0 a0 7 24) := Iff.rfl
  rw [h, okFrom_iff, okFrom_iff, okFrom_iff, okFrom_iff]
  constructor
  · rintro ⟨h1, h2, h3, h4⟩ k hk
    rcases Nat.lt_or_ge k 8 with h8 | h8
    · exact h1 k (by omega) (by omega)
    rcases Nat.lt_or_ge k 16 with h16 | h16
    · exact h2 k (by omega) (by omega)
    rcases Nat.lt_or_ge k 24 with h24 | h24
    · exact h3 k (by omega) (by omega)
    · exact h4 k (by omega) (by omega)
  · intro h
    exact ⟨fun j _ _ => h j (by omega), fun j _ _ => h j (by omega), fun j _ _ => h j (by omega), fun j _ _ => h j (by omega)⟩

end Cert.Scatter
-- ==== Proof.Words.lean ====
module

public import proofs.«01_k».proof.Proof.Body
public import Idealize.ShloMosaic.Lib.Affine

/-!
# The tile's index words as numbers

The tile's number, its first row, its item, the tests by which it picks the array a chunk is read from, and the rows it reads
from there, each as a plain number; and from them the kernel's side conditions, where the two indices it holds are in range.
-/

@[expose] public section

noncomputable section

namespace Cert.Scatter

open Idealize.ShloMosaic Idealize.SL.Sem Cert.KernelIdeal Cert.KernelIdeal.Gen
open Idealize.ShloMosaic.Affine (IsInt Holds Fails Term)

/-- The tile's number. -/
def tileN (i : grid0.Coords) : Nat := 2 * (i 1).val + (i 0).val

/-- There are 32 tiles. -/
theorem tileN_lt (i : grid0.Coords) : tileN i < 32 := by
  have h1 : (i 1).val < 16 := (i 1).isLt
  have h0 : (i 0).val < 2 := (i 0).isLt
  unfold tileN; omega

/-- The row inside its item at which the tile's chunk `k` begins. -/
def chunkN (i : grid0.Coords) (k : Nat) : Nat := 512 * (tileN i % 8) + 16 * k

/-- The row of the whole flat text at which the tile's chunk `k` begins. -/
def flatN (i : grid0.Coords) (k : Nat) : Nat := 512 * tileN i + 16 * k

/-- The tile's number word. -/
theorem isInt_tile (i : grid0.Coords) : IsInt (tileW i) (tileN i : Int) := by
  have h1 : (i 1).val < 16 := (i 1).isLt
  have h0 : (i 0).val < 2 := (i 0).isLt
  refine Affine.addi (Affine.muli (Affine.ofNat (i 1).val (e := ((i 1).val : Int)) ⟨rfl, by omega⟩)
    (Affine.ofNat 2 (e := 2) ⟨rfl, by omega⟩) (e := ((i 1).val : Int) * 2) ⟨by omega, by omega, by omega⟩)
    (Affine.ofNat (i 0).val (e := ((i 0).val : Int)) ⟨rfl, by omega⟩) ?_
  unfold tileN; push_cast; omega

/-- The word is the number. -/
theorem tileW_eq (i : grid0.Coords) : tileW i = BitVec.ofNat 32 (tileN i) := by
  apply BitVec.eq_of_toNat_eq
  have h := Affine.toNat_of (isInt_tile i) (by omega)
  have := tileN_lt i
  rw [BitVec.toNat_ofNat]; omega

/-- The item the tile's rows belong to. -/
theorem itemW_eq (i : grid0.Coords) : itemW i = BitVec.ofNat 32 (tileN i / 8) := by
  have h : ∀ n : Fin 32,
      Scalar.select
        (Scalar.andi
          (Scalar.cmpi .ne
            (Scalar.subi (Scalar.extui (Scalar.cmpi .sgt (BitVec.ofNat 32 n.val) 0#32))
              (Scalar.extui (Scalar.cmpi .slt (BitVec.ofNat 32 n.val) 0#32)))
            (Scalar.subi (Scalar.extui (Scalar.cmpi .sgt 8#32 0#32)) (Scalar.extui (Scalar.cmpi .slt 8#32 0#32))))
          (Scalar.cmpi .ne (Scalar.remsi (BitVec.ofNat 32 n.val) 8#32) 0#32))
        (Scalar.subi (Scalar.divsi (BitVec.ofNat 32 n.val) 8#32) 1#32)
        (Scalar.divsi (BitVec.ofNat 32 n.val) 8#32) = BitVec.ofNat 32 (n.val / 8) := by decide
  unfold itemW
  rw [tileW_eq]
  exact h ⟨tileN i, tileN_lt i⟩

/-- The tile's first row inside its item. -/
theorem rowW_eq (i : grid0.Coords) : rowW i = BitVec.ofNat 32 (512 * (tileN i % 8)) := by
  have h : ∀ n : Fin 32,
      Scalar.muli
        (Scalar.select
          (Scalar.andi
            (Scalar.xori (Scalar.cmpi .slt (Scalar.remsi (BitVec.ofNat 32 n.val) eightW) 0#32) (Scalar.cmpi .slt eightW 0#32))
            (Scalar.cmpi .ne (Scalar.remsi (BitVec.ofNat 32 n.val) eightW) 0#32))
          (Scalar.addi (Scalar.remsi (BitVec.ofNat 32 n.val) eightW) eightW)
          (Scalar.remsi (BitVec.ofNat 32 n.val) eightW))
        512#32 = BitVec.ofNat 32 (512 * (n.val % 8)) := by decide
  unfold rowW
  rw [tileW_eq]
  exact h ⟨tileN i, tileN_lt i⟩

theorem isInt_item (i : grid0.Coords) : IsInt (itemW i) ((tileN i / 8 : Nat) : Int) := by
  have := tileN_lt i
  rw [itemW_eq]
  exact Affine.ofNat _ ⟨rfl, by omega⟩

/-- The chunk's first row inside the item, as a word. -/
theorem isInt_chunk (i : grid0.Coords) (k : Nat) (hk : k < 32) :
    IsInt (chunkW i (BitVec.ofNat 32 (16 * k))) (chunkN i k : Int) := by
  have := tileN_lt i
  unfold chunkW
  rw [rowW_eq]
  refine Affine.addi (Affine.ofNat _ (e := ((512 * (tileN i % 8) : Nat) : Int)) ⟨rfl, by omega⟩)
    (Affine.ofNat _ (e := ((16 * k : Nat) : Int)) ⟨rfl, by omega⟩) ?_
  unfold chunkN; push_cast; omega

/-- A chunk begins inside its item. -/
theorem chunkN_lt (i : grid0.Coords) (k : Nat) (hk : k < 32) : chunkN i k + 16 ≤ 4096 := by
  unfold chunkN; omega

/-- The flat offset of chunk `k`. -/
theorem off17_eq (i : grid0.Coords) (k : Nat) (hk : k < 32) :
    k0_off17 i (BitVec.ofNat 32 (16 * k)) = ![flatN i k, 0] := by
  have hlt := tileN_lt i
  have h : IsInt (Scalar.addi (flatW i) (BitVec.ofNat 32 (16 * k))) (flatN i k : Int) := by
    refine Affine.addi (Affine.muli (isInt_tile i) (Affine.ofNat 512 (e := 512) ⟨rfl, by omega⟩)
      (e := (tileN i : Int) * 512) ⟨by omega, by omega, by omega⟩)
      (Affine.ofNat _ (e := ((16 * k : Nat) : Int)) ⟨rfl, by omega⟩) ?_
    unfold flatN; push_cast; omega
  have h2 := Affine.toNat_of h (by omega)
  have h3 : k0_off17 i (BitVec.ofNat 32 (16 * k)) = ![(Scalar.addi (flatW i) (BitVec.ofNat 32 (16 * k))).toNat, 0] := rfl
  rw [h3]
  congr 1
  omega

/-- Where the item's image indices begin. -/
theorem off1_eq (i : grid0.Coords) : k0_off1 i = ![256 * (tileN i / 8)] := by
  have hlt := tileN_lt i
  have h : IsInt (Scalar.muli (itemW i) 256#32) ((256 * (tileN i / 8) : Nat) : Int) :=
    Affine.muli (isInt_item i) (Affine.ofNat 256 (e := 256) ⟨rfl, by omega⟩) ⟨by push_cast; omega, by omega, by omega⟩
  have h2 := Affine.toNat_of h (by omega)
  have h3 : k0_off1 i = ![(Scalar.muli (itemW i) 256#32).toNat] := rfl
  rw [h3]
  congr 1
  omega

/-- Where the item's audio indices begin. -/
theorem off2_eq (i : grid0.Coords) : k0_off2 i = ![128 * (tileN i / 8)] := by
  have hlt := tileN_lt i
  have h : IsInt (Scalar.muli (itemW i) 128#32) ((128 * (tileN i / 8) : Nat) : Int) :=
    Affine.muli (isInt_item i) (Affine.ofNat 128 (e := 128) ⟨rfl, by omega⟩) ⟨by push_cast; omega, by omega, by omega⟩
  have h2 := Affine.toNat_of h (by omega)
  have h3 : k0_off2 i = ![(Scalar.muli (itemW i) 128#32).toNat] := rfl
  rw [h3]
  congr 1
  omega

section Tests

variable (i : grid0.Coords) (k : Nat) (hk : k < 32)

/-- An index word in range, read as a number. -/
theorem isInt_of_le {v : BitVec 32} (hv : v.toNat ≤ 4096) : IsInt v (v.toNat : Int) := by
  have h : v.toInt = (v.toNat : Int) := by rw [BitVec.toInt_eq_toNat_cond, if_pos (by omega)]
  have := Affine.word v
  rw [h] at this
  exact this

include hk

/-- The kernel's range test says whether the chunk's first row is in the run. -/
theorem inRun_iff {v : BitVec 32} (hv : v.toNat ≤ 4096) (n : Nat) (hn : n ≤ 4096) :
    inRun i (BitVec.ofNat 32 (16 * k)) v (BitVec.ofNat 32 n) = 1#1 ↔
      v.toNat ≤ chunkN i k ∧ chunkN i k < v.toNat + n := by
  have hc := isInt_chunk i k hk
  have hvi := isInt_of_le hv
  have hs : IsInt (Scalar.addi v (BitVec.ofNat 32 n)) ((v.toNat : Int) + n) :=
    Affine.addi hvi (Affine.ofNat n (e := (n : Int)) ⟨rfl, by omega⟩) ⟨rfl, by omega, by omega⟩
  constructor
  · intro h
    refine ⟨?_, ?_⟩
    · by_contra hlt
      exact Affine.andi_fails_left (Affine.sge_fails hc hvi (by omega)) (d := _) trivial h
    · by_contra hlt
      exact Affine.andi_fails_right (c := _) trivial (Affine.slt_fails hc hs (by omega)) h
  · rintro ⟨h1, h2⟩
    exact Affine.andi_holds (Affine.sge_holds hc hvi (by omega)) (Affine.slt_holds hc hs (by omega))

omit hk

private theorem widen_iff (c : BitVec 1) : Scalar.cmpi .ne (Scalar.extui c) 0#32 = 1#1 ↔ c = 1#1 := by
  rcases BitVec.eq_zero_or_eq_one c with rfl | rfl <;> decide

private theorem andNot_iff (c d : BitVec 1) : Scalar.andi c (Scalar.xori d 1#1) = 1#1 ↔ c = 1#1 ∧ ¬ d = 1#1 := by
  rcases BitVec.eq_zero_or_eq_one c with rfl | rfl <;> rcases BitVec.eq_zero_or_eq_one d with rfl | rfl <;> decide

private theorem notOr_iff (c d : BitVec 1) : Scalar.xori (Scalar.ori c d) 1#1 = 1#1 ↔ ¬ c = 1#1 ∧ ¬ d = 1#1 := by
  rcases BitVec.eq_zero_or_eq_one c with rfl | rfl <;> rcases BitVec.eq_zero_or_eq_one d with rfl | rfl <;> decide

include hk

/-- The kernel takes the chunk from the audio when it lies in the audio run. -/
theorem condA_iff {a0 : BitVec 32} (ha : a0.toNat ≤ 4096) :
    condA i (BitVec.ofNat 32 (16 * k)) a0 = 1#1 ↔ a0.toNat ≤ chunkN i k ∧ chunkN i k < a0.toNat + 128 := by
  unfold condA
  rw [widen_iff]
  exact inRun_iff i k hk ha 128 (by omega)

/-- The kernel takes the chunk from the image when it lies in the image run and not in the audio run. -/
theorem condB_iff {v0 a0 : BitVec 32} (hv : v0.toNat ≤ 4096) (ha : a0.toNat ≤ 4096) :
    condB i (BitVec.ofNat 32 (16 * k)) v0 a0 = 1#1 ↔
      (v0.toNat ≤ chunkN i k ∧ chunkN i k < v0.toNat + 256) ∧ ¬ (a0.toNat ≤ chunkN i k ∧ chunkN i k < a0.toNat + 128) := by
  unfold condB
  rw [widen_iff, andNot_iff]
  exact and_congr (inRun_iff i k hk hv 256 (by omega)) (not_congr (inRun_iff i k hk ha 128 (by omega)))

/-- The kernel takes the chunk from the text when it lies in neither run. -/
theorem condC_iff {v0 a0 : BitVec 32} (hv : v0.toNat ≤ 4096) (ha : a0.toNat ≤ 4096) :
    condC i (BitVec.ofNat 32 (16 * k)) v0 a0 = 1#1 ↔
      ¬ (v0.toNat ≤ chunkN i k ∧ chunkN i k < v0.toNat + 256) ∧ ¬ (a0.toNat ≤ chunkN i k ∧ chunkN i k < a0.toNat + 128) := by
  unfold condC
  rw [widen_iff, notOr_iff]
  exact and_congr (not_congr (inRun_iff i k hk hv 256 (by omega))) (not_congr (inRun_iff i k hk ha 128 (by omega)))

/-- The row of the flat audio an audio chunk is read from. -/
theorem srcA_eq {a0 : BitVec 32} (ha : a0.toNat ≤ 4096) (h : a0.toNat ≤ chunkN i k) :
    (srcA i (BitVec.ofNat 32 (16 * k)) a0).toNat = 128 * (tileN i / 8) + (chunkN i k - a0.toNat) := by
  have hlt := tileN_lt i
  have hck := chunkN_lt i k hk
  have hs : IsInt (srcA i (BitVec.ofNat 32 (16 * k)) a0) ((128 * (tileN i / 8) + (chunkN i k - a0.toNat) : Nat) : Int) := by
    refine Affine.subi (Affine.addi (Affine.muli (isInt_item i) (Affine.ofNat 128 (e := 128) ⟨rfl, by omega⟩)
      (e := ((tileN i / 8 : Nat) : Int) * 128) ⟨rfl, by omega, by omega⟩) (isInt_chunk i k hk)
      (e := ((tileN i / 8 : Nat) : Int) * 128 + chunkN i k) ⟨rfl, by omega, by omega⟩) (isInt_of_le ha) ?_
    refine ⟨?_, ?_, ?_⟩ <;> omega
  have := Affine.toNat_of hs (by omega)
  omega

/-- The row of the flat image an image chunk is read from. -/
theorem srcB_eq {v0 : BitVec 32} (hv : v0.toNat ≤ 4096) (h : v0.toNat ≤ chunkN i k) :
    (srcB i (BitVec.ofNat 32 (16 * k)) v0).toNat = 256 * (tileN i / 8) + (chunkN i k - v0.toNat) := by
  have hlt := tileN_lt i
  have hck := chunkN_lt i k hk
  have hs : IsInt (srcB i (BitVec.ofNat 32 (16 * k)) v0) ((256 * (tileN i / 8) + (chunkN i k - v0.toNat) : Nat) : Int) := by
    refine Affine.subi (Affine.addi (Affine.muli (isInt_item i) (Affine.ofNat 256 (e := 256) ⟨rfl, by omega⟩)
      (e := ((tileN i / 8 : Nat) : Int) * 256) ⟨rfl, by omega, by omega⟩) (isInt_chunk i k hk)
      (e := ((tileN i / 8 : Nat) : Int) * 256 + chunkN i k) ⟨rfl, by omega, by omega⟩) (isInt_of_le hv) ?_
    refine ⟨?_, ?_, ?_⟩ <;> omega
  have := Affine.toNat_of hs (by omega)
  omega

/-- The kernel's side conditions hold of every chunk when the two indices are in range and multiples of sixteen. -/
theorem chunkOk {v0 a0 : BitVec 32} (hv : v0.toNat + 256 ≤ 4096) (hv16 : 16 ∣ v0.toNat)
    (ha : a0.toNat + 128 ≤ 4096) (ha16 : 16 ∣ a0.toNat) : ChunkOk i v0 a0 k := by
  have hlt := tileN_lt i
  have hA : condA i (BitVec.ofNat 32 (16 * k)) a0 = 1#1 →
      (srcA i (BitVec.ofNat 32 (16 * k)) a0).toNat = 128 * (tileN i / 8) + (chunkN i k - a0.toNat) ∧
        chunkN i k - a0.toNat + 16 ≤ 128 ∧ 16 ∣ chunkN i k - a0.toNat := by
    intro h
    obtain ⟨h1, h2⟩ := (condA_iff i k hk (by omega)).mp h
    refine ⟨srcA_eq i k hk (by omega) h1, ?_⟩
    unfold chunkN at *; omega
  have hB : condB i (BitVec.ofNat 32 (16 * k)) v0 a0 = 1#1 →
      (srcB i (BitVec.ofNat 32 (16 * k)) v0).toNat = 256 * (tileN i / 8) + (chunkN i k - v0.toNat) ∧
        chunkN i k - v0.toNat + 16 ≤ 256 ∧ 16 ∣ chunkN i k - v0.toNat := by
    intro h
    obtain ⟨⟨h1, h2⟩, -⟩ := (condB_iff i k hk (by omega) (by omega)).mp h
    refine ⟨srcB_eq i k hk (by omega) h1, ?_⟩
    unfold chunkN at *; omega
  refine ⟨fun h => ?_, fun h a => ?_, fun h => ?_, fun h a => ?_⟩
  · have := hA h; omega
  · have := hA h
    fin_cases a
    · show (srcA i (BitVec.ofNat 32 (16 * k)) a0).toNat + 16 ≤ 512; omega
    · show 0 + 2048 ≤ 2048; omega
  · have := hB h; omega
  · have := hB h
    fin_cases a
    · show (srcB i (BitVec.ofNat 32 (16 * k)) v0).toNat + 16 ≤ 1024; omega
    · show 0 + 2048 ≤ 2048; omega

end Tests

end Cert.Scatter
-- ==== Proof.Steps.lean ====
module

public import proofs.«01_k».proof.Proof.Body

/-!
# The steps of a tile, and the printed program as those steps

The printed program is cut into parts at places that have nothing to do with its chunks, and a conditional's two branches each
go on with the same program. Both are undone here by rewriting, and what is left is compared with the steps.
-/

@[expose] public section

noncomputable section

namespace Cert.Scatter

open Idealize.ShloMosaic Idealize.SL.Sem Cert.KernelIdeal Cert.KernelIdeal.Gen

universe v

variable {F : FTy → Type} [FloatOps F]

/-- A tile's programs. -/
abbrev TProg (F : FTy → Type) [FloatOps F] (i : grid0.Coords) (α : Type) : Type 1 :=
  Prog (TpuEff nD τ sig (Elt F) Λ₀ (.scVector ((i 0).castLE hcore0) ((i 1).castLE hsub0))) α

/-- The semaphore of the copies into slot `k % 3`. -/
def sinS (k : Nat) : DmaSem sig :=
  match k % 3 with
  | 0 => cc0_scratch3.sem
  | 1 => cc0_scratch4.sem
  | _ => cc0_scratch5.sem

/-- The semaphore of the copies out of slot `k % 3`. -/
def soutS (k : Nat) : DmaSem sig :=
  match k % 3 with
  | 0 => cc0_scratch6.sem
  | 1 => cc0_scratch7.sem
  | _ => cc0_scratch8.sem

/-- The tile's slot `k % 3` of its SparseCore's shared scratch. -/
def bufM (i : grid0.Coords) (k : Nat) : Memref sig .scVector .shared S16x2048 .f32 :=
  ((Memref.whole cc0_scratch2).slice (Rect.unit (s := S16x3x16x2048) (offS i k) S1x1x16x2048.size (offS_inb i k))
    (fun _ => rfl)).squeeze S16x2048 squeezes_S1x1x16x2048_S16x2048

/-- The sixteen rows of the flat text from the tile's row plus `c` on. -/
def textM (i : grid0.Coords) (k : Nat) (hk : k < 32) : Memref sig .scVector .hbm S16x2048 .f32 :=
  (Memref.whole main_v0_scv).slice (Rect.unit (s := S16384x2048) (k0_off17 i (BitVec.ofNat 32 (16 * k))) S16x2048.size
    (k0_off17_inb i ⟨k, hk⟩)) (fun _ => rfl)

/-- The sixteen rows of the output that chunk `k` fills. -/
def outM (i : grid0.Coords) (k : Nat) (hk : k < 32) : Memref sig .scVector .hbm S16x2048 .f32 :=
  (Memref.whole main_v5_scv).slice (Rect.unit (s := S16384x2048) (k0_off17 i (BitVec.ofNat 32 (16 * k))) S16x2048.size
    (k0_off17_inb i ⟨k, hk⟩)) (fun _ => rfl)

/-- The rows of the flat text by whose size a wait counts. -/
def waitM (i : grid0.Coords) : Memref sig .scVector .hbm S16x2048 .f32 :=
  (Memref.whole main_v0_scv).slice (Rect.unit (s := S16384x2048) (k0_off16 i) S16x2048.size (k0_off16_inb i)) (fun _ => rfl)

/-- The rows of the flat audio that chunk `k` is read from. -/
def audioM (i : grid0.Coords) (k : Nat) (a0 : BitVec 32)
    (h : ∀ a, offA i (BitVec.ofNat 32 (16 * k)) a0 a + S16x2048.size a ≤ S512x2048.size a) :
    Memref sig .scVector .hbm S16x2048 .f32 :=
  (Memref.whole main_v2_scv).slice (Rect.unit (s := S512x2048) (offA i (BitVec.ofNat 32 (16 * k)) a0) S16x2048.size h) (fun _ => rfl)

/-- The rows of the flat image that chunk `k` is read from. -/
def imageM (i : grid0.Coords) (k : Nat) (v0 : BitVec 32)
    (h : ∀ a, offB i (BitVec.ofNat 32 (16 * k)) v0 a + S16x2048.size a ≤ S1024x2048.size a) :
    Memref sig .scVector .hbm S16x2048 .f32 :=
  (Memref.whole main_v1_scv).slice (Rect.unit (s := S1024x2048) (offB i (BitVec.ofNat 32 (16 * k)) v0) S16x2048.size h) (fun _ => rfl)

/-- Start the copy of chunk `k` from the audio, if it is audio. -/
def startA (i : grid0.Coords) (v0 a0 : BitVec 32) (k : Nat) (ok : ChunkOk i v0 a0 k) : TProg F i PUnit :=
  if h : condA i (BitVec.ofNat 32 (16 * k)) a0 = 1#1 then
    Prog.lift (.enqueueDma (audioM i k a0 (ok.2.1 h)) (.here (bufM i k)) (.dma (sinS k)) (View.wordExact_bits rfl)
      ((View.wordExact_bits rfl).reshape _ _) ⟨Or.inl rfl, trivial⟩)
  else pure ⟨⟩

/-- Start the copy of chunk `k` from the image, if it is image and not audio. -/
def startB (i : grid0.Coords) (v0 a0 : BitVec 32) (k : Nat) (ok : ChunkOk i v0 a0 k) : TProg F i PUnit :=
  if h : condB i (BitVec.ofNat 32 (16 * k)) v0 a0 = 1#1 then
    Prog.lift (.enqueueDma (imageM i k v0 (ok.2.2.2 h)) (.here (bufM i k)) (.dma (sinS k)) (View.wordExact_bits rfl)
      ((View.wordExact_bits rfl).reshape _ _) ⟨Or.inl rfl, trivial⟩)
  else pure ⟨⟩

/-- Start the copy of chunk `k` from the text, if it is neither. -/
def startC (i : grid0.Coords) (v0 a0 : BitVec 32) (k : Nat) (hk : k < 32) : TProg F i PUnit :=
  if condC i (BitVec.ofNat 32 (16 * k)) v0 a0 = 1#1 then
    Prog.lift (.enqueueDma (textM i k hk) (.here (bufM i k)) (.dma (sinS k)) (View.wordExact_bits rfl)
      ((View.wordExact_bits rfl).reshape _ _) ⟨Or.inl rfl, trivial⟩)
  else pure ⟨⟩

/-- Wait for chunk `k` to have arrived in its slot. -/
def waitIn (i : grid0.Coords) (k : Nat) : TProg F i PUnit :=
  Prog.lift (.waitDma2 (sinS k) (waitM i) (bufM i k) (View.wordExact_bits rfl) ((View.wordExact_bits rfl).reshape _ _))

/-- Start the copy of chunk `k` from its slot to the output. -/
def startOut (i : grid0.Coords) (k : Nat) (hk : k < 32) : TProg F i PUnit :=
  Prog.lift (.enqueueDma (bufM i k) (.here (outM i k hk)) (.dma (soutS k)) ((View.wordExact_bits rfl).reshape _ _)
    (View.wordExact_bits rfl) ⟨Or.inl rfl, trivial⟩)

/-- Wait for chunk `k` to have left its slot. -/
def waitOut (i : grid0.Coords) (k : Nat) (hk : k < 32) : TProg F i PUnit :=
  Prog.lift (.waitDma2 (soutS k) (bufM i k) (outM i k hk) ((View.wordExact_bits rfl).reshape _ _) (View.wordExact_bits rfl))

/-- Start the copy of chunk `k` into its slot, then go on. -/
def startIn (i : grid0.Coords) (v0 a0 : BitVec 32) (k : Nat) (hk : k < 32) (ok : ChunkOk i v0 a0 k) (K : TProg F i PUnit) :
    TProg F i PUnit :=
  startA i v0 a0 k ok >>= fun _ => startB i v0 a0 k ok >>= fun _ => startC i v0 a0 k hk >>= fun _ => K

/-- Send chunk `k` on from its slot to the output once it has arrived, then go on. -/
def passOn (i : grid0.Coords) (k : Nat) (hk : k < 32) (K : TProg F i PUnit) : TProg F i PUnit :=
  waitIn i k >>= fun _ => startOut i k hk >>= fun _ => K

/-- `n` turns from chunk `k + 3` on, then the end: each waits for its slot to be free, fills it, and sends the chunk before on. -/
def turns (i : grid0.Coords) (v0 a0 : BitVec 32) (ok : ∀ k, k < 32 → ChunkOk i v0 a0 k) (K : TProg F i PUnit) :
    (n k : Nat) → n + k ≤ 29 → TProg F i PUnit
  | 0, _, _ => K
  | n + 1, k, h =>
    waitOut i k (by omega) >>= fun _ =>
      startIn i v0 a0 (k + 3) (by omega) (ok (k + 3) (by omega)) <|
        passOn i (k + 2) (by omega) <|
          turns i v0 a0 ok K n (k + 1) (by omega)

/-- Everything a tile does once it holds the two indices. -/
def copies (i : grid0.Coords) (v0 a0 : BitVec 32) (ok : ∀ k, k < 32 → ChunkOk i v0 a0 k) : TProg F i PUnit :=
  startIn i v0 a0 0 (by omega) (ok 0 (by omega)) <|
  startIn i v0 a0 1 (by omega) (ok 1 (by omega)) <|
  passOn i 0 (by omega) <|
  startIn i v0 a0 2 (by omega) (ok 2 (by omega)) <|
  passOn i 1 (by omega) <|
  turns i v0 a0 ok
    (passOn i 31 (by omega) <|
      waitOut i 29 (by omega) >>= fun _ => waitOut i 30 (by omega) >>= fun _ => waitOut i 31 (by omega) >>= fun _ => pure ⟨⟩)
    29 0 (by omega)

/-- The kernel's check of the two indices, then the copies. -/
def checked (i : grid0.Coords) (v0 a0 : BitVec 32) : TProg F i PUnit :=
  Prog.lift (TpuEff.assume (k0_chk1 i v0 a0) (k0_chk1.dec i v0 a0)) >>= fun hw =>
  copies i v0 a0 ((chk_iff i v0 a0).mp hw.down)

/-- What a tile does: fetch the first sixteen indices of its item's image run and of its audio run, take the first of each,
    and copy. -/
def tileProg (i : grid0.Coords) : TProg F i PUnit :=
  Prog.lift (.enqueueDma ((Memref.whole main_v3_scv).slice (Rect.unit (s := S1024) (k0_off1 i) S16.size (k0_off1_inb i)) (fun _ => rfl))
    (.here (Memref.whole cc0_scratch0)) (.dma cc0_scoped0.sem) (View.wordExact_bits rfl) (Memref.isWhole_whole _).wordExact
    ⟨Or.inl rfl, trivial⟩) >>= fun _ =>
  Prog.lift (.waitDma2 cc0_scoped0.sem
    ((Memref.whole main_v3_scv).slice (Rect.unit (s := S1024) (k0_off1 i) S16.size (k0_off1_inb i)) (fun _ => rfl))
    (Memref.whole cc0_scratch0) (View.wordExact_bits rfl) (Memref.isWhole_whole _).wordExact) >>= fun _ =>
  Prog.lift (.enqueueDma ((Memref.whole main_v4_scv).slice (Rect.unit (s := S512) (k0_off2 i) S16.size (k0_off2_inb i)) (fun _ => rfl))
    (.here (Memref.whole cc0_scratch1)) (.dma cc0_scoped1.sem) (View.wordExact_bits rfl) (Memref.isWhole_whole _).wordExact
    ⟨Or.inl rfl, trivial⟩) >>= fun _ =>
  Prog.lift (.waitDma2 cc0_scoped1.sem
    ((Memref.whole main_v4_scv).slice (Rect.unit (s := S512) (k0_off2 i) S16.size (k0_off2_inb i)) (fun _ => rfl))
    (Memref.whole cc0_scratch1) (View.wordExact_bits rfl) (Memref.isWhole_whole _).wordExact) >>= fun _ =>
  Prog.lift (.load (Memref.whole cc0_scratch0) (Rect.unit (s := S16) ![0] S16.size inb_S16_S16_0).toLoadRect
    (View.loadsAt_vmem h_S16)) >>= fun (v : Vec F S16 .i32) =>
  Prog.lift (.load (Memref.whole cc0_scratch1) (Rect.unit (s := S16) ![0] S16.size inb_S16_S16_0).toLoadRect
    (View.loadsAt_vmem h_S16)) >>= fun (a : Vec F S16 .i32) =>
  checked i (extractAt ![0] (k0_pay1 v) inpos_S1_p0) (extractAt ![0] (k0_pay2 a) inpos_S1_p0)

/-- A conditional whose branches both go on with `K` is the conditional, then `K`. -/
theorem dite_jp {E : Type → Type v} {β : Type} (c : Prop) [Decidable c] (e : c → E PUnit) (K : PUnit → Prog E β) :
    (if h : c then Prog.lift (e h) >>= fun _ => K PUnit.unit else K PUnit.unit) =
      ((if h : c then Prog.lift (e h) else pure PUnit.unit) >>= K) := by
  split <;> rfl

/-- The same for a conditional that does not use its condition. -/
theorem ite_jp {E : Type → Type v} {β : Type} (c : Prop) [Decidable c] (e : E PUnit) (K : PUnit → Prog E β) :
    (if c then Prog.lift e >>= fun _ => K PUnit.unit else K PUnit.unit) =
      ((if c then Prog.lift e else pure PUnit.unit) >>= K) := by
  split <;> rfl

end Cert.Scatter
-- ==== Proof.Vals.lean ====
module

public import proofs.«01_k».proof.Proof.Words
public import proofs.«01_k».proof.Proof.Steps
public import Idealize.ShloMosaic.Lib.ValueIdxCore

/-!
# What the output holds, and what the tile's windows read

The flat output as a function of the five flat arrays, the rows each window of a tile covers, and that whichever array the
kernel takes a chunk from, the sixteen rows it reads there are the output's rows of that chunk.
-/

@[expose] public section

noncomputable section

namespace Cert.Scatter

open Idealize.ShloMosaic Idealize.ShloMosaic.ValueIdx Idealize.SL.Sem Cert.KernelIdeal Cert.KernelIdeal.Gen

variable {F : FTy → Type} [FloatOps F]

/-! ## The output -/

/-- The first image row of item `b`: the first of its 256 image indices. -/
def imgAt (V : S1024.Idx → BitVec 32) (b : Nat) : BitVec 32 := V (ix1 ⟨256 * b % 1024, Nat.mod_lt _ (by omega)⟩)

/-- The first audio row of item `b`: the first of its 128 audio indices. -/
def audAt (U : S512.Idx → BitVec 32) (b : Nat) : BitVec 32 := U (ix1 ⟨128 * b % 512, Nat.mod_lt _ (by omega)⟩)

/-- The element `x` of an output row, the row being number `g` of item `b`, whose audio run begins at `a` and image run at `v`:
    a row of the audio run is the audio's, one of the image run the image's, any other the text's. -/
def pick (T : S16384x2048.Idx → Elt F .f32) (I : S1024x2048.Idx → Elt F .f32) (A : S512x2048.Idx → Elt F .f32)
    (a v b g : Nat) (x : S16384x2048.Idx) : Elt F .f32 :=
  if a ≤ g ∧ g < a + 128 then A (ix2 ⟨(128 * b + (g - a)) % 512, Nat.mod_lt _ (by omega)⟩ (x 1))
  else if v ≤ g ∧ g < v + 256 then I (ix2 ⟨(256 * b + (g - v)) % 1024, Nat.mod_lt _ (by omega)⟩ (x 1))
  else T x

/-- The flat output. -/
def outVal (T : S16384x2048.Idx → Elt F .f32) (I : S1024x2048.Idx → Elt F .f32) (A : S512x2048.Idx → Elt F .f32)
    (V : S1024.Idx → BitVec 32) (U : S512.Idx → BitVec 32) : S16384x2048.Idx → Elt F .f32 := fun x =>
  pick T I A (audAt U ((x 0).val / 4096)).toNat (imgAt V ((x 0).val / 4096)).toNat ((x 0).val / 4096) ((x 0).val % 4096) x

/-- The flat output at row `g` of item `b`. -/
theorem outVal_at (T : S16384x2048.Idx → Elt F .f32) (I : S1024x2048.Idx → Elt F .f32) (A : S512x2048.Idx → Elt F .f32)
    (V : S1024.Idx → BitVec 32) (U : S512.Idx → BitVec 32) (x : S16384x2048.Idx) (b g : Nat)
    (hb : (x 0).val / 4096 = b) (hg : (x 0).val % 4096 = g) :
    outVal T I A V U x = pick T I A (audAt U b).toNat (imgAt V b).toNat b g x := by
  subst hb hg
  rfl

/-- What the kernel needs of the image indices: each item's first leaves room for the run and is a multiple of sixteen. -/
def ImgOk (V : S1024.Idx → BitVec 32) : Prop := ∀ b, b < 4 → (imgAt V b).toNat + 256 ≤ 4096 ∧ 16 ∣ (imgAt V b).toNat

/-- What the kernel needs of the audio indices. -/
def AudOk (U : S512.Idx → BitVec 32) : Prop := ∀ b, b < 4 → (audAt U b).toNat + 128 ≤ 4096 ∧ 16 ∣ (audAt U b).toNat

/-! ## Rows -/

/-- The elements of rows `lo` to `hi` of a flat array of 16384 rows. -/
def rows (lo hi : Nat) : Finset S16384x2048.Idx := Finset.univ.filter fun x => lo ≤ (x 0).val ∧ (x 0).val < hi

theorem mem_rows {lo hi : Nat} {x : S16384x2048.Idx} : x ∈ rows lo hi ↔ lo ≤ (x 0).val ∧ (x 0).val < hi := by
  simp [rows]

/-- Consecutive runs of rows are disjoint. -/
theorem rows_disjoint {a b c : Nat} : Disjoint (rows a b) (rows b c) := by
  rw [Finset.disjoint_left]
  intro x h1 h2
  rw [mem_rows] at h1 h2
  omega

/-- Consecutive runs of rows make one run. -/
theorem rows_union {a b c : Nat} (h1 : a ≤ b) (h2 : b ≤ c) : rows a b ∪ rows b c = rows a c := by
  ext x
  rw [Finset.mem_union, mem_rows, mem_rows, mem_rows]
  omega

/-- No rows. -/
theorem rows_self (a : Nat) : rows a a = ∅ := by
  ext x
  simp only [mem_rows, Finset.notMem_empty, iff_false]
  omega

theorem flatN_succ (i : grid0.Coords) (k : Nat) : flatN i (k + 1) = flatN i k + 16 := by unfold flatN; omega

theorem flatN_mono (i : grid0.Coords) {k l : Nat} (h : k ≤ l) : flatN i k ≤ flatN i l := by unfold flatN; omega

/-- The elements chunk `k` of the output covers. -/
def outSet (i : grid0.Coords) (k : Nat) : Finset S16384x2048.Idx := rows (flatN i k) (flatN i (k + 1))

/-- The output window of chunk `k` is its sixteen rows. -/
theorem outM_set (i : grid0.Coords) (k : Nat) (hk : k < 32) : (outM i k hk).view.set = outSet i k := by
  show ((View.whole main_v5_scv).slice _).set = _
  rw [View.set_slice_whole]
  ext x
  rw [outSet, mem_rows, Rect.mem_set_unit, off17_eq i k hk, flatN_succ]
  refine (Fin.forall_fin_two (p := fun a : Fin 2 => (![flatN i k, 0] : Fin 2 → Nat) a ≤ (x a).val ∧
    (x a).val < (![flatN i k, 0] : Fin 2 → Nat) a + S16x2048.size a)).trans ?_
  have h1 : (x 1).val < 2048 := (x 1).isLt
  show (flatN i k ≤ (x 0).val ∧ (x 0).val < flatN i k + 16) ∧ (0 ≤ (x 1).val ∧ (x 1).val < 0 + 2048) ↔ _
  omega

/-! ## Slots -/

/-- The elements of tile row `s` of the shared scratch. -/
def tileSet (s : Nat) : Finset S16x3x16x2048.Idx := Finset.univ.filter fun x => (x 0).val = s

/-- The elements of slot `j` of tile row `s`. -/
def slotSet (s j : Nat) : Finset S16x3x16x2048.Idx := Finset.univ.filter fun x => (x 0).val = s ∧ (x 1).val = j

/-- The window on a slot is the slot. -/
theorem bufM_set (i : grid0.Coords) (k : Nat) : (bufM i k).view.set = slotSet (i 1).val (k % 3) := by
  show (((View.whole cc0_scratch2).slice _).reshape _ _).set = _
  rw [View.set_reshape, View.set_slice_whole]
  ext x
  have hi : (i 1).val < 16 := (i 1).isLt
  have hw : (BitVec.ofNat 32 (i 1).val).toNat = (i 1).val := by simp; omega
  have h2 : (x 2).val < 16 := (x 2).isLt
  have h3 : (x 3).val < 2048 := (x 3).isLt
  rw [Rect.mem_set_unit]
  unfold offS
  rw [hw]
  simp only [slotSet, Finset.mem_filter, Finset.mem_univ, true_and]
  constructor
  · intro h
    have h0 : (i 1).val ≤ (x 0).val ∧ (x 0).val < (i 1).val + 1 := h 0
    have h1 : k % 3 ≤ (x 1).val ∧ (x 1).val < k % 3 + 1 := h 1
    omega
  · rintro ⟨h0, h1⟩ a
    fin_cases a
    · show (i 1).val ≤ (x 0).val ∧ (x 0).val < (i 1).val + 1; omega
    · show k % 3 ≤ (x 1).val ∧ (x 1).val < k % 3 + 1; omega
    · show 0 ≤ (x 2).val ∧ (x 2).val < 0 + 16; omega
    · show 0 ≤ (x 3).val ∧ (x 3).val < 0 + 2048; omega

/-! ## What the windows read -/

/-- The text window and the output window of a chunk read the same elements. -/
theorem textM_read (i : grid0.Coords) (k : Nat) (hk : k < 32) (f : S16384x2048.Idx → Elt F .f32) (j : S16x2048.Idx) :
    ∃ x : S16384x2048.Idx, (x 0).val = flatN i k + (j 0).val ∧ x 1 = j 1 ∧
      (textM i k hk).view.read (Elt F) f j = f x ∧ ∀ g : S16384x2048.Idx → Elt F .f32, (outM i k hk).view.read (Elt F) g j = g x := by
  refine ⟨(textM i k hk).view.emb j, ?_, ?_, rfl, fun g => rfl⟩
  · show k0_off17 i (BitVec.ofNat 32 (16 * k)) 0 + 1 * (j 0).val = _
    rw [off17_eq i k hk]
    show flatN i k + 1 * (j 0).val = _
    omega
  · apply Fin.ext
    show k0_off17 i (BitVec.ofNat 32 (16 * k)) 1 + 1 * (j 1).val = _
    rw [off17_eq i k hk]
    show 0 + 1 * (j 1).val = _
    omega

/-- The audio window of a chunk reads the audio's rows from `srcA` on. -/
theorem audioM_read (i : grid0.Coords) (k : Nat) (a0 : BitVec 32)
    (h : ∀ a, offA i (BitVec.ofNat 32 (16 * k)) a0 a + S16x2048.size a ≤ S512x2048.size a)
    (f : S512x2048.Idx → Elt F .f32) (j : S16x2048.Idx) (r : Fin 512)
    (hr : r.val = (srcA i (BitVec.ofNat 32 (16 * k)) a0).toNat + (j 0).val) :
    (audioM i k a0 h).view.read (Elt F) f j = f (ix2 r (j 1)) := by
  show f _ = f _
  congr 1
  rw [eq_ix2 ((audioM i k a0 h).view.emb j)]
  congr 1
  · apply Fin.ext
    show (srcA i (BitVec.ofNat 32 (16 * k)) a0).toNat + 1 * (j 0).val = _
    omega
  · apply Fin.ext
    show 0 + 1 * (j 1).val = _
    omega

/-- The image window of a chunk reads the image's rows from `srcB` on. -/
theorem imageM_read (i : grid0.Coords) (k : Nat) (v0 : BitVec 32)
    (h : ∀ a, offB i (BitVec.ofNat 32 (16 * k)) v0 a + S16x2048.size a ≤ S1024x2048.size a)
    (f : S1024x2048.Idx → Elt F .f32) (j : S16x2048.Idx) (r : Fin 1024)
    (hr : r.val = (srcB i (BitVec.ofNat 32 (16 * k)) v0).toNat + (j 0).val) :
    (imageM i k v0 h).view.read (Elt F) f j = f (ix2 r (j 1)) := by
  show f _ = f _
  congr 1
  rw [eq_ix2 ((imageM i k v0 h).view.emb j)]
  congr 1
  · apply Fin.ext
    show (srcB i (BitVec.ofNat 32 (16 * k)) v0).toNat + 1 * (j 0).val = _
    omega
  · apply Fin.ext
    show 0 + 1 * (j 1).val = _
    omega

/-- Row `j` of a tile's chunk, by item and by row inside the item. -/
theorem split_row (i : grid0.Coords) (k j : Nat) (hk : k < 32) (hj : j < 16) :
    (flatN i k + j) / 4096 = tileN i / 8 ∧ (flatN i k + j) % 4096 = chunkN i k + j := by
  unfold flatN chunkN
  omega

section Chunk

variable (T : S16384x2048.Idx → Elt F .f32) (I : S1024x2048.Idx → Elt F .f32) (A : S512x2048.Idx → Elt F .f32)
  (V : S1024.Idx → BitVec 32) (U : S512.Idx → BitVec 32) (i : grid0.Coords) (k : Nat) (hk : k < 32)

/-- A chunk the kernel takes from the audio reads the output's rows there. -/
theorem read_audio (hU : AudOk U) (hc : condA i (BitVec.ofNat 32 (16 * k)) (audAt U (tileN i / 8)) = 1#1)
    (h : ∀ a, offA i (BitVec.ofNat 32 (16 * k)) (audAt U (tileN i / 8)) a + S16x2048.size a ≤ S512x2048.size a) :
    (audioM i k (audAt U (tileN i / 8)) h).view.read (Elt F) A = (outM i k hk).view.read (Elt F) (outVal T I A V U) := by
  have hb := tileN_lt i
  obtain ⟨hu, hu16⟩ := hU (tileN i / 8) (by omega)
  obtain ⟨hc1, hc2⟩ := (condA_iff i k hk (by omega)).mp hc
  have hs := srcA_eq i k hk (a0 := audAt U (tileN i / 8)) (by omega) hc1
  funext j
  have hj : (j 0).val < 16 := (j 0).isLt
  obtain ⟨x, hx0, hx1, -, hx⟩ := textM_read i k hk T j
  obtain ⟨hd, hm⟩ := split_row i k (j 0).val hk hj
  have hd16 : chunkN i k + (j 0).val < (audAt U (tileN i / 8)).toNat + 128 := by unfold chunkN at *; omega
  rw [← hx0] at hd hm
  refine Eq.trans ?_ ((outVal_at T I A V U x _ _ hd hm).symm.trans (hx _).symm)
  unfold pick
  rw [if_pos ⟨by omega, hd16⟩, hx1]
  exact audioM_read i k _ h A j _ (by
    show (128 * (tileN i / 8) + (chunkN i k + (j 0).val - (audAt U (tileN i / 8)).toNat)) % 512 = _
    rw [hs]; omega)

/-- A chunk the kernel takes from the image reads the output's rows there. -/
theorem read_image (hV : ImgOk V) (hU : AudOk U)
    (hc : condB i (BitVec.ofNat 32 (16 * k)) (imgAt V (tileN i / 8)) (audAt U (tileN i / 8)) = 1#1)
    (h : ∀ a, offB i (BitVec.ofNat 32 (16 * k)) (imgAt V (tileN i / 8)) a + S16x2048.size a ≤ S1024x2048.size a) :
    (imageM i k (imgAt V (tileN i / 8)) h).view.read (Elt F) I = (outM i k hk).view.read (Elt F) (outVal T I A V U) := by
  have hb := tileN_lt i
  obtain ⟨hu, hu16⟩ := hU (tileN i / 8) (by omega)
  obtain ⟨hv, hv16⟩ := hV (tileN i / 8) (by omega)
  obtain ⟨⟨hc1, hc2⟩, hc3⟩ := (condB_iff i k hk (by omega) (by omega)).mp hc
  have hs := srcB_eq i k hk (v0 := imgAt V (tileN i / 8)) (by omega) hc1
  funext j
  have hj : (j 0).val < 16 := (j 0).isLt
  obtain ⟨x, hx0, hx1, -, hx⟩ := textM_read i k hk T j
  obtain ⟨hd, hm⟩ := split_row i k (j 0).val hk hj
  have hd16 : chunkN i k + (j 0).val < (imgAt V (tileN i / 8)).toNat + 256 := by unfold chunkN at *; omega
  have hna : ¬((audAt U (tileN i / 8)).toNat ≤ chunkN i k + (j 0).val ∧
      chunkN i k + (j 0).val < (audAt U (tileN i / 8)).toNat + 128) := by unfold chunkN at *; omega
  rw [← hx0] at hd hm
  refine Eq.trans ?_ ((outVal_at T I A V U x _ _ hd hm).symm.trans (hx _).symm)
  unfold pick
  rw [if_neg hna, if_pos ⟨by omega, hd16⟩, hx1]
  exact imageM_read i k _ h I j _ (by
    show (256 * (tileN i / 8) + (chunkN i k + (j 0).val - (imgAt V (tileN i / 8)).toNat)) % 1024 = _
    rw [hs]; omega)

/-- A chunk the kernel takes from the text reads the output's rows there. -/
theorem read_text (hV : ImgOk V) (hU : AudOk U)
    (hc : condC i (BitVec.ofNat 32 (16 * k)) (imgAt V (tileN i / 8)) (audAt U (tileN i / 8)) = 1#1) :
    (textM i k hk).view.read (Elt F) T = (outM i k hk).view.read (Elt F) (outVal T I A V U) := by
  have hb := tileN_lt i
  obtain ⟨hu, hu16⟩ := hU (tileN i / 8) (by omega)
  obtain ⟨hv, hv16⟩ := hV (tileN i / 8) (by omega)
  obtain ⟨hc1, hc3⟩ := (condC_iff i k hk (by omega) (by omega)).mp hc
  funext j
  have hj : (j 0).val < 16 := (j 0).isLt
  obtain ⟨x, hx0, hx1, hxT, hx⟩ := textM_read i k hk T j
  obtain ⟨hd, hm⟩ := split_row i k (j 0).val hk hj
  have hni : ¬((imgAt V (tileN i / 8)).toNat ≤ chunkN i k + (j 0).val ∧
      chunkN i k + (j 0).val < (imgAt V (tileN i / 8)).toNat + 256) := by unfold chunkN at *; omega
  have hna : ¬((audAt U (tileN i / 8)).toNat ≤ chunkN i k + (j 0).val ∧
      chunkN i k + (j 0).val < (audAt U (tileN i / 8)).toNat + 128) := by unfold chunkN at *; omega
  rw [← hx0] at hd hm
  refine hxT.trans (Eq.trans ?_ ((outVal_at T I A V U x _ _ hd hm).symm.trans (hx _).symm))
  unfold pick
  rw [if_neg hna, if_neg hni]

end Chunk

/-! ## The two indices a tile takes -/

/-- The tile's first image index, as it reads it from its copy of sixteen of them. -/
theorem imgAt_read (V : S1024.Idx → BitVec 32) (i : grid0.Coords) (f : S16.Idx → BitVec 32)
    (hf : ∀ j : S16.Idx, f j = V (ix1 ⟨(256 * (tileN i / 8) + (j 0).val) % 1024, Nat.mod_lt _ (by omega)⟩)) :
    extractAt ![0] (k0_pay1 (F := F) f) inpos_S1_p0 = imgAt V (tileN i / 8) := by
  have h : extractAt ![0] (k0_pay1 (F := F) f) inpos_S1_p0 = f (Shape.reshapeEquiv shapeCasts_S16_S16 (ix1 ⟨0, by omega⟩)) := by
    unfold extractAt k0_pay1
    show f _ = f _
    congr 2
    funext a
    match a with | ⟨0, _⟩ => rfl
  rw [h, Shape.reshapeEquiv_self, hf]
  rfl

/-- The tile's first audio index, as it reads it from its copy of sixteen of them. -/
theorem audAt_read (U : S512.Idx → BitVec 32) (i : grid0.Coords) (f : S16.Idx → BitVec 32)
    (hf : ∀ j : S16.Idx, f j = U (ix1 ⟨(128 * (tileN i / 8) + (j 0).val) % 512, Nat.mod_lt _ (by omega)⟩)) :
    extractAt ![0] (k0_pay2 (F := F) f) inpos_S1_p0 = audAt U (tileN i / 8) := by
  have h : extractAt ![0] (k0_pay2 (F := F) f) inpos_S1_p0 = f (Shape.reshapeEquiv shapeCasts_S16_S16 (ix1 ⟨0, by omega⟩)) := by
    unfold extractAt k0_pay2
    show f _ = f _
    congr 2
    funext a
    match a with | ⟨0, _⟩ => rfl
  rw [h, Shape.reshapeEquiv_self, hf]
  rfl

end Cert.Scatter
-- ==== Proof.Common.lean ====
module

public import proofs.«01_k».proof.Defs
public import proofs.«01_k».proof.Proof.Vals
public import proofs.«01_k».proof.Proof.Gen.KernelIdeal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

/-!
# The program as the launch theorem sees it

The names the later modules share: the call's configuration, the resource algebra, the buffers' locations, and one fact about a
copy in flight, that it can carry what its issuer holds besides.
-/

@[expose] public section

noncomputable section

namespace Cert.Scatter

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds. -/
abbrev UH : Type := URounds (GSem nD τ sig) ℕ
/-- The rounds and the copies' counters. -/
abbrev UU : Type := UH × Counters

local notation "𝕄" => MT nD τ sig (HIx 1) (Elt F) ℕ UU ℕ

abbrev EH : Emb UH (MT nD τ sig (HIx 1) (Elt F) ℕ UU ℕ) := embL

abbrev txtLoc (d : Dev nD) : Loc nD τ sig := (SparseCore.T d).loc main_v0
abbrev imgLoc (d : Dev nD) : Loc nD τ sig := (SparseCore.T d).loc main_v1
abbrev audLoc (d : Dev nD) : Loc nD τ sig := (SparseCore.T d).loc main_v2
abbrev vixLoc (d : Dev nD) : Loc nD τ sig := (SparseCore.T d).loc main_v3
abbrev aixLoc (d : Dev nD) : Loc nD τ sig := (SparseCore.T d).loc main_v4
abbrev outLoc (d : Dev nD) : Loc nD τ sig := (SparseCore.T d).loc main_v5

abbrev cV (i : grid0.Coords) : Fin τ.nSC := (i 0).castLE hcore0
abbrev jV (i : grid0.Coords) : Fin τ.nSub := (i 1).castLE hsub0
/-- The thread of tile `i`. -/
abbrev thr (d : Dev nD) (i : grid0.Coords) : Thread nD τ := V d (cV i) (jV i)
/-- The shared scratch as the tile sees it. -/
abbrev shLocV (d : Dev nD) (i : grid0.Coords) : Loc nD τ sig := (thr d i).loc cc0_scratch2

/-- A copy in flight delivers, beside what it delivers, what its issuer lends it. -/
theorem flight_frame (c : Thread nD τ) {sm : SemLoc sig} {ι : HIx 1} {N : ℕ} {D₁ R₁ : sProp 𝕄} :
    iprop(Transfers.Flight countersEmb c sm ι N D₁ ∗ R₁) ⊢ (Transfers.Flight countersEmb c sm ι N iprop(D₁ ∗ R₁) : sProp 𝕄) := by
  unfold Transfers.Flight
  iintro ⟨⟨⟨%R, HR, %hcap, %hpeek⟩, Hcred⟩, H1⟩
  isplitl [HR H1]
  · iexists iprop(R ∗ R₁)
    isplitl [HR H1]
    · isplitl [HR] <;> iassumption
    isplit
    · ipureintro
      intro K
      refine BIBase.Entails.trans ?_ (hcap K)
      iintro ⟨⟨HR, H1⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, H1⟩, HK⟩
      isplitl [HR]; · iexact HR
      iintro HR
      iapply HK
      isplitl [HR] <;> iassumption
  · iexact Hcred

end Cert.Scatter
-- ==== Proof.Copies.lean ====
module

public import proofs.«01_k».proof.Proof.Common

/-!
# One chunk's two copies

What each step of a tile does to what the tile holds: starting the copy into a slot, waiting for it and starting the copy out,
waiting for that. The values are carried: what arrives in a slot is the output's rows of the chunk.
-/

@[expose] public section

noncomputable section

namespace Cert.Scatter

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]

local notation "𝕄" => MT nD τ sig (HIx 1) (Elt F) ℕ UU ℕ

variable (d : Dev nD) (i : grid0.Coords)

/-- The tile's program `p` run with the postcondition `Q`. -/
abbrev run (p : TProg F i PUnit) (Q : PUnit → sProp 𝕄) : sProp 𝕄 :=
  wp frame (wpE (defs₀ (F := F)) 𝒱₀ (thr d i) none) Set.univ p Q

/-- Slot `k % 3` of the tile, holding `f`. -/
abbrev slotPts (k : Nat) (f : Buf (Elt F) (shLocV d i)) : sProp 𝕄 :=
  shLocV d i ↦[slotSet (i 1).val (k % 3)]{fullShare} f

/-- What a copy into slot `k % 3` credits. -/
def creditIn (k : Nat) : Nat := (bufM i k).view.dmaCredit
/-- What a copy out of a slot credits. -/
def creditOut (k : Nat) (hk : k < 32) : Nat := (outM i k hk).view.dmaCredit

/-- The slot holds chunk `k` of the output `X`. -/
def Landed (X : S16384x2048.Idx → Elt F .f32) (k : Nat) (hk : k < 32) : sProp 𝕄 :=
  iprop(∃ f, slotPts d i k f ∗ ⌜(bufM i k).view.read (Elt F) f = (outM i k hk).view.read (Elt F) X⌝)

/-- The slot as a copy's target. -/
abbrev slotAt (k : Nat) : DmaTarget nD τ sig (.scVector (cV i) (jV i)) .shared S16x2048 .f32 := .here (bufM i k)

/-- A copy of sixteen rows into a slot, from an array held whole at some share: issued, it delivers the slot holding those rows
    and the array's share back. -/
theorem wp_copyIn (X : S16384x2048.Idx → Elt F .f32) (k : Nat) (hk : k < 32)
    (src : Memref sig .scVector .hbm S16x2048 .f32) (q : PosShare TreeShare) (fs : Buf (Elt F) (src.view.loc (thr d i)))
    (hr : src.view.read (Elt F) fs = (outM i k hk).view.read (Elt F) X)
    {hsrc : src.view.WordExact} {hdst : (bufM i k).view.WordExact}
    {hsem : DmaTarget.Typed .hbm (.dma (sinS k)) (slotAt i k)}
    (c : PUnit → TProg F i PUnit) (Q : PUnit → sProp 𝕄) :
    iprop((src.view.loc (thr d i) ↦{q} fs) ∗ (∃ f, slotPts d i k f) ∗ semVal (thr d i, .dma (sinS k)) 0)
      ⊢ iprop((Transfers.Flight countersEmb (thr d i) (.dma (sinS k)) none (creditIn i k)
            iprop(Landed d i X k hk ∗ (src.view.loc (thr d i) ↦{q} fs)) -∗ run d i (c ⟨⟩) Q)
          -∗ run d i (.op (.enqueueDmaAs src (.here (bufM i k)) .same (.dma (sinS k)) hsrc hdst hsem) c) Q) := by
  iintro ⟨Hs, ⟨%f, Hb⟩, Hv⟩ Hk
  ihave Hs := (pointsTo_split_subset (q := q) (f := fs) (S := Finset.univ) (Finset.subset_univ src.view.set)).1 $$ Hs
  icases Hs with ⟨Hs, Hrest⟩
  iapply (Transfers.wp_dmaLocal countersEmb 𝒱₀ (thr d i) none (Sd := slotSet (i 1).val (k % 3)) (fd := f) (none : HIx 1)
    (creditIn i k) rfl (View.dmaCredit_pos _ (by decide)) (bufM_set i k).subset) $$ [Hs Hb Hv]
  · isplitl [Hs]; · iexact Hs
    isplitl [Hb]; · iexact Hb
    iexact Hv
  iintro Hf
  iapply Hk
  ihave Hf := (flight_frame (thr d i)) $$ [Hf Hrest]
  · isplitl [Hf]; · iexact Hf
    iexact Hrest
  iapply (Transfers.Flight_mono countersEmb (thr d i) ?_) $$ Hf
  iintro ⟨⟨Hb, Hs⟩, Hrest⟩
  isplitl [Hb]
  · unfold Landed
    iexists _
    isplitl [Hb]; · iexact Hb
    ipureintro
    exact (View.read_write_univ _ _).trans hr
  · iapply (pointsTo_split_subset (q := q) (f := fs) (S := Finset.univ) (Finset.subset_univ src.view.set)).2
    isplitl [Hs] <;> iassumption

section Steps

variable (q : Nat → PosShare TreeShare)
  (T : S16384x2048.Idx → Elt F .f32) (I : S1024x2048.Idx → Elt F .f32) (A : S512x2048.Idx → Elt F .f32)
  (vi : S1024.Idx → BitVec 32) (ai : S512.Idx → BitVec 32)

/-- Read shares of the three arrays for the copies into slot `k % 3`. -/
def Toks (k : Nat) : sProp 𝕄 :=
  iprop((txtLoc d ↦{q (k % 3)} T) ∗ (imgLoc d ↦{q (k % 3)} I) ∗ (audLoc d ↦{q (k % 3)} A))

/-- The copy of chunk `k` into its slot is in flight. -/
def InFlight (k : Nat) (hk : k < 32) : sProp 𝕄 :=
  Transfers.Flight countersEmb (thr d i) (.dma (sinS k)) none (creditIn i k)
    iprop(Landed d i (outVal T I A vi ai) k hk ∗ Toks d q T I A k)

/-- The copy of chunk `k` out of its slot is in flight. -/
def OutFlight (k : Nat) (hk : k < 32) : sProp 𝕄 :=
  Transfers.Flight countersEmb (thr d i) (.dma (soutS k)) none (creditOut i k hk)
    iprop((outLoc d ↦[outSet i k]{fullShare} outVal T I A vi ai) ∗ ∃ f, slotPts d i k f)

/-- Starting the copy of chunk `k` into its free slot: exactly one of the three arrays is chosen, and what is in flight is the
    output's rows of the chunk. -/
theorem wp_startIn (hV : ImgOk vi) (hU : AudOk ai) (k : Nat) (hk : k < 32)
    (ok : ChunkOk i (imgAt vi (tileN i / 8)) (audAt ai (tileN i / 8)) k) (c : TProg F i PUnit) (Q : PUnit → sProp 𝕄) :
    iprop(Toks d q T I A k ∗ (∃ f, slotPts d i k f) ∗ semVal (thr d i, .dma (sinS k)) 0)
      ⊢ iprop((InFlight d i q T I A vi ai k hk -∗ run d i c Q)
          -∗ run d i (startIn i (imgAt vi (tileN i / 8)) (audAt ai (tileN i / 8)) k hk ok c) Q) := by
  have hb := tileN_lt i
  obtain ⟨hu, -⟩ := hU (tileN i / 8) (by omega)
  obtain ⟨hv, -⟩ := hV (tileN i / 8) (by omega)
  have iA := condA_iff i k hk (a0 := audAt ai (tileN i / 8)) (by omega)
  have iB := condB_iff i k hk (v0 := imgAt vi (tileN i / 8)) (a0 := audAt ai (tileN i / 8)) (by omega) (by omega)
  have iC := condC_iff i k hk (v0 := imgAt vi (tileN i / 8)) (a0 := audAt ai (tileN i / 8)) (by omega) (by omega)
  unfold startIn startA startB startC Toks
  by_cases hA : condA i (BitVec.ofNat 32 (16 * k)) (audAt ai (tileN i / 8)) = 1#1
  · have hB : ¬ condB i (BitVec.ofNat 32 (16 * k)) (imgAt vi (tileN i / 8)) (audAt ai (tileN i / 8)) = 1#1 := by tauto
    have hC : ¬ condC i (BitVec.ofNat 32 (16 * k)) (imgAt vi (tileN i / 8)) (audAt ai (tileN i / 8)) = 1#1 := by tauto
    rw [dif_pos hA, dif_neg hB, if_neg hC]
    simp only [Prog.lift, Prog.bind_op, Prog.bind_ret, Prog.pure_eq_ret]
    iintro ⟨⟨Ht, Hi, Ha⟩, Hb, Hv⟩ Hk
    iapply (wp_copyIn d i (outVal T I A vi ai) k hk (audioM i k (audAt ai (tileN i / 8)) (ok.2.1 hA)) (q (k % 3)) A
      (read_audio T I A vi ai i k hk hU hA _) (fun _ => c) Q) $$ [Ha Hb Hv]
    · isplitl [Ha]; · iexact Ha
      isplitl [Hb]; · iexact Hb
      iexact Hv
    iintro Hf
    iapply Hk
    unfold InFlight Toks
    ihave Hf := (flight_frame (thr d i)
      (R₁ := iprop((txtLoc d ↦{q (k % 3)} T) ∗ (imgLoc d ↦{q (k % 3)} I)))) $$ [Hf Ht Hi]
    · isplitl [Hf]; · iexact Hf
      isplitl [Ht]; · iexact Ht
      iexact Hi
    iapply (Transfers.Flight_mono countersEmb (thr d i) ?_) $$ Hf
    iintro ⟨⟨Hl, Ha⟩, Ht, Hi⟩
    isplitl [Hl]; · iexact Hl
    isplitl [Ht]; · iexact Ht
    isplitl [Hi]; · iexact Hi
    iexact Ha
  by_cases hB : condB i (BitVec.ofNat 32 (16 * k)) (imgAt vi (tileN i / 8)) (audAt ai (tileN i / 8)) = 1#1
  · have hC : ¬ condC i (BitVec.ofNat 32 (16 * k)) (imgAt vi (tileN i / 8)) (audAt ai (tileN i / 8)) = 1#1 := by tauto
    rw [dif_neg hA, dif_pos hB, if_neg hC]
    simp only [Prog.lift, Prog.bind_op, Prog.bind_ret, Prog.pure_eq_ret]
    iintro ⟨⟨Ht, Hi, Ha⟩, Hb, Hv⟩ Hk
    iapply (wp_copyIn d i (outVal T I A vi ai) k hk (imageM i k (imgAt vi (tileN i / 8)) (ok.2.2.2 hB)) (q (k % 3)) I
      (read_image T I A vi ai i k hk hV hU hB _) (fun _ => c) Q) $$ [Hi Hb Hv]
    · isplitl [Hi]; · iexact Hi
      isplitl [Hb]; · iexact Hb
      iexact Hv
    iintro Hf
    iapply Hk
    unfold InFlight Toks
    ihave Hf := (flight_frame (thr d i)
      (R₁ := iprop((txtLoc d ↦{q (k % 3)} T) ∗ (audLoc d ↦{q (k % 3)} A)))) $$ [Hf Ht Ha]
    · isplitl [Hf]; · iexact Hf
      isplitl [Ht]; · iexact Ht
      iexact Ha
    iapply (Transfers.Flight_mono countersEmb (thr d i) ?_) $$ Hf
    iintro ⟨⟨Hl, Hi⟩, Ht, Ha⟩
    isplitl [Hl]; · iexact Hl
    isplitl [Ht]; · iexact Ht
    isplitl [Hi]; · iexact Hi
    iexact Ha
  · have hC : condC i (BitVec.ofNat 32 (16 * k)) (imgAt vi (tileN i / 8)) (audAt ai (tileN i / 8)) = 1#1 := by tauto
    rw [dif_neg hA, dif_neg hB, if_pos hC]
    simp only [Prog.lift, Prog.bind_op, Prog.bind_ret, Prog.pure_eq_ret]
    iintro ⟨⟨Ht, Hi, Ha⟩, Hb, Hv⟩ Hk
    iapply (wp_copyIn d i (outVal T I A vi ai) k hk (textM i k hk) (q (k % 3)) T
      (read_text T I A vi ai i k hk hV hU hC) (fun _ => c) Q) $$ [Ht Hb Hv]
    · isplitl [Ht]; · iexact Ht
      isplitl [Hb]; · iexact Hb
      iexact Hv
    iintro Hf
    iapply Hk
    unfold InFlight Toks
    ihave Hf := (flight_frame (thr d i)
      (R₁ := iprop((imgLoc d ↦{q (k % 3)} I) ∗ (audLoc d ↦{q (k % 3)} A)))) $$ [Hf Hi Ha]
    · isplitl [Hf]; · iexact Hf
      isplitl [Hi]; · iexact Hi
      iexact Ha
    iapply (Transfers.Flight_mono countersEmb (thr d i) ?_) $$ Hf
    iintro ⟨⟨Hl, Ht⟩, Hi, Ha⟩
    isplitl [Hl]; · iexact Hl
    isplitl [Ht]; · iexact Ht
    isplitl [Hi]; · iexact Hi
    iexact Ha

variable (O : CellTallies nD τ sig (HIx 1))

/-- What the tile still owes, its waits so far all of its own copies beyond `W`. -/
def Owing (W : Waits sig (HIx 1)) : sProp 𝕄 :=
  iprop(∃ W', ⌜∀ p ∈ W', p ∈ W ∨ p.2 = none⌝ ∗ owes (thr d i) O W')

/-- The output's rows of chunk `k` written from a slot that holds them are the output's. -/
theorem sent (k : Nat) (hk : k < 32) (fo : Buf (Elt F) (outLoc d)) (f : Buf (Elt F) (shLocV d i))
    (hf : (bufM i k).view.read (Elt F) f = (outM i k hk).view.read (Elt F) (outVal T I A vi ai)) :
    ((outM i k hk).view.loc (thr d i) ↦[outSet i k]{fullShare}
        (outM i k hk).view.write (Elt F) fo ((bufM i k).view.read (Elt F) f) Finset.univ : sProp 𝕄)
      = outLoc d ↦[outSet i k]{fullShare} outVal T I A vi ai := by
  refine pointsTo_congr fun x hx => ?_
  rw [← outM_set i k hk] at hx
  rw [hf]
  exact (congrFun (View.write_read_eq_piecewise (v := (outM i k hk).view) fo (outVal T I A vi ai) Finset.univ) x).trans
    (Finset.piecewise_eq_of_mem _ _ _ hx)

/-- Waiting for chunk `k` to have arrived and starting its copy out. -/
theorem wp_passOn (W : Waits sig (HIx 1)) (k : Nat) (hk : k < 32) (fo : Buf (Elt F) (outLoc d))
    (c : TProg F i PUnit) (Q : PUnit → sProp 𝕄) :
    iprop(InFlight d i q T I A vi ai k hk ∗ semVal (thr d i, .dma (soutS k)) 0 ∗ (outLoc d ↦[outSet i k]{fullShare} fo)
        ∗ Owing d i O W ∗ Transfers.MayWaits (thr d i) (none : HIx 1) O)
      ⊢ iprop((iprop(OutFlight d i T I A vi ai k hk ∗ semVal (thr d i, .dma (sinS k)) 0 ∗ Toks d q T I A k ∗ Owing d i O W)
            -∗ run d i c Q)
          -∗ run d i (passOn i k hk c) Q) := by
  unfold passOn waitIn startOut InFlight Owing
  simp only [Prog.lift, Prog.bind_op, Prog.bind_ret, Prog.pure_eq_ret]
  iintro ⟨Hf, Hs, Ho, ⟨%W', %hW', HO⟩, Hmw⟩ Hk
  iapply (Transfers.wp_waitLocalO countersEmb 𝒱₀ (thr d i) none (none : HIx 1) (srcw := waitM i) (dstw := bufM i k)
    (hsrc := View.wordExact_bits rfl) (hdst := (View.wordExact_bits rfl).reshape _ _) (N := creditIn i k) rfl) $$ [Hf HO Hmw]
  · isplitl [Hf]; · iexact Hf
    isplitl [HO]; · iexact HO
    iapply (Transfers.MayWaits.elim (SemLoc.dma (sinS k))) $$ Hmw
  iintro ⟨⟨Hl, Ht⟩, Hv, HO⟩
  unfold Landed
  icases Hl with ⟨%f, Hb, %hf⟩
  ihave Hb := (Entails.of_eq (show (slotPts d i k f : sProp 𝕄) = (bufM i k).view.loc (thr d i) ↦[(bufM i k).view.set]{fullShare} f
    by rw [bufM_set]; rfl)) $$ Hb
  iapply (Transfers.wp_dmaLocal countersEmb 𝒱₀ (thr d i) none (Sd := outSet i k) (fd := fo) (none : HIx 1)
    (creditOut i k hk) rfl (View.dmaCredit_pos _ (by decide)) (outM_set i k hk).subset) $$ [Hb Ho Hs]
  · isplitl [Hb]; · iexact Hb
    isplitl [Ho]; · iexact Ho
    iexact Hs
  iintro Hf
  iapply Hk
  isplitl [Hf]
  · unfold OutFlight
    iapply (Transfers.Flight_mono countersEmb (thr d i) ?_) $$ Hf
    iintro ⟨Ho, Hb⟩
    isplitl [Ho]
    · ihave Ho := (Entails.of_eq (sent d i T I A vi ai k hk fo f hf)) $$ Ho
      iexact Ho
    · iexists f
      iapply (Entails.of_eq (show ((bufM i k).view.loc (thr d i) ↦[(bufM i k).view.set]{fullShare} f : sProp 𝕄) = slotPts d i k f
        by rw [bufM_set]; rfl)) $$ Hb
  isplitl [Hv]; · iexact Hv
  isplitl [Ht]; · iexact Ht
  iexists _
  isplitr
  rotate_left
  · iexact HO
  ipureintro
  intro p hp
  rcases Finset.mem_insert.mp hp with rfl | hp
  · exact Or.inr rfl
  · exact hW' p hp

/-- Waiting for chunk `k` to have left its slot. -/
theorem wp_waitOut (W : Waits sig (HIx 1)) (k : Nat) (hk : k < 32) (c : TProg F i PUnit) (Q : PUnit → sProp 𝕄) :
    iprop(OutFlight d i T I A vi ai k hk ∗ Owing d i O W ∗ Transfers.MayWaits (thr d i) (none : HIx 1) O)
      ⊢ iprop((iprop((outLoc d ↦[outSet i k]{fullShare} outVal T I A vi ai) ∗ (∃ f, slotPts d i k f)
              ∗ semVal (thr d i, .dma (soutS k)) 0 ∗ Owing d i O W)
            -∗ run d i c Q)
          -∗ run d i (waitOut i k hk >>= fun _ => c) Q) := by
  unfold waitOut OutFlight Owing
  simp only [Prog.lift, Prog.bind_op, Prog.bind_ret, Prog.pure_eq_ret]
  iintro ⟨Hf, ⟨%W', %hW', HO⟩, Hmw⟩ Hk
  iapply (Transfers.wp_waitLocalO countersEmb 𝒱₀ (thr d i) none (none : HIx 1) (srcw := bufM i k) (dstw := outM i k hk)
    (hsrc := (View.wordExact_bits rfl).reshape _ _) (hdst := View.wordExact_bits rfl) (N := creditOut i k hk) rfl) $$ [Hf HO Hmw]
  · isplitl [Hf]; · iexact Hf
    isplitl [HO]; · iexact HO
    iapply (Transfers.MayWaits.elim (SemLoc.dma (soutS k))) $$ Hmw
  iintro ⟨⟨Ho, Hb⟩, Hv, HO⟩
  iapply Hk
  isplitl [Ho]; · iexact Ho
  isplitl [Hb]; · iexact Hb
  isplitl [Hv]; · iexact Hv
  iexists _
  isplitr
  rotate_left
  · iexact HO
  ipureintro
  intro p hp
  rcases Finset.mem_insert.mp hp with rfl | hp
  · exact Or.inr rfl
  · exact hW' p hp

end Steps

end Cert.Scatter
-- ==== Proof.Turns.lean ====
module

public import proofs.«01_k».proof.Proof.Copies

/-!
# All of a tile's chunks

The turns by induction on their number, each leaving the tile with what it found one chunk further on, and from them all the
copies of a tile: it gives the output's rows at the output's values and gets back everything else as it was.
-/

@[expose] public section

noncomputable section

namespace Cert.Scatter

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]

local notation "𝕄" => MT nD τ sig (HIx 1) (Elt F) ℕ UU ℕ

variable (d : Dev nD) (i : grid0.Coords) (q : Nat → PosShare TreeShare)
  (T : S16384x2048.Idx → Elt F .f32) (I : S1024x2048.Idx → Elt F .f32) (A : S512x2048.Idx → Elt F .f32)
  (vi : S1024.Idx → BitVec 32) (ai : S512.Idx → BitVec 32)
  (O : CellTallies nD τ sig (HIx 1)) (W : Waits sig (HIx 1)) (fo : Buf (Elt F) (outLoc d))

/-! ## What repeats every three chunks -/

omit [FloatOps F] in
theorem sinS_add (k : Nat) : sinS (k + 3) = sinS k := by unfold sinS; rw [Nat.add_mod_right]
omit [FloatOps F] in
theorem soutS_add (k : Nat) : soutS (k + 3) = soutS k := by unfold soutS; rw [Nat.add_mod_right]
theorem Toks_add (k : Nat) : (Toks d q T I A (k + 3) : sProp 𝕄) = Toks d q T I A k := by unfold Toks; rw [Nat.add_mod_right]
theorem slotPts_add (k : Nat) (f : Buf (Elt F) (shLocV d i)) : (slotPts d i (k + 3) f : sProp 𝕄) = slotPts d i k f := by
  unfold slotPts; rw [Nat.add_mod_right]

/-! ## The output's rows, chunk by chunk -/

/-- The rows from chunk `k` to the tile's last, at `f`. -/
def ToDo (k : Nat) (f : Buf (Elt F) (outLoc d)) : sProp 𝕄 := outLoc d ↦[rows (flatN i k) (flatN i 32)]{fullShare} f
/-- The rows of the tile before chunk `k`, at `f`. -/
def Done (k : Nat) (f : Buf (Elt F) (outLoc d)) : sProp 𝕄 := outLoc d ↦[rows (flatN i 0) (flatN i k)]{fullShare} f

/-- Taking chunk `k` off the rows to do. -/
theorem toDo_take (k : Nat) (hk : k < 32) (f : Buf (Elt F) (outLoc d)) :
    (ToDo d i k f : sProp 𝕄) ⊢ iprop((outLoc d ↦[outSet i k]{fullShare} f) ∗ ToDo d i (k + 1) f) := by
  unfold ToDo outSet
  rw [← rows_union (flatN_mono i (Nat.le_succ k)) (flatN_mono i (show k + 1 ≤ 32 by omega))]
  exact (pointsTo_union rows_disjoint).1

/-- Adding chunk `k` to the rows done. -/
theorem done_put (k : Nat) (f : Buf (Elt F) (outLoc d)) :
    iprop(Done d i k f ∗ (outLoc d ↦[outSet i k]{fullShare} f)) ⊢ (Done d i (k + 1) f : sProp 𝕄) := by
  unfold Done outSet
  rw [← rows_union (flatN_mono i (Nat.zero_le k)) (flatN_mono i (Nat.le_succ k))]
  exact (pointsTo_union rows_disjoint).2

/-- Before the first chunk nothing is done. -/
theorem done_zero (f : Buf (Elt F) (outLoc d)) : (BI.emp : sProp 𝕄) ⊢ Done d i 0 f := by
  unfold Done
  rw [rows_self, pointsTo_empty]
  exact .rfl

/-! ## The turns -/

/-- What the tile holds before the turn of chunk `k`: two chunks on their way out, one on its way in, the rest at rest. -/
def Held (k : Nat) (hk : k + 2 < 32) : sProp 𝕄 :=
  iprop(OutFlight d i T I A vi ai k (by omega) ∗ OutFlight d i T I A vi ai (k + 1) (by omega)
    ∗ InFlight d i q T I A vi ai (k + 2) hk ∗ semVal (thr d i, .dma (soutS (k + 2))) 0
    ∗ semVal (thr d i, .dma (sinS k)) 0 ∗ semVal (thr d i, .dma (sinS (k + 1))) 0
    ∗ Toks d q T I A k ∗ Toks d q T I A (k + 1)
    ∗ ToDo d i (k + 2) fo ∗ Done d i k (outVal T I A vi ai) ∗ Owing d i O W)

/-- Any number of turns. -/
theorem wp_turns (hV : ImgOk vi) (hU : AudOk ai)
    (ok : ∀ k, k < 32 → ChunkOk i (imgAt vi (tileN i / 8)) (audAt ai (tileN i / 8)) k) (c : TProg F i PUnit) (Q : PUnit → sProp 𝕄) :
    ∀ (n k : Nat) (h : n + k ≤ 29),
      iprop(Held d i q T I A vi ai O W fo k (by omega) ∗ Transfers.MayWaits (thr d i) (none : HIx 1) O)
        ⊢ iprop((Held d i q T I A vi ai O W fo (n + k) (by omega) -∗ run d i c Q)
            -∗ run d i (turns i (imgAt vi (tileN i / 8)) (audAt ai (tileN i / 8)) ok c n k h) Q) := by
  intro n
  induction n with
  | zero =>
    intro k h
    iintro ⟨H, -⟩ Hk
    have e : (Held d i q T I A vi ai O W fo (0 + k) (by omega) : sProp 𝕄) = Held d i q T I A vi ai O W fo k (by omega) := by
      congr 1; omega
    rw [e]
    unfold turns
    iapply Hk
    iexact H
  | succ n ih =>
    intro k h
    have hk : k < 32 := by omega
    have h2 : k + 2 < 32 := by omega
    have h3 : k + 3 < 32 := by omega
    have hn : n + (k + 1) ≤ 29 := by omega
    unfold Held
    iintro ⟨⟨Hp, Hp1, Hg, Hvo, Hvi, Hvi1, Ht, Ht1, Htodo, Hdone, HO⟩, #Hmw⟩ Hk
    unfold turns
    iapply (wp_waitOut d i T I A vi ai O W k hk _ Q) $$ [Hp HO Hmw]
    · isplitl [Hp]; · iexact Hp
      isplitl [HO]; · iexact HO
      iexact Hmw
    iintro ⟨Ho, ⟨%f, Hb⟩, Hvo0, HO⟩
    iapply (wp_startIn d i q T I A vi ai hV hU (k + 3) h3 (ok (k + 3) h3) _ Q) $$ [Ht Hb Hvi]
    · rw [Toks_add, sinS_add]
      isplitl [Ht]; · iexact Ht
      isplitl [Hb]
      · iexists f
        rw [slotPts_add]
        iexact Hb
      iexact Hvi
    iintro Hg3
    ihave Htodo := (toDo_take d i (k + 2) (by omega) fo) $$ Htodo
    icases Htodo with ⟨Hrow, Htodo⟩
    iapply (wp_passOn d i q T I A vi ai O W (k + 2) h2 fo _ Q) $$ [Hg Hvo Hrow HO Hmw]
    · isplitl [Hg]; · iexact Hg
      isplitl [Hvo]; · iexact Hvo
      isplitl [Hrow]; · iexact Hrow
      isplitl [HO]; · iexact HO
      iexact Hmw
    iintro ⟨Hp2, Hvi2, Ht2, HO⟩
    ihave Hdone := (done_put d i k (outVal T I A vi ai)) $$ [Hdone Ho]
    · isplitl [Hdone]; · iexact Hdone
      iexact Ho
    iapply (ih (k + 1) hn) $$ [Hp1 Hp2 Hg3 Hvo0 Hvi1 Hvi2 Ht1 Ht2 Htodo Hdone HO Hmw]
    · isplitr [Hmw]
      · unfold Held
        isplitl [Hp1]; · iexact Hp1
        isplitl [Hp2]; · iexact Hp2
        isplitl [Hg3]; · iexact Hg3
        isplitl [Hvo0]
        · rw [show k + 1 + 2 = k + 3 by omega, soutS_add]
          iexact Hvo0
        isplitl [Hvi1]; · iexact Hvi1
        isplitl [Hvi2]; · iexact Hvi2
        isplitl [Ht1]; · iexact Ht1
        isplitl [Ht2]; · iexact Ht2
        isplitl [Htodo]; · iexact Htodo
        isplitl [Hdone]; · iexact Hdone
        iexact HO
      iexact Hmw
    iintro H
    iapply Hk
    have e : (Held d i q T I A vi ai O W fo (n + (k + 1)) (by omega) : sProp 𝕄)
        = Held d i q T I A vi ai O W fo (n + 1 + k) (by omega) := by
      congr 1; omega
    ihave H := (Entails.of_eq e) $$ H
    unfold Held
    iexact H

/-! ## All the copies -/

/-- One slot at rest: its read shares, the slot, and its two semaphores at zero. -/
def Rest (j : Nat) : sProp 𝕄 :=
  iprop(Toks d q T I A j ∗ (∃ f, slotPts d i j f) ∗ semVal (thr d i, .dma (sinS j)) 0 ∗ semVal (thr d i, .dma (soutS j)) 0)

/-- Everything a tile does once it holds the two indices: its rows of the output end at the output's values. -/
theorem wp_copies (hV : ImgOk vi) (hU : AudOk ai)
    (ok : ∀ k, k < 32 → ChunkOk i (imgAt vi (tileN i / 8)) (audAt ai (tileN i / 8)) k) (Q : PUnit → sProp 𝕄) :
    iprop(Rest d i q T I A 0 ∗ Rest d i q T I A 1 ∗ Rest d i q T I A 2
        ∗ (outLoc d ↦[rows (flatN i 0) (flatN i 32)]{fullShare} fo) ∗ Owing d i O W
        ∗ Transfers.MayWaits (thr d i) (none : HIx 1) O)
      ⊢ iprop((iprop(Rest d i q T I A 0 ∗ Rest d i q T I A 1 ∗ Rest d i q T I A 2
            ∗ (outLoc d ↦[rows (flatN i 0) (flatN i 32)]{fullShare} outVal T I A vi ai) ∗ Owing d i O W) -∗ Q ⟨⟩)
          -∗ run d i (copies i (imgAt vi (tileN i / 8)) (audAt ai (tileN i / 8)) ok) Q) := by
  have h0 : 0 < 32 := by omega
  have h1 : 1 < 32 := by omega
  have h2 : 2 < 32 := by omega
  have h29 : 29 < 32 := by omega
  have h30 : 30 < 32 := by omega
  have h31 : 31 < 32 := by omega
  unfold copies
  iintro ⟨HR0, HR1, HR2, Hout, HO, #Hmw⟩ Hk
  ihave Htodo := (show (outLoc d ↦[rows (flatN i 0) (flatN i 32)]{fullShare} fo : sProp 𝕄) ⊢ ToDo d i 0 fo from .rfl) $$ Hout
  ihave HR0 := (show (Rest d i q T I A 0 : sProp 𝕄) ⊢ iprop(Toks d q T I A 0 ∗ (∃ f, slotPts d i 0 f)
    ∗ semVal (thr d i, .dma (sinS 0)) 0 ∗ semVal (thr d i, .dma (soutS 0)) 0) from .rfl) $$ HR0
  ihave HR1 := (show (Rest d i q T I A 1 : sProp 𝕄) ⊢ iprop(Toks d q T I A 1 ∗ (∃ f, slotPts d i 1 f)
    ∗ semVal (thr d i, .dma (sinS 1)) 0 ∗ semVal (thr d i, .dma (soutS 1)) 0) from .rfl) $$ HR1
  ihave HR2 := (show (Rest d i q T I A 2 : sProp 𝕄) ⊢ iprop(Toks d q T I A 2 ∗ (∃ f, slotPts d i 2 f)
    ∗ semVal (thr d i, .dma (sinS 2)) 0 ∗ semVal (thr d i, .dma (soutS 2)) 0) from .rfl) $$ HR2
  icases HR0 with ⟨Ht0, Hb0, Hvi0, Hvo0⟩
  icases HR1 with ⟨Ht1, Hb1, Hvi1, Hvo1⟩
  icases HR2 with ⟨Ht2, Hb2, Hvi2, Hvo2⟩
  iapply (wp_startIn d i q T I A vi ai hV hU 0 h0 (ok 0 h0) _ Q) $$ [Ht0 Hb0 Hvi0]
  · isplitl [Ht0]; · iexact Ht0
    isplitl [Hb0]; · iexact Hb0
    iexact Hvi0
  iintro Hg0
  iapply (wp_startIn d i q T I A vi ai hV hU 1 h1 (ok 1 h1) _ Q) $$ [Ht1 Hb1 Hvi1]
  · isplitl [Ht1]; · iexact Ht1
    isplitl [Hb1]; · iexact Hb1
    iexact Hvi1
  iintro Hg1
  ihave Htodo := (toDo_take d i 0 (by omega) fo) $$ Htodo
  icases Htodo with ⟨Hrow, Htodo⟩
  iapply (wp_passOn d i q T I A vi ai O W 0 h0 fo _ Q) $$ [Hg0 Hvo0 Hrow HO Hmw]
  · isplitl [Hg0]; · iexact Hg0
    isplitl [Hvo0]; · iexact Hvo0
    isplitl [Hrow]; · iexact Hrow
    isplitl [HO]; · iexact HO
    iexact Hmw
  iintro ⟨Hp0, Hvi0, Ht0, HO⟩
  iapply (wp_startIn d i q T I A vi ai hV hU 2 h2 (ok 2 h2) _ Q) $$ [Ht2 Hb2 Hvi2]
  · isplitl [Ht2]; · iexact Ht2
    isplitl [Hb2]; · iexact Hb2
    iexact Hvi2
  iintro Hg2
  ihave Htodo := (toDo_take d i (0 + 1) (by omega) fo) $$ Htodo
  icases Htodo with ⟨Hrow, Htodo⟩
  iapply (wp_passOn d i q T I A vi ai O W 1 h1 fo _ Q) $$ [Hg1 Hvo1 Hrow HO Hmw]
  · isplitl [Hg1]; · iexact Hg1
    isplitl [Hvo1]; · iexact Hvo1
    isplitl [Hrow]; · iexact Hrow
    isplitl [HO]; · iexact HO
    iexact Hmw
  iintro ⟨Hp1, Hvi1, Ht1, HO⟩
  ihave Hdone := (done_zero d i (outVal T I A vi ai)) $$ []
  · iempintro
  iapply (wp_turns d i q T I A vi ai O W fo hV hU ok _ Q 29 0 (Nat.le_refl 29)) $$ [Hp0 Hp1 Hg2 Hvo2 Hvi0 Hvi1 Ht0 Ht1 Htodo Hdone HO Hmw]
  · isplitr [Hmw]
    · unfold Held
      isplitl [Hp0]; · iexact Hp0
      isplitl [Hp1]; · iexact Hp1
      isplitl [Hg2]; · iexact Hg2
      isplitl [Hvo2]; · iexact Hvo2
      isplitl [Hvi0]; · iexact Hvi0
      isplitl [Hvi1]; · iexact Hvi1
      isplitl [Ht0]; · iexact Ht0
      isplitl [Ht1]; · iexact Ht1
      isplitl [Htodo]; · iexact Htodo
      isplitl [Hdone]; · iexact Hdone
      iexact HO
    iexact Hmw
  iintro H
  unfold Held
  icases H with ⟨Hp0, Hp1, Hg2, Hvo2, Hvi0, Hvi1, Ht0, Ht1, Htodo, Hdone, HO⟩
  ihave Htodo := (toDo_take d i 31 (by omega) fo) $$ Htodo
  icases Htodo with ⟨Hrow, Htodo⟩
  iapply (wp_passOn d i q T I A vi ai O W 31 h31 fo _ Q) $$ [Hg2 Hvo2 Hrow HO Hmw]
  · isplitl [Hg2]; · iexact Hg2
    isplitl [Hvo2]; · iexact Hvo2
    isplitl [Hrow]; · iexact Hrow
    isplitl [HO]; · iexact HO
    iexact Hmw
  iintro ⟨Hp2, Hvi2, Ht2, HO⟩
  iapply (wp_waitOut d i T I A vi ai O W 29 h29 _ Q) $$ [Hp0 HO Hmw]
  · isplitl [Hp0]; · iexact Hp0
    isplitl [HO]; · iexact HO
    iexact Hmw
  iintro ⟨Ho, Hb0, Hvo0, HO⟩
  ihave Hdone := (done_put d i 29 (outVal T I A vi ai)) $$ [Hdone Ho]
  · isplitl [Hdone]; · iexact Hdone
    iexact Ho
  iapply (wp_waitOut d i T I A vi ai O W 30 h30 _ Q) $$ [Hp1 HO Hmw]
  · isplitl [Hp1]; · iexact Hp1
    isplitl [HO]; · iexact HO
    iexact Hmw
  iintro ⟨Ho, Hb1, Hvo1, HO⟩
  ihave Hdone := (done_put d i 30 (outVal T I A vi ai)) $$ [Hdone Ho]
  · isplitl [Hdone]; · iexact Hdone
    iexact Ho
  iapply (wp_waitOut d i T I A vi ai O W 31 h31 _ Q) $$ [Hp2 HO Hmw]
  · isplitl [Hp2]; · iexact Hp2
    isplitl [HO]; · iexact HO
    iexact Hmw
  iintro ⟨Ho, Hb2, Hvo2, HO⟩
  ihave Hdone := (done_put d i 31 (outVal T I A vi ai)) $$ [Hdone Ho]
  · isplitl [Hdone]; · iexact Hdone
    iexact Ho
  unfold run
  rw [wp_pure]
  imodintro
  iapply Hk
  isplitl [Ht1 Hb1 Hvi1 Hvo1]
  · unfold Rest
    isplitl [Ht1]; · iexact Ht1
    isplitl [Hb1]; · iexact Hb1
    isplitl [Hvi1]; · iexact Hvi1
    iexact Hvo1
  isplitl [Ht2 Hb2 Hvi2 Hvo2]
  · unfold Rest
    isplitl [Ht2]; · iexact Ht2
    isplitl [Hb2]; · iexact Hb2
    isplitl [Hvi2]; · iexact Hvi2
    iexact Hvo2
  isplitl [Ht0 Hb0 Hvi0 Hvo0]
  · unfold Rest
    isplitl [Ht0]; · iexact Ht0
    isplitl [Hb0]; · iexact Hb0
    isplitl [Hvi0]; · iexact Hvi0
    iexact Hvo0
  isplitl [Hdone]
  · unfold Done
    iexact Hdone
  iexact HO

end Cert.Scatter
-- ==== Proof.Tile.lean ====
module

public import proofs.«01_k».proof.Proof.Turns
public import Idealize.ShloMosaic.Lib.Ring

/-!
# A tile's whole program

What a tile is handed and hands back, and its program run between the two: it fetches its item's indices, takes the first of
each run, passes the kernel's check on them, and copies its 512 rows.
-/

@[expose] public section

noncomputable section

namespace Cert.Scatter

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx ownBufs ownSems0 ownCells ownRefs mem_ownCells mem_ownRefs)

variable {F : FTy → Type} [FloatOps F]

local notation "𝕄" => MT nD τ sig (HIx 1) (Elt F) ℕ UU ℕ

omit [FloatOps F] in
/-- Some members of a family taken out of its conjunction, one after another. -/
theorem take_list {α : Type} [DecidableEq α] (Φ : α → sProp 𝕄) :
    ∀ (l : List α) (s : Finset α), l.Nodup → (∀ a ∈ l, a ∈ s) →
      bigSep s Φ = l.foldr (fun a R => iprop(Φ a ∗ R)) (bigSep (l.foldl (fun s a => s.erase a) s) Φ) := by
  intro l
  induction l with
  | nil => intro s _ _; rfl
  | cons a l ih =>
    intro s hn hs
    rw [SparseCore.bigSep_erase' (hs a List.mem_cons_self), ih (s.erase a) (List.nodup_cons.mp hn).2 (fun b hb =>
      Finset.mem_erase.mpr ⟨fun e => (List.nodup_cons.mp hn).1 (e ▸ hb), hs b (List.mem_cons_of_mem _ hb)⟩)]
    rfl

variable (d : Dev nD) (i : grid0.Coords)

/-- The tile's copy semaphores. -/
def tileSems : List (DmaSem sig) :=
  [cc0_scoped0.sem, cc0_scoped1.sem, cc0_scratch3.sem, cc0_scratch4.sem, cc0_scratch5.sem, cc0_scratch6.sem, cc0_scratch7.sem,
    cc0_scratch8.sem]

/-- The tile's other semaphores. -/
def otherSems : sProp 𝕄 :=
  bigSep ((tileSems.map fun a => ((thr d i, .dma a) : GSem nD τ sig)).foldl (fun s a => s.erase a) (ownCells (thr d i)))
    fun g => semVal g 0

/-- The tile's other buffers. -/
def otherBufs : sProp 𝕄 :=
  bigSep (([(Proc.scVector (cV i) (jV i)).devRef cc0_scratch0, (Proc.scVector (cV i) (jV i)).devRef cc0_scratch1] :
    List (DevRef τ sig)).foldl (fun s a => s.erase a) (ownRefs (τ := τ) (.scVector (cV i) (jV i))))
    fun b => iprop(∃ f, ((d, b) : Loc nD τ sig) ↦{fullShare} f)

omit [FloatOps F] in
/-- The tile's own semaphores are its eight copy semaphores and the others. -/
theorem ownSems0_tile :
    (ownSems0 (thr d i) : sProp 𝕄)
      = iprop(semVal (thr d i, .dma cc0_scoped0.sem) 0 ∗ semVal (thr d i, .dma cc0_scoped1.sem) 0
          ∗ semVal (thr d i, .dma cc0_scratch3.sem) 0 ∗ semVal (thr d i, .dma cc0_scratch4.sem) 0
          ∗ semVal (thr d i, .dma cc0_scratch5.sem) 0 ∗ semVal (thr d i, .dma cc0_scratch6.sem) 0
          ∗ semVal (thr d i, .dma cc0_scratch7.sem) 0 ∗ semVal (thr d i, .dma cc0_scratch8.sem) 0 ∗ otherSems d i) := by
  unfold SparseCore.Cfg.ownSems0
  refine (take_list (fun g : GSem nD τ sig => (semVal g 0 : sProp 𝕄)) (tileSems.map fun a => (thr d i, .dma a)) _ ?_ ?_).trans rfl
  · refine List.Nodup.map (fun a b e => ?_) (by decide)
    simpa using e
  · intro g hg
    obtain ⟨a, ha, rfl⟩ := List.mem_map.mp hg
    have hs : ∀ a ∈ tileSems, (SemLoc.dma a : SemLoc sig).isScoped .scVector = true := by decide
    exact mem_ownCells.mpr ⟨rfl, hs a ha⟩

omit [FloatOps F] in
/-- The tile's own buffers are its two index buffers and the others. -/
theorem ownBufs_tile :
    (ownBufs (thr d i) : sProp 𝕄)
      = iprop((∃ f, (thr d i).loc cc0_scratch0 ↦{fullShare} f) ∗ (∃ f, (thr d i).loc cc0_scratch1 ↦{fullShare} f)
          ∗ otherBufs d i) := by
  unfold SparseCore.Cfg.ownBufs
  refine (take_list (fun b : DevRef τ sig => (iprop(∃ f, ((d, b) : Loc nD τ sig) ↦{fullShare} f) : sProp 𝕄))
    [(Proc.scVector (cV i) (jV i)).devRef cc0_scratch0, (Proc.scVector (cV i) (jV i)).devRef cc0_scratch1] _ ?_ ?_).trans rfl
  · refine List.nodup_cons.mpr ⟨fun h => ?_, List.nodup_singleton _⟩
    exact absurd (Proc.devRef_injective _ (List.mem_singleton.mp h)) (show (cc0_scratch0 : Ref sig .scVector) ≠ cc0_scratch1 by decide)
  · intro b hb
    rcases List.mem_cons.mp hb with rfl | hb
    · exact SparseCore.Cfg.mem_ownRefs_of_owner (p := Proc.scVector (cV i) (jV i)) rfl
    · obtain rfl := List.mem_singleton.mp hb
      exact SparseCore.Cfg.mem_ownRefs_of_owner (p := Proc.scVector (cV i) (jV i)) rfl

variable (T : S16384x2048.Idx → Elt F .f32) (I : S1024x2048.Idx → Elt F .f32) (A : S512x2048.Idx → Elt F .f32)
  (vi : S1024.Idx → BitVec 32) (ai : S512.Idx → BitVec 32)
  (O : CellTallies nD τ sig (HIx 1)) (W : Waits sig (HIx 1))

/-! ## Fetching sixteen indices -/

/-- A copy of sixteen indices into one of the tile's index buffers, and the wait for it. -/
theorem wp_fetch (src : Memref sig .scVector .hbm S16 .i32) (dst : Memref sig .scVector .vmem S16 .i32) (sm : DmaSem sig)
    (q : PosShare TreeShare) (fs : Buf (Elt F) (src.view.loc (thr d i))) (fd : Buf (Elt F) (dst.view.loc (thr d i)))
    {hsrc : src.view.WordExact} {hdst : dst.view.WordExact}
    {hsem : DmaTarget.Typed .hbm (.dma sm) (.here dst : DmaTarget nD τ sig (.scVector (cV i) (jV i)) .vmem S16 .i32)}
    (c : TProg F i PUnit) (Q : PUnit → sProp 𝕄) :
    iprop((src.view.loc (thr d i) ↦{q} fs) ∗ (dst.view.loc (thr d i) ↦{fullShare} fd) ∗ semVal (thr d i, .dma sm) 0
        ∗ Owing d i O W ∗ Transfers.MayWaits (thr d i) (none : HIx 1) O)
      ⊢ iprop((iprop((src.view.loc (thr d i) ↦{q} fs)
              ∗ (dst.view.loc (thr d i) ↦{fullShare} dst.view.write (Elt F) fd (src.view.read (Elt F) fs) Finset.univ)
              ∗ semVal (thr d i, .dma sm) 0 ∗ Owing d i O W) -∗ run d i c Q)
          -∗ run d i (.op (.enqueueDmaAs src (.here dst) .same (.dma sm) hsrc hdst hsem) fun _ =>
              .op (.waitDma2 sm src dst hsrc hdst) fun _ => c) Q) := by
  unfold Owing
  iintro ⟨Hs, Hd, Hv, ⟨%W', %hW', HO⟩, Hmw⟩ Hk
  ihave Hs := (pointsTo_split_subset (q := q) (f := fs) (S := Finset.univ) (Finset.subset_univ src.view.set)).1 $$ Hs
  icases Hs with ⟨Hs, Hrest⟩
  iapply (Transfers.wp_dmaLocal countersEmb 𝒱₀ (thr d i) none (Sd := Finset.univ) (fd := fd) (none : HIx 1)
    dst.view.dmaCredit rfl (View.dmaCredit_pos _ (by decide)) (Finset.subset_univ _)) $$ [Hs Hd Hv]
  · isplitl [Hs]; · iexact Hs
    isplitl [Hd]; · iexact Hd
    iexact Hv
  iintro Hf
  iapply (Transfers.wp_waitLocalO countersEmb 𝒱₀ (thr d i) none (none : HIx 1) (srcw := src) (dstw := dst)
    (hsrc := hsrc) (hdst := hdst) (N := dst.view.dmaCredit) rfl) $$ [Hf HO Hmw]
  · isplitl [Hf]; · iexact Hf
    isplitl [HO]; · iexact HO
    iapply (Transfers.MayWaits.elim (SemLoc.dma sm)) $$ Hmw
  iintro ⟨⟨Hd, Hs⟩, Hv, HO⟩
  iapply Hk
  isplitl [Hs Hrest]
  · iapply (pointsTo_split_subset (q := q) (f := fs) (S := Finset.univ) (Finset.subset_univ src.view.set)).2
    isplitl [Hs] <;> iassumption
  isplitl [Hd]; · iexact Hd
  isplitl [Hv]; · iexact Hv
  iexists _
  isplitr
  rotate_left
  · iexact HO
  ipureintro
  intro p hp
  rcases Finset.mem_insert.mp hp with rfl | hp
  · exact Or.inr rfl
  · exact hW' p hp

/-- The window on the tile's item's first image indices. -/
abbrev vixM : Memref sig .scVector .hbm S16 .i32 :=
  (Memref.whole main_v3_scv).slice (Rect.unit (s := S1024) (k0_off1 i) S16.size (k0_off1_inb i)) (fun _ => rfl)
/-- The window on the tile's item's first audio indices. -/
abbrev aixM : Memref sig .scVector .hbm S16 .i32 :=
  (Memref.whole main_v4_scv).slice (Rect.unit (s := S512) (k0_off2 i) S16.size (k0_off2_inb i)) (fun _ => rfl)

/-- What the tile takes from its image index buffer after the fetch is its item's first image row. -/
theorem fetched_img (f : Buf (Elt F) ((thr d i).loc cc0_scratch0)) :
    extractAt ![0] (k0_pay1 (F := F) ((Memref.whole cc0_scratch0).view.readAt (Elt F)
      (Rect.unit (s := S16) ![0] S16.size inb_S16_S16_0).toLoadRect
      ((Memref.whole cc0_scratch0).view.write (Elt F) f ((vixM i).view.read (Elt F) vi) Finset.univ))) inpos_S1_p0
      = imgAt vi (tileN i / 8) := by
  apply imgAt_read
  intro j
  have hb := tileN_lt i
  have hj : (j 0).val < 16 := (j 0).isLt
  show (View.whole cc0_scratch0).write (Elt F) f ((vixM i).view.read (Elt F) vi) Finset.univ _ = _
  rw [View.write_whole_univ]
  show vi _ = vi _
  congr 1
  funext a
  match a with
  | ⟨0, _⟩ =>
    apply Fin.ext
    show k0_off1 i 0 + 1 * (0 + 1 * (j 0).val) = (256 * (tileN i / 8) + (j 0).val) % 1024
    rw [off1_eq]
    show 256 * (tileN i / 8) + 1 * (0 + 1 * (j 0).val) = (256 * (tileN i / 8) + (j 0).val) % 1024
    omega

/-- What the tile takes from its audio index buffer after the fetch is its item's first audio row. -/
theorem fetched_aud (f : Buf (Elt F) ((thr d i).loc cc0_scratch1)) :
    extractAt ![0] (k0_pay2 (F := F) ((Memref.whole cc0_scratch1).view.readAt (Elt F)
      (Rect.unit (s := S16) ![0] S16.size inb_S16_S16_0).toLoadRect
      ((Memref.whole cc0_scratch1).view.write (Elt F) f ((aixM i).view.read (Elt F) ai) Finset.univ))) inpos_S1_p0
      = audAt ai (tileN i / 8) := by
  apply audAt_read
  intro j
  have hb := tileN_lt i
  have hj : (j 0).val < 16 := (j 0).isLt
  show (View.whole cc0_scratch1).write (Elt F) f ((aixM i).view.read (Elt F) ai) Finset.univ _ = _
  rw [View.write_whole_univ]
  show ai _ = ai _
  congr 1
  funext a
  match a with
  | ⟨0, _⟩ =>
    apply Fin.ext
    show k0_off2 i 0 + 1 * (0 + 1 * (j 0).val) = (128 * (tileN i / 8) + (j 0).val) % 512
    rw [off2_eq]
    show 128 * (tileN i / 8) + 1 * (0 + 1 * (j 0).val) = (128 * (tileN i / 8) + (j 0).val) % 512
    omega

/-! ## What a tile holds -/

/-- A share of every array the tiles read. -/
def Arrays (q : PosShare TreeShare) : sProp 𝕄 :=
  iprop((txtLoc d ↦{q} T) ∗ (imgLoc d ↦{q} I) ∗ (audLoc d ↦{q} A) ∗ (vixLoc d ↦{q} vi) ∗ (aixLoc d ↦{q} ai))

/-- The tile's rows of the output. -/
def outRows (f : S16384x2048.Idx → Elt F .f32) : sProp 𝕄 := iprop(outLoc d ↦[rows (flatN i 0) (flatN i 32)]{fullShare} f)

/-- The tile's part of its SparseCore's shared scratch, at any values. -/
def scratch : sProp 𝕄 := iprop(∃ f, shLocV d i ↦[tileSet (i 1).val]{fullShare} f)

/-- The share of an array that goes with slot `j`, of a share dealt to the three slots. -/
def slotShare (q : PosShare TreeShare) (j : Nat) : PosShare TreeShare :=
  Transfers.dealOf q (Finset.univ : Finset (Fin 3)) ⟨j % 3, Nat.mod_lt _ (by omega)⟩

omit [FloatOps F] in
/-- A share of an array is the three slots' shares of it. -/
theorem dealt (ℓ : Loc nD τ sig) (q : PosShare TreeShare) (f : Buf (Elt F) ℓ) :
    (ℓ ↦{q} f : sProp 𝕄) = iprop((ℓ ↦{slotShare q 0} f) ∗ (ℓ ↦{slotShare q 1} f) ∗ (ℓ ↦{slotShare q 2} f)) := by
  rw [Transfers.pointsTo_deal (Finset.univ : Finset (Fin 3)) ⟨0, Finset.mem_univ _⟩ q, Ring.bigSep_fin3]
  rfl

/-- A tile's part of the scratch is its three slots. -/
theorem tileSet_eq (s : Nat) : tileSet s = slotSet s 0 ∪ (slotSet s 1 ∪ slotSet s 2) := by
  ext x
  have hx : (x 1).val < 3 := (x 1).isLt
  simp only [tileSet, slotSet, Finset.mem_union, Finset.mem_filter, Finset.mem_univ, true_and]
  omega

/-- Two slots share no element. -/
theorem slotSet_disjoint (s : Nat) {j k : Nat} (h : j ≠ k) : Disjoint (slotSet s j) (slotSet s k) := by
  rw [Finset.disjoint_left]
  intro x hx hy
  simp only [slotSet, Finset.mem_filter, Finset.mem_univ, true_and] at hx hy
  exact h (hx.2.symm.trans hy.2)

omit [FloatOps F] in
/-- A tile's part of the scratch, taken apart into its slots. -/
theorem scratch_split :
    (scratch d i : sProp 𝕄) ⊢ iprop((∃ f, slotPts d i 0 f) ∗ (∃ f, slotPts d i 1 f) ∗ (∃ f, slotPts d i 2 f)) := by
  have h12 := slotSet_disjoint (i 1).val (j := 1) (k := 2) (by omega)
  have h0 : Disjoint (slotSet (i 1).val 0) (slotSet (i 1).val 1 ∪ slotSet (i 1).val 2) :=
    Finset.disjoint_union_right.mpr ⟨slotSet_disjoint _ (by omega), slotSet_disjoint _ (by omega)⟩
  unfold scratch
  rw [tileSet_eq]
  iintro ⟨%f, H⟩
  ihave H := (pointsTo_union h0).1 $$ H
  icases H with ⟨H0, H⟩
  ihave H := (pointsTo_union h12).1 $$ H
  icases H with ⟨H1, H2⟩
  isplitl [H0]; · iexists f; iexact H0
  isplitl [H1]; · iexists f; iexact H1
  iexists f; iexact H2

omit [FloatOps F] in
/-- The slots, put together again. -/
theorem scratch_join :
    iprop((∃ f, slotPts d i 0 f) ∗ (∃ f, slotPts d i 1 f) ∗ (∃ f, slotPts d i 2 f)) ⊢ (scratch d i : sProp 𝕄) := by
  have h12 := slotSet_disjoint (i 1).val (j := 1) (k := 2) (by omega)
  have h0 : Disjoint (slotSet (i 1).val 0) (slotSet (i 1).val 1 ∪ slotSet (i 1).val 2) :=
    Finset.disjoint_union_right.mpr ⟨slotSet_disjoint _ (by omega), slotSet_disjoint _ (by omega)⟩
  unfold scratch
  rw [tileSet_eq]
  iintro ⟨⟨%f, H0⟩, ⟨%g, H1⟩, ⟨%h, H2⟩⟩
  ihave H := (pointsTo_join (ℓ := shLocV d i) h12) $$ [H1 H2]
  · isplitl [H1]; · iexact H1
    iexact H2
  ihave H := (pointsTo_join (ℓ := shLocV d i) h0) $$ [H0 H]
  · isplitl [H0]; · iexact H0
    iexact H
  iexists _; iexact H

/-- The kernel's check and everything after it, once the two indices are known. -/
theorem wp_checked (q : Nat → PosShare TreeShare) (fo : S16384x2048.Idx → Elt F .f32) (hV : ImgOk vi) (hU : AudOk ai) (Q : PUnit → sProp 𝕄) :
    iprop(Rest d i q T I A 0 ∗ Rest d i q T I A 1 ∗ Rest d i q T I A 2 ∗ outRows d i fo ∗ Owing d i O W
        ∗ Transfers.MayWaits (thr d i) (none : HIx 1) O)
      ⊢ iprop((iprop(Rest d i q T I A 0 ∗ Rest d i q T I A 1 ∗ Rest d i q T I A 2 ∗ outRows d i (outVal T I A vi ai) ∗ Owing d i O W)
            -∗ Q ⟨⟩)
          -∗ run d i (checked i (imgAt vi (tileN i / 8)) (audAt ai (tileN i / 8))) Q) := by
  have hb : tileN i / 8 < 4 := by have := tileN_lt i; omega
  have hchk : k0_chk1 i (imgAt vi (tileN i / 8)) (audAt ai (tileN i / 8)) :=
    (chk_iff i _ _).mpr fun k hk => chunkOk i k hk (hV _ hb).1 (hV _ hb).2 (hU _ hb).1 (hU _ hb).2
  unfold outRows
  iintro H Hk
  unfold checked
  simp only [Prog.lift, Prog.bind_op, Prog.bind_ret, Prog.pure_eq_ret]
  iapply (wp_assume 𝒱₀ (thr d i) none Set.univ hchk)
  iapply (wp_copies d i q T I A vi ai O W fo hV hU ((chk_iff i _ _).mp hchk) Q) $$ H Hk

/-- A tile's whole program: given shares of the arrays, its rows of the output and its part of the scratch, it hands them
    back with its rows at the output's values. -/
theorem wp_tile (q : PosShare TreeShare) (fo : S16384x2048.Idx → Elt F .f32) (hV : ImgOk vi) (hU : AudOk ai) :
    iprop(Arrays d T I A vi ai q ∗ outRows d i fo ∗ scratch d i ∗ ownBufs (thr d i) ∗ ownSems0 (thr d i) ∗ Owing d i O W
        ∗ Transfers.MayWaits (thr d i) (none : HIx 1) O)
      ⊢ run d i (tileProg i) fun _ => iprop(Arrays d T I A vi ai q ∗ outRows d i (outVal T I A vi ai) ∗ scratch d i
          ∗ ownBufs (thr d i) ∗ ownSems0 (thr d i) ∗ Owing d i O W) := by
  rw [ownBufs_tile, ownSems0_tile]
  unfold Arrays
  rw [dealt (txtLoc d) q T, dealt (imgLoc d) q I, dealt (audLoc d) q A]
  iintro ⟨⟨⟨Ht0, Ht1, Ht2⟩, ⟨Hi0, Hi1, Hi2⟩, ⟨Ha0, Ha1, Ha2⟩, Hvi, Hai⟩, Hout, Hsc, ⟨⟨%f0, Hb0⟩, ⟨%f1, Hb1⟩, Hbs⟩, ⟨Hs0, Hs1, Hs3, Hs4, Hs5, Hs6, Hs7, Hs8, Hss⟩, HO, #Hmw⟩
  unfold tileProg
  simp only [Prog.lift, Prog.bind_op, Prog.bind_ret, Prog.pure_eq_ret]
  iapply (wp_fetch d i O W (vixM i) (Memref.whole cc0_scratch0) cc0_scoped0.sem q vi f0 _ _) $$ [Hvi Hb0 Hs0 HO]
  · isplitl [Hvi]; · iexact Hvi
    isplitl [Hb0]; · iexact Hb0
    isplitl [Hs0]; · iexact Hs0
    isplitl [HO]; · iexact HO
    iexact Hmw
  iintro ⟨Hvi, Hb0, Hs0, HO⟩
  iapply (wp_fetch d i O W (aixM i) (Memref.whole cc0_scratch1) cc0_scoped1.sem q ai f1 _ _) $$ [Hai Hb1 Hs1 HO]
  · isplitl [Hai]; · iexact Hai
    isplitl [Hb1]; · iexact Hb1
    isplitl [Hs1]; · iexact Hs1
    isplitl [HO]; · iexact HO
    iexact Hmw
  iintro ⟨Hai, Hb1, Hs1, HO⟩
  iapply (wp_load 𝒱₀ (thr d i) none Set.univ (m := Memref.whole cc0_scratch0) (S := Finset.univ) (Finset.subset_univ _)) $$ Hb0
  iintro Hb0
  iapply (wp_load 𝒱₀ (thr d i) none Set.univ (m := Memref.whole cc0_scratch1) (S := Finset.univ) (Finset.subset_univ _)) $$ Hb1
  iintro Hb1
  rw [fetched_img d i vi f0, fetched_aud d i ai f1]
  ihave Hsc := (scratch_split d i) $$ Hsc
  icases Hsc with ⟨Hc0, Hc1, Hc2⟩
  iapply (wp_checked d i T I A vi ai O W (slotShare q) fo hV hU _) $$ [Ht0 Ht1 Ht2 Hi0 Hi1 Hi2 Ha0 Ha1 Ha2 Hc0 Hc1 Hc2 Hs3 Hs4 Hs5 Hs6 Hs7 Hs8 Hout HO]
  · unfold Rest Toks
    isplitl [Ht0 Hi0 Ha0 Hc0 Hs3 Hs6]
    · iframe
      isplitl [Hs3]; · iexact Hs3
      iexact Hs6
    isplitl [Ht1 Hi1 Ha1 Hc1 Hs4 Hs7]
    · iframe
      isplitl [Hs4]; · iexact Hs4
      iexact Hs7
    isplitl [Ht2 Hi2 Ha2 Hc2 Hs5 Hs8]
    · iframe
      isplitl [Hs5]; · iexact Hs5
      iexact Hs8
    iframe
    iexact Hmw
  unfold Rest Toks
  iintro ⟨⟨⟨Ht0, Hi0, Ha0⟩, Hc0, Hs3, Hs6⟩, ⟨⟨Ht1, Hi1, Ha1⟩, Hc1, Hs4, Hs7⟩, ⟨⟨Ht2, Hi2, Ha2⟩, Hc2, Hs5, Hs8⟩, Hout, HO⟩
  ihave Hsc := (scratch_join d i) $$ [Hc0 Hc1 Hc2]
  · isplitl [Hc0]; · iexact Hc0
    isplitl [Hc1]; · iexact Hc1
    iexact Hc2
  isplitl [Ht0 Ht1 Ht2 Hi0 Hi1 Hi2 Ha0 Ha1 Ha2 Hvi Hai]
  · isplitl [Ht0 Ht1 Ht2]
    · isplitl [Ht0]; · iexact Ht0
      isplitl [Ht1]; · iexact Ht1
      iexact Ht2
    isplitl [Hi0 Hi1 Hi2]
    · isplitl [Hi0]; · iexact Hi0
      isplitl [Hi1]; · iexact Hi1
      iexact Hi2
    isplitl [Ha0 Ha1 Ha2]
    · isplitl [Ha0]; · iexact Ha0
      isplitl [Ha1]; · iexact Ha1
      iexact Ha2
    isplitl [Hvi]; · iexact Hvi
    iexact Hai
  isplitl [Hout]; · iexact Hout
  isplitl [Hsc]; · iexact Hsc
  isplitl [Hb0 Hb1 Hbs]
  · isplitl [Hb0]; · iexists _; iexact Hb0
    isplitl [Hb1]; · iexists _; iexact Hb1
    iexact Hbs
  isplitr [HO]
  · isplitl [Hs0]; · iexact Hs0
    isplitl [Hs1]; · iexact Hs1
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hss
  iexact HO

end Cert.Scatter
-- ==== Proof.Shares.lean ====
module

public import proofs.«01_k».proof.Proof.Tile

/-!
# What the tiles of a SparseCore hold together

The arrays that every tile reads are dealt out in shares; the output's rows and the shared scratch are cut into the tiles' own
parts. Each is put together again from what the tiles hand back.
-/

@[expose] public section

noncomputable section

namespace Cert.Scatter

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx ownBufs ownSems0 ownCells ownRefs mem_ownCells mem_ownRefs)

variable {F : FTy → Type} [FloatOps F]

local notation "𝕄" => MT nD τ sig (HIx 1) (Elt F) ℕ UU ℕ

/-- Tile `(c, s)` of the grid. -/
def coordsV (c : Fin (grid0.bound 0)) (s : Fin (grid0.bound 1)) : grid0.Coords :=
  fun | 0 => c | 1 => s | ⟨_ + 2, h⟩ => absurd h (Nat.not_lt.2 (Nat.le_add_left _ _))

theorem tileN_coords (c : Fin 2) (s : Fin 16) : tileN (coordsV c s) = 2 * s.val + c.val := rfl

/-- The rows of tile `(c, s)`. -/
def tileRows (c : Fin 2) (s : Fin 16) : Finset S16384x2048.Idx := rows (flatN (coordsV c s) 0) (flatN (coordsV c s) 32)

theorem mem_tileRows (c : Fin 2) (s : Fin 16) (x : S16384x2048.Idx) : x ∈ tileRows c s ↔ (x 0).val / 512 = 2 * s.val + c.val := by
  unfold tileRows
  rw [mem_rows]
  simp only [flatN, tileN_coords]
  omega

/-- The rows of SparseCore `c`'s tiles. -/
def coreRows (c : Fin 2) : Finset S16384x2048.Idx := (Finset.univ : Finset (Fin 16)).biUnion (tileRows c)

theorem tileRows_disjoint (c : Fin 2) : ∀ s ∈ (Finset.univ : Finset (Fin 16)), ∀ s' ∈ (Finset.univ : Finset (Fin 16)), s ≠ s' →
    Disjoint (tileRows c s) (tileRows c s') := by
  intro s _ s' _ h
  rw [Finset.disjoint_left]
  intro x hx hy
  rw [mem_tileRows] at hx hy
  exact h (Fin.ext (by omega))

theorem coreRows_disjoint : ∀ c ∈ (Finset.univ : Finset (Fin 2)), ∀ c' ∈ (Finset.univ : Finset (Fin 2)), c ≠ c' →
    Disjoint (coreRows c) (coreRows c') := by
  intro c _ c' _ h
  rw [Finset.disjoint_left]
  intro x hx hy
  obtain ⟨s, -, hs⟩ := Finset.mem_biUnion.mp hx
  obtain ⟨s', -, hs'⟩ := Finset.mem_biUnion.mp hy
  rw [mem_tileRows] at hs hs'
  exact h (Fin.ext (by omega))

/-- The two SparseCores' rows are all of them. -/
theorem coreRows_cover : (Finset.univ : Finset (Fin 2)).biUnion coreRows = Finset.univ := by
  ext x
  have hx : (x 0).val < 16384 := (x 0).isLt
  simp only [Finset.mem_biUnion, Finset.mem_univ, true_and, iff_true]
  refine ⟨⟨(x 0).val / 512 % 2, by omega⟩, ?_⟩
  refine Finset.mem_biUnion.mpr ⟨⟨(x 0).val / 512 / 2, by omega⟩, Finset.mem_univ _, ?_⟩
  rw [mem_tileRows]
  show (x 0).val / 512 = 2 * ((x 0).val / 512 / 2) + (x 0).val / 512 % 2
  omega

theorem tileSets_disjoint : ∀ s ∈ (Finset.univ : Finset (Fin 16)), ∀ s' ∈ (Finset.univ : Finset (Fin 16)), s ≠ s' →
    Disjoint (tileSet s.val) (tileSet s'.val) := by
  intro s _ s' _ h
  rw [Finset.disjoint_left]
  intro x hx hy
  simp only [tileSet, Finset.mem_filter, Finset.mem_univ, true_and] at hx hy
  exact h (Fin.ext (hx.symm.trans hy))

/-- The tiles' parts of the scratch are all of it. -/
theorem tileSets_cover : ((Finset.univ : Finset (Fin 16)).biUnion fun s => tileSet s.val) = Finset.univ := by
  ext x
  simp only [tileSet, Finset.mem_biUnion, Finset.mem_filter, Finset.mem_univ, true_and, iff_true]
  exact ⟨x 0, rfl⟩

variable (d : Dev nD) (T : S16384x2048.Idx → Elt F .f32) (I : S1024x2048.Idx → Elt F .f32) (A : S512x2048.Idx → Elt F .f32)
  (vi : S1024.Idx → BitVec 32) (ai : S512.Idx → BitVec 32)

omit [FloatOps F] in
/-- A share of the arrays is the shares it is dealt into. -/
theorem arrays_deal (n : Nat) [NeZero n] (q : PosShare TreeShare) :
    (Arrays d T I A vi ai q : sProp 𝕄)
      = bigSep Finset.univ fun s : Fin n => Arrays d T I A vi ai (Transfers.dealOf q (Finset.univ : Finset (Fin n)) s) := by
  unfold Arrays
  have hne : (Finset.univ : Finset (Fin n)).Nonempty := ⟨0, Finset.mem_univ _⟩
  rw [bigSep_sep', bigSep_sep', bigSep_sep', bigSep_sep']
  rw [← Transfers.pointsTo_deal (Finset.univ : Finset (Fin n)) hne q, ← Transfers.pointsTo_deal (Finset.univ : Finset (Fin n)) hne q,
    ← Transfers.pointsTo_deal (Finset.univ : Finset (Fin n)) hne q, ← Transfers.pointsTo_deal (Finset.univ : Finset (Fin n)) hne q,
    ← Transfers.pointsTo_deal (Finset.univ : Finset (Fin n)) hne q]

omit [FloatOps F] in
/-- The output is the two SparseCores' rows of it. -/
theorem out_cores (f : S16384x2048.Idx → Elt F .f32) :
    (outLoc d ↦{fullShare} f : sProp 𝕄) = bigSep Finset.univ fun c : Fin 2 => outLoc d ↦[coreRows c]{fullShare} f := by
  rw [← pointsTo_biUnion Finset.univ (ℓ := outLoc d) coreRows coreRows_disjoint, coreRows_cover]

omit [FloatOps F] in
/-- A SparseCore's rows are its tiles'. -/
theorem out_tiles (c : Fin 2) (f : S16384x2048.Idx → Elt F .f32) :
    (outLoc d ↦[coreRows c]{fullShare} f : sProp 𝕄) = bigSep Finset.univ fun s : Fin 16 => outRows d (coordsV c s) f := by
  unfold coreRows
  rw [pointsTo_biUnion Finset.univ (ℓ := outLoc d) (tileRows c) (tileRows_disjoint c)]
  rfl

/-- A SparseCore's shared scratch. -/
abbrev shRef (c : Fin τ.nSC) : DevRef τ sig := ⟨.shared, ⟨0, by decide⟩, c⟩
abbrev shLoc (c : Fin τ.nSC) : Loc nD τ sig := (d, shRef c)
abbrev coreOf (c : Fin 2) : Fin τ.nSC := (K (F := F)).core 0 c

/-- A sequencer's other buffers. -/
def otherBufsS (c : Fin τ.nSC) : sProp 𝕄 :=
  bigSep ((ownRefs (τ := τ) (.scScalar c)).erase (shRef c)) fun b => iprop(∃ f, ((d, b) : Loc nD τ sig) ↦{fullShare} f)

omit [FloatOps F] in
/-- The shared scratch is among the sequencer's buffers. -/
theorem ownBufs_seq (c : Fin τ.nSC) :
    (ownBufs (S d c) : sProp 𝕄) = iprop((∃ f, shLoc d c ↦{fullShare} f) ∗ otherBufsS d c) := by
  unfold SparseCore.Cfg.ownBufs
  exact SparseCore.bigSep_erase' ((mem_ownRefs (p := Proc.scScalar c) (b := shRef c)).mpr rfl)

omit [FloatOps F] in
/-- The shared scratch, cut into its tiles' parts. -/
theorem scratch_deal (c : Fin 2) :
    (iprop(∃ f, shLoc d (coreOf (F := F) c) ↦{fullShare} f) : sProp 𝕄)
      ⊢ bigSep Finset.univ fun s : Fin 16 => scratch d (coordsV c s) := by
  iintro ⟨%f, H⟩
  have e : (shLoc d (coreOf (F := F) c) ↦{fullShare} f : sProp 𝕄)
      = bigSep Finset.univ fun s : Fin 16 => shLoc d (coreOf (F := F) c) ↦[tileSet s.val]{fullShare} f := by
    rw [← pointsTo_biUnion Finset.univ (ℓ := shLoc d (coreOf (F := F) c)) (fun s : Fin 16 => tileSet s.val) tileSets_disjoint, tileSets_cover]
  ihave H := (Entails.of_eq e) $$ H
  iapply (SparseCore.ent (bigSep_mono (Φ := fun s : Fin 16 => (shLoc d (coreOf (F := F) c) ↦[tileSet s.val]{fullShare} f : sProp 𝕄))
    (Ψ := fun s : Fin 16 => scratch d (coordsV c s)) fun s _ =>
      BI.BIClass.exists_intro (Φ := fun f => (shLoc d (coreOf (F := F) c) ↦[tileSet s.val]{fullShare} f : sProp 𝕄)) f))
  iexact H

omit [FloatOps F] in
/-- The tiles' parts of the scratch, put together. -/
theorem scratch_gather [∀ e, Nonempty (Elt F e)] (c : Fin 2) :
    (bigSep Finset.univ fun s : Fin 16 => scratch d (coordsV c s))
      ⊢ (iprop(∃ f, shLoc d (coreOf (F := F) c) ↦{fullShare} f) : sProp 𝕄) := by
  refine BIBase.Entails.trans (show (bigSep Finset.univ fun s : Fin 16 => scratch d (coordsV c s) : sProp 𝕄)
    ⊢ bigSep Finset.univ fun s : Fin 16 => iprop(∃ f, shLoc d (coreOf (F := F) c) ↦[tileSet s.val]{fullShare} f) from .rfl) ?_
  refine (bigSep_exists_pi Finset.univ (fun (s : Fin 16) (f : Buf (Elt F) (shLoc d (coreOf (F := F) c))) =>
    (shLoc d (coreOf (F := F) c) ↦[tileSet s.val]{fullShare} f : sProp 𝕄))).trans ?_
  iintro ⟨%fs, H⟩
  ihave H' := (pointsTo_biUnion_join Finset.univ (ℓ := shLoc d (coreOf (F := F) c)) (fun s : Fin 16 => tileSet s.val) fs (fs 0) tileSets_disjoint) $$ H
  icases H' with ⟨%g, -, Hg⟩
  iexists g
  ihave Hg := (Entails.of_eq (show (shLoc d (coreOf (F := F) c) ↦[(Finset.univ : Finset (Fin 16)).biUnion fun s => tileSet s.val]{fullShare} g : sProp 𝕄)
    = (shLoc d (coreOf (F := F) c) ↦{fullShare} g) by rw [tileSets_cover])) $$ Hg
  iexact Hg

end Cert.Scatter
-- ==== Proof.Flat.lean ====
module

public import proofs.«01_k».proof.Proof.Steps

/-!
# The printed program is the steps
-/

@[expose] public section

noncomputable section

namespace Cert.Scatter

open Idealize.ShloMosaic Idealize.SL.Sem Cert.KernelIdeal Cert.KernelIdeal.Gen

variable {F : FTy → Type} [FloatOps F]

set_option maxRecDepth 100000 in
set_option maxHeartbeats 40000000 in
/-- The printed body, at the buffers the launch hands it, is the tile's steps. -/
theorem body_eq (i : grid0.Coords) :
    cc0_body (F := F) i (Memref.whole main_v0_scv) (Memref.isWhole_whole _) (Memref.whole main_v1_scv) (Memref.isWhole_whole _)
      (Memref.whole main_v3_scv) (Memref.isWhole_whole _) (Memref.whole main_v2_scv) (Memref.isWhole_whole _)
      (Memref.whole main_v4_scv) (Memref.isWhole_whole _) (Memref.whole main_v5_scv) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6 cc0_scratch7
      cc0_scratch8 cc0_scoped0 cc0_scoped1 = tileProg i := by
  simp (config := {zetaHave := false, letToHave := false}) only [cc0_body_eq_skeleton, cc0_body_skel, dite_jp, ite_jp,
    k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel,
    k0_part16_eq_skeleton, k0_part16_skel, k0_part17_eq_skeleton, k0_part17_skel, k0_part18_eq_skeleton, k0_part18_skel,
    k0_part19_eq_skeleton, k0_part19_skel, k0_part20_eq_skeleton, k0_part20_skel, k0_part21_eq_skeleton, k0_part21_skel,
    k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel,
    k0_part28_eq_skeleton, k0_part28_skel, k0_part29_eq_skeleton, k0_part29_skel, k0_part30_eq_skeleton, k0_part30_skel,
    k0_part31_eq_skeleton, k0_part31_skel, k0_part32_eq_skeleton, k0_part32_skel, k0_part33_eq_skeleton, k0_part33_skel,
    k0_part34_eq_skeleton, k0_part34_skel]
  simp only [bind_assoc, pure_bind]
  rfl
end Cert.Scatter
-- ==== Proof.Launch.lean ====
module

public import proofs.«01_k».proof.Proof.Shares
public import proofs.«01_k».proof.Proof.Flat

/-!
# The whole program's run

The launch theorem's obligations, with the values: every run of the program ends with the arguments as they were and the result
array at the reshaped output.
-/

@[expose] public section

noncomputable section

namespace Cert.Scatter

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx ownBufs ownSems0 ownCells ownRefs mem_ownCells mem_ownRefs)
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg) (d : Dev nD)

/-! ## What the call reads and writes -/

/-- The text rows as the call reads them. -/
def flatTxt : S16384x2048.Idx → Elt F .f32 := shapeCast S16384x2048 (m ((SparseCore.T d).loc main_arg0)) shapeCasts_S4x4096x2048_S16384x2048
/-- The image rows as the call reads them. -/
def flatImg : S1024x2048.Idx → Elt F .f32 := shapeCast S1024x2048 (m ((SparseCore.T d).loc main_arg1)) shapeCasts_S4x256x2048_S1024x2048
/-- The audio rows as the call reads them. -/
def flatAud : S512x2048.Idx → Elt F .f32 := shapeCast S512x2048 (m ((SparseCore.T d).loc main_arg3)) shapeCasts_S4x128x2048_S512x2048
/-- The image indices as the call reads them. -/
def flatVix : S1024.Idx → BitVec 32 := shapeCast S1024 (m ((SparseCore.T d).loc main_arg2)) shapeCasts_S4x256_S1024
/-- The audio indices as the call reads them. -/
def flatAix : S512.Idx → BitVec 32 := shapeCast S512 (m ((SparseCore.T d).loc main_arg4)) shapeCasts_S4x128_S512
/-- What the call leaves in its output. -/
def flatOut : S16384x2048.Idx → Elt F .f32 := outVal (flatTxt m d) (flatImg m d) (flatAud m d) (flatVix m d) (flatAix m d)
/-- The program's result. -/
def result : S4x4096x2048.Idx → Elt F .f32 := shapeCast S4x4096x2048 (flatOut m d) shapeCasts_S16384x2048_S4x4096x2048

/-- What the indices must satisfy, on every device. -/
def Fits : Prop := ∀ d, ImgOk (flatVix m d) ∧ AudOk (flatAix m d)

/-- A share of the call's arrays, at what it reads. -/
abbrev Ins (q : PosShare TreeShare) : sProp 𝕄 := Arrays d (flatTxt m d) (flatImg m d) (flatAud m d) (flatVix m d) (flatAix m d) q

/-- SparseCore `c`'s share of an array. -/
def coreShare (c : Fin 2) : PosShare TreeShare := Transfers.dealOf fullShare (Finset.univ : Finset (Fin 2)) c
/-- Tile `(c, s)`'s share of an array. -/
def tileShare (c : Fin 2) (s : Fin 16) : PosShare TreeShare := Transfers.dealOf (coreShare c) (Finset.univ : Finset (Fin 16)) s

/-- What SparseCore `c` is handed, and with `flatOut` in its rows hands back. -/
def forCore (f : S16384x2048.Idx → Elt F .f32) (c : Fin 2) : sProp 𝕄 := iprop(Ins m d (coreShare c) ∗ outLoc d ↦[coreRows c]{fullShare} f)
/-- What tile `(c, s)` is handed, and with `flatOut` in its rows hands back. -/
def forTile (f : S16384x2048.Idx → Elt F .f32) (c : Fin 2) (s : Fin 16) : sProp 𝕄 :=
  iprop(Ins m d (tileShare c s) ∗ outRows d (coordsV c s) f ∗ scratch d (coordsV c s))

instance forCore_storable (f : S16384x2048.Idx → Elt F .f32) (c : Fin 2) : BI.Storable (upEmb : UEmb _ 𝕄) (forCore m d f c) := by
  unfold forCore Ins Arrays; infer_instance
instance forTile_storable (f : S16384x2048.Idx → Elt F .f32) (c : Fin 2) (s : Fin 16) : BI.Storable (upEmb : UEmb _ 𝕄) (forTile m d f c s) := by
  unfold forTile Ins Arrays outRows scratch; infer_instance

/-- What the call's hand-shakes carry. -/
def P : (K (F := F)).Pay (nD := nD) (Val := Elt F) (Name := ℕ) (U := UU) where
  st := fun q d c => match q with | 0 => forCore m d (m (outLoc d)) (Fin.cast nCore_zero c)
  dn := fun q d c => match q with | 0 => forCore m d (flatOut m d) (Fin.cast nCore_zero c)
  go := fun q d c s => match q with | 0 => forTile m d (m (outLoc d)) (Fin.cast nCore_zero c) (Fin.cast nSub_zero s)
  td := fun q d c s => match q with | 0 => forTile m d (flatOut m d) (Fin.cast nCore_zero c) (Fin.cast nSub_zero s)
  x := fun _ _ => iprop(emp)

instance P_storable : (P m).IsStorable where
  st q d c := match q with | 0 => (inferInstance : BI.Storable (upEmb : UEmb _ 𝕄) (forCore m d (m (outLoc d)) (Fin.cast nCore_zero c)))
  dn q d c := match q with | 0 => (inferInstance : BI.Storable (upEmb : UEmb _ 𝕄) (forCore m d (flatOut m d) (Fin.cast nCore_zero c)))
  go q d c s := match q with | 0 => (inferInstance : BI.Storable (upEmb : UEmb _ 𝕄) (forTile m d (m (outLoc d)) (Fin.cast nCore_zero c) (Fin.cast nSub_zero s)))
  td q d c s := match q with | 0 => (inferInstance : BI.Storable (upEmb : UEmb _ 𝕄) (forTile m d (flatOut m d) (Fin.cast nCore_zero c) (Fin.cast nSub_zero s)))

/-! ## The tiles' obligation -/

/-- A tile's task, from what its `go` signal carries to what its `taskDone` signal carries. -/
theorem tile_task (hfit : Fits m) (c : Fin 2) (s : Fin 16) (O : CellTallies nD τ sig (HIx 1)) (W : Waits sig (HIx 1)) (hO : ∀ g, O g none = 0) :
    iprop(levAts (K (F := F)).L (K (F := F)).lev ∗ emp ∗ forTile m d (m (outLoc d)) c s ∗ scopedBufs (thr d (coordsV c s))
        ∗ scopedSems0 (thr d (coordsV c s)) ∗ owes (thr d (coordsV c s)) O W)
      ⊢ wp frame (wpE (defs₀ (F := F)) 𝒱₀ (thr d (coordsV c s)) none) Set.univ
          (cc0_body (coordsV c s) (Memref.whole main_v0_scv) (Memref.isWhole_whole _) (Memref.whole main_v1_scv) (Memref.isWhole_whole _)
            (Memref.whole main_v3_scv) (Memref.isWhole_whole _) (Memref.whole main_v2_scv) (Memref.isWhole_whole _)
            (Memref.whole main_v4_scv) (Memref.isWhole_whole _) (Memref.whole main_v5_scv) (Memref.isWhole_whole _)
            (Memref.whole cc0_scratch0) (Memref.isWhole_whole _) (Memref.whole cc0_scratch1) (Memref.isWhole_whole _)
            (Memref.whole cc0_scratch2) (Memref.isWhole_whole _)
            cc0_scratch3 cc0_scratch4 cc0_scratch5 cc0_scratch6 cc0_scratch7 cc0_scratch8 cc0_scoped0 cc0_scoped1)
          fun _ => iprop(forTile m d (flatOut m d) c s ∗ scopedBufs (thr d (coordsV c s)) ∗ scopedSems0 (thr d (coordsV c s))
            ∗ ∃ W', ⌜∀ p ∈ W', p ∈ W ∨ p.2 = none ∨ p.2 = some (0 : Fin 1)⌝ ∗ owes (thr d (coordsV c s)) O W') := by
  rw [body_eq, (K (F := F)).scopedBufs_V facts d _ _, SparseCore.Cfg.scopedSems0_V (Val := Elt F) d _ _]
  have hpost : ∀ u : PUnit, iprop(Ins m d (tileShare c s) ∗ outRows d (coordsV c s) (flatOut m d) ∗ scratch d (coordsV c s)
        ∗ ownBufs (thr d (coordsV c s)) ∗ ownSems0 (thr d (coordsV c s)) ∗ Owing d (coordsV c s) O W)
      ⊢ (iprop(forTile m d (flatOut m d) c s ∗ ownBufs (thr d (coordsV c s)) ∗ ownSems0 (thr d (coordsV c s))
            ∗ ∃ W', ⌜∀ p ∈ W', p ∈ W ∨ p.2 = none ∨ p.2 = some (0 : Fin 1)⌝ ∗ owes (thr d (coordsV c s)) O W') : sProp 𝕄) := by
    intro _
    unfold forTile Owing
    iintro ⟨Hin, Hout, Hsc, Hb, Hs, %W', %hW', HO⟩
    isplitl [Hin Hout Hsc]
    · isplitl [Hin]; · iexact Hin
      isplitl [Hout]; · iexact Hout
      iexact Hsc
    isplitl [Hb]; · iexact Hb
    isplitl [Hs]; · iexact Hs
    iexists W'
    isplitr
    · ipureintro; exact fun p hp => (hW' p hp).imp_right Or.inl
    iexact HO
  refine BIBase.Entails.trans ?_ (wp_mono frame _ _ hpost)
  refine BIBase.Entails.trans ?_ (wp_tile d (coordsV c s) (flatTxt m d) (flatImg m d) (flatAud m d) (flatVix m d) (flatAix m d) O W
    (tileShare c s) (m (outLoc d)) (hfit d).1 (hfit d).2)
  unfold forTile
  iintro ⟨#Hlv, -, ⟨Hin, Hout, Hsc⟩, Hb, Hs, HO⟩
  ihave Hmw := (show levAts (K (F := F)).L (K (F := F)).lev ⊢ Transfers.MayWaits (thr d (coordsV c s)) (none : HIx 1) O from
    (K (F := F)).mayWaits_none (thr := thr d (coordsV c s)) hO) $$ Hlv
  isplitl [Hin]; · iexact Hin
  isplitl [Hout]; · iexact Hout
  isplitl [Hsc]; · iexact Hsc
  isplitl [Hb]; · iexact Hb
  isplitl [Hs]; · iexact Hs
  isplitl [HO]
  · unfold Owing
    iexists W
    isplitr
    · ipureintro; exact fun p hp => Or.inl hp
    iexact HO
  iexact Hmw

theorem defs₀_vector (c : Fin τ.nSC) (s : Fin τ.nSub) :
    defs₀ (F := F) (.scVector c s) 0 ()
      = SparseCore.onTile hcore0 hsub0 (fun c s => cc0_body (coordsV c s) (Memref.whole main_v0_scv) (Memref.isWhole_whole _) (Memref.whole main_v1_scv) (Memref.isWhole_whole _)
            (Memref.whole main_v3_scv) (Memref.isWhole_whole _) (Memref.whole main_v2_scv) (Memref.isWhole_whole _)
            (Memref.whole main_v4_scv) (Memref.isWhole_whole _) (Memref.whole main_v5_scv) (Memref.isWhole_whole _)
            (Memref.whole cc0_scratch0) (Memref.isWhole_whole _) (Memref.whole cc0_scratch1) (Memref.isWhole_whole _)
            (Memref.whole cc0_scratch2) (Memref.isWhole_whole _)
            cc0_scratch3 cc0_scratch4 cc0_scratch5 cc0_scratch6 cc0_scratch7 cc0_scratch8 cc0_scoped0 cc0_scoped1) ⟨⟩ c s := rfl

theorem tileObl (hfit : Fits m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_task m d hfit ⟨_, hc.1⟩ ⟨_, hc.2⟩ O W hO

/-! ## The split among the tiles -/

omit [FloatOps F] in
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What the tiles of SparseCore `c` hold, array by array. -/
theorem tiles_eq (f : S16384x2048.Idx → Elt F .f32) (c : Fin 2) :
    (bigSep Finset.univ fun s : Fin 16 => forTile m d f c s)
      = (iprop(Ins m d (coreShare c) ∗ (outLoc d ↦[coreRows c]{fullShare} f) ∗ bigSep Finset.univ fun s : Fin 16 => scratch d (coordsV c s)) : sProp 𝕄) := by
  unfold forTile Ins tileShare
  rw [bigSep_sep', bigSep_sep', ← out_tiles, ← arrays_deal]

theorem vecSplit [∀ e, Nonempty (Elt F e)] : (K (F := F)).VecSplit (P m) 0 := by
  intro d c
  show iprop(forCore m d (m (outLoc d)) (Fin.cast nCore_zero c) ∗ ownBufs (S d (coreOf (F := F) (Fin.cast nCore_zero c)))) ⊢ |={Set.univ}=> iprop(
      (bigSep Finset.univ fun i : Fin ((K (F := F)).nSub 0) => forTile m d (m (outLoc d)) (Fin.cast nCore_zero c) (Fin.cast nSub_zero i))
      ∗ ((bigSep Finset.univ fun i : Fin ((K (F := F)).nSub 0) => forTile m d (flatOut m d) (Fin.cast nCore_zero c) (Fin.cast nSub_zero i))
          -∗ iprop(forCore m d (flatOut m d) (Fin.cast nCore_zero c) ∗ ownBufs (S d (coreOf (F := F) (Fin.cast nCore_zero c))))))
  generalize Fin.cast nCore_zero c = c'
  rw [bigSep_subs (F := F) (fun i => forTile m d (m (outLoc d)) c' i), bigSep_subs (F := F) (fun i => forTile m d (flatOut m d) c' i),
    tiles_eq, tiles_eq, ownBufs_seq]
  unfold forCore
  iintro ⟨⟨Hin, Hout⟩, Hsh, Hrest⟩
  imodintro
  isplitl [Hin Hout Hsh]
  · isplitl [Hin]; · iexact Hin
    isplitl [Hout]; · iexact Hout
    iapply (scratch_deal d c'); iexact Hsh
  iintro ⟨Hin, Hout, Hsh⟩
  isplitl [Hin Hout]
  · isplitl [Hin]; · iexact Hin
    iexact Hout
  isplitl [Hsh]
  · iapply (scratch_gather d c'); iexact Hsh
  iexact Hrest

/-! ## The launch element -/

def u₀ : UU := (initOf (K (F := F)).hsCells (K (F := F)).hsToks, 1)

omit [FloatOps F] in
theorem bigSep_nothing {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr
  · rw [bigSep_nothing]; iempintro
  · rw [show (fun thr : Thread nD τ => bigSep Finset.univ fun q : Fin 1 => (P (F := F) m).x q thr) = fun _ => iprop(emp) from
      funext fun _ => bigSep_univ_of_subsingleton (0 : Fin 1), bigSep_nothing]
    iempintro

/-! ## The TensorCore's program -/

abbrev r0 : DevRef τ sig := Proc.devRef .tc main_arg0
abbrev r1 : DevRef τ sig := Proc.devRef .tc main_arg1
abbrev r2 : DevRef τ sig := Proc.devRef .tc main_arg2
abbrev r3 : DevRef τ sig := Proc.devRef .tc main_arg3
abbrev r4 : DevRef τ sig := Proc.devRef .tc main_arg4
abbrev t0 : DevRef τ sig := Proc.devRef .tc main_v0
abbrev t1 : DevRef τ sig := Proc.devRef .tc main_v1
abbrev t2 : DevRef τ sig := Proc.devRef .tc main_v2
abbrev t3 : DevRef τ sig := Proc.devRef .tc main_v3
abbrev t4 : DevRef τ sig := Proc.devRef .tc main_v4
abbrev t5 : DevRef τ sig := Proc.devRef .tc main_v5
abbrev t6 : DevRef τ sig := Proc.devRef .tc main_v6

/-- The device's arrays. -/
abbrev refs : Finset (DevRef τ sig) := {r0, r1, r2, r3, r4, t0, t1, t2, t3, t4, t5, t6}

omit [FloatOps F] in
/-- The arrays held, one by one. -/
theorem held_refs (U : Valuation τ sig (Elt F)) :
    (held (SparseCore.T d) refs U : sProp 𝕄)
      = iprop(((SparseCore.T d).loc main_arg0 ↦{fullShare} U r0) ∗ ((SparseCore.T d).loc main_arg1 ↦{fullShare} U r1)
          ∗ ((SparseCore.T d).loc main_arg2 ↦{fullShare} U r2) ∗ ((SparseCore.T d).loc main_arg3 ↦{fullShare} U r3)
          ∗ ((SparseCore.T d).loc main_arg4 ↦{fullShare} U r4) ∗ (txtLoc d ↦{fullShare} U t0) ∗ (imgLoc d ↦{fullShare} U t1)
          ∗ (audLoc d ↦{fullShare} U t2) ∗ (vixLoc d ↦{fullShare} U t3) ∗ (aixLoc d ↦{fullShare} U t4) ∗ (outLoc d ↦{fullShare} U t5)
          ∗ ((SparseCore.T d).loc main_v6 ↦{fullShare} U t6)) := by
  unfold held refs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The arrays at the launch. -/
def V0 : Valuation τ sig (Elt F) := fun b => m (d, b)

omit [FloatOps F] in
/-- What the TensorCore is handed is its arrays at the launch memory. -/
theorem unscoped_held : (unscopedBufs d (fun b => m ((SparseCore.T d).loc b)) : sProp 𝕄) = held (SparseCore.T d) refs (V0 m d) := by
  rw [held_refs]
  unfold unscopedBufs
  rw [show (Finset.univ.filter fun b : Ref sig .tc => ¬ b.isScoped) = {main_arg0, main_arg1, main_arg2, main_arg3, main_arg4, main_v0, main_v1, main_v2, main_v3, main_v4, main_v5, main_v6} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

abbrev op0 : HloOp τ sig (Elt F) := StableHlo.reshape main_arg0 main_v0 (rfl : (.f32 : EltTy) = .f32) shapeCasts_S4x4096x2048_S16384x2048
abbrev op1 : HloOp τ sig (Elt F) := StableHlo.reshape main_arg1 main_v1 (rfl : (.f32 : EltTy) = .f32) shapeCasts_S4x256x2048_S1024x2048
abbrev op2 : HloOp τ sig (Elt F) := StableHlo.reshape main_arg3 main_v2 (rfl : (.f32 : EltTy) = .f32) shapeCasts_S4x128x2048_S512x2048
abbrev op3 : HloOp τ sig (Elt F) := StableHlo.reshape main_arg2 main_v3 (rfl : (.i32 : EltTy) = .i32) shapeCasts_S4x256_S1024
abbrev op4 : HloOp τ sig (Elt F) := StableHlo.reshape main_arg4 main_v4 (rfl : (.i32 : EltTy) = .i32) shapeCasts_S4x128_S512
abbrev op6 : HloOp τ sig (Elt F) := StableHlo.reshape main_v5 main_v6 (rfl : (.f32 : EltTy) = .f32) shapeCasts_S16384x2048_S4x4096x2048

/-- The arrays at the call. -/
def V5 : Valuation τ sig (Elt F) := op4.result (op3.result (op2.result (op1.result (op0.result (V0 m d)))))
/-- The arrays after the call. -/
def V6 : Valuation τ sig (Elt F) := Function.update (V5 m d) t5 (flatOut m d)

theorem V5_args : V5 m d r0 = m (d, r0) ∧ V5 m d r1 = m (d, r1) ∧ V5 m d r2 = m (d, r2) ∧ V5 m d r3 = m (d, r3) ∧ V5 m d r4 = m (d, r4)
    ∧ V5 m d t5 = m (d, t5) := by
  have key : ∀ r : Ref sig .tc, r ≠ main_v0 → r ≠ main_v1 → r ≠ main_v2 → r ≠ main_v3 → r ≠ main_v4 →
      V5 m d (Proc.devRef .tc r) = m (d, Proc.devRef .tc r) := by
    intro r h0 h1 h2 h3 h4
    unfold V5
    rw [StableHlo.reshape_result_ne _ _ _ _ _ _ _ h4, StableHlo.reshape_result_ne _ _ _ _ _ _ _ h3, StableHlo.reshape_result_ne _ _ _ _ _ _ _ h2,
      StableHlo.reshape_result_ne _ _ _ _ _ _ _ h1, StableHlo.reshape_result_ne _ _ _ _ _ _ _ h0]
    rfl
  refine ⟨?_, ?_, ?_, ?_, ?_, ?_⟩ <;> exact key _ (by decide) (by decide) (by decide) (by decide) (by decide)

theorem V5_t0 : V5 m d t0 = flatTxt m d := by
  unfold V5
  rw [StableHlo.reshape_result_ne _ _ _ _ _ _ _ (show main_v0 ≠ main_v4 by decide), StableHlo.reshape_result_ne _ _ _ _ _ _ _ (show main_v0 ≠ main_v3 by decide),
    StableHlo.reshape_result_ne _ _ _ _ _ _ _ (show main_v0 ≠ main_v2 by decide), StableHlo.reshape_result_ne _ _ _ _ _ _ _ (show main_v0 ≠ main_v1 by decide),
    StableHlo.reshape_result]
  rfl

theorem V5_t1 : V5 m d t1 = flatImg m d := by
  unfold V5
  rw [StableHlo.reshape_result_ne _ _ _ _ _ _ _ (show main_v1 ≠ main_v4 by decide), StableHlo.reshape_result_ne _ _ _ _ _ _ _ (show main_v1 ≠ main_v3 by decide),
    StableHlo.reshape_result_ne _ _ _ _ _ _ _ (show main_v1 ≠ main_v2 by decide), StableHlo.reshape_result,
    StableHlo.reshape_result_ne _ _ _ _ _ _ _ (show main_arg1 ≠ main_v0 by decide)]
  rfl

theorem V5_t2 : V5 m d t2 = flatAud m d := by
  unfold V5
  rw [StableHlo.reshape_result_ne _ _ _ _ _ _ _ (show main_v2 ≠ main_v4 by decide), StableHlo.reshape_result_ne _ _ _ _ _ _ _ (show main_v2 ≠ main_v3 by decide),
    StableHlo.reshape_result, StableHlo.reshape_result_ne _ _ _ _ _ _ _ (show main_arg3 ≠ main_v1 by decide),
    StableHlo.reshape_result_ne _ _ _ _ _ _ _ (show main_arg3 ≠ main_v0 by decide)]
  rfl

theorem V5_t3 : V5 m d t3 = flatVix m d := by
  unfold V5
  rw [StableHlo.reshape_result_ne _ _ _ _ _ _ _ (show main_v3 ≠ main_v4 by decide), StableHlo.reshape_result,
    StableHlo.reshape_result_ne _ _ _ _ _ _ _ (show main_arg2 ≠ main_v2 by decide), StableHlo.reshape_result_ne _ _ _ _ _ _ _ (show main_arg2 ≠ main_v1 by decide),
    StableHlo.reshape_result_ne _ _ _ _ _ _ _ (show main_arg2 ≠ main_v0 by decide)]
  rfl

theorem V5_t4 : V5 m d t4 = flatAix m d := by
  unfold V5
  rw [StableHlo.reshape_result, StableHlo.reshape_result_ne _ _ _ _ _ _ _ (show main_arg4 ≠ main_v3 by decide),
    StableHlo.reshape_result_ne _ _ _ _ _ _ _ (show main_arg4 ≠ main_v2 by decide), StableHlo.reshape_result_ne _ _ _ _ _ _ _ (show main_arg4 ≠ main_v1 by decide),
    StableHlo.reshape_result_ne _ _ _ _ _ _ _ (show main_arg4 ≠ main_v0 by decide)]
  rfl

/-- What the SparseCores are handed, array by array. -/
theorem cores_eq (f : S16384x2048.Idx → Elt F .f32) :
    (bigSep Finset.univ fun c : Fin 2 => forCore m d f c) = (iprop(Ins m d fullShare ∗ outLoc d ↦{fullShare} f) : sProp 𝕄) := by
  unfold forCore Ins coreShare
  rw [bigSep_sep', ← out_cores, ← arrays_deal]

theorem st_eq : (bigSep Finset.univ fun c : Fin ((K (F := F)).nCore 0) => (P m).st 0 d c)
    = (iprop(Ins m d fullShare ∗ outLoc d ↦{fullShare} m (outLoc d)) : sProp 𝕄) :=
  (bigSep_congr fun _ _ => congrArg (forCore m d (m (outLoc d))) (Fin.ext rfl)).trans (cores_eq m d _)

theorem dn_eq : (bigSep Finset.univ fun c : Fin ((K (F := F)).nCore 0) => (P m).dn 0 d c)
    = (iprop(Ins m d fullShare ∗ outLoc d ↦{fullShare} flatOut m d) : sProp 𝕄) :=
  (bigSep_congr fun _ _ => congrArg (forCore m d (flatOut m d)) (Fin.ext rfl)).trans (cores_eq m d _)

/-- The arrays at the call: the arguments, and what the call is handed. -/
theorem held_call : (held (SparseCore.T d) refs (V5 m d) : sProp 𝕄)
    = iprop(((SparseCore.T d).loc main_arg0 ↦{fullShare} m (d, r0)) ∗ ((SparseCore.T d).loc main_arg1 ↦{fullShare} m (d, r1))
          ∗ ((SparseCore.T d).loc main_arg2 ↦{fullShare} m (d, r2)) ∗ ((SparseCore.T d).loc main_arg3 ↦{fullShare} m (d, r3))
          ∗ ((SparseCore.T d).loc main_arg4 ↦{fullShare} m (d, r4)) ∗ (txtLoc d ↦{fullShare} flatTxt m d) ∗ (imgLoc d ↦{fullShare} flatImg m d)
          ∗ (audLoc d ↦{fullShare} flatAud m d) ∗ (vixLoc d ↦{fullShare} flatVix m d) ∗ (aixLoc d ↦{fullShare} flatAix m d)
          ∗ (outLoc d ↦{fullShare} m (outLoc d)) ∗ ((SparseCore.T d).loc main_v6 ↦{fullShare} V5 m d t6)) := by
  obtain ⟨h0, h1, h2, h3, h4, h5⟩ := V5_args m d
  rw [held_refs, h0, h1, h2, h3, h4, h5, V5_t0, V5_t1, V5_t2, V5_t3, V5_t4]

theorem V6_ne {r : Ref sig .tc} (h : r ≠ main_v5) : V6 m d (Proc.devRef .tc r) = V5 m d (Proc.devRef .tc r) :=
  Function.update_of_ne (StableHlo.devRef_ne_of_ne h) _ _

theorem V6_t5 : V6 m d t5 = flatOut m d := Function.update_self _ _ _

/-- The arrays after the call. -/
theorem held_after : (held (SparseCore.T d) refs (V6 m d) : sProp 𝕄)
    = iprop(((SparseCore.T d).loc main_arg0 ↦{fullShare} m (d, r0)) ∗ ((SparseCore.T d).loc main_arg1 ↦{fullShare} m (d, r1))
          ∗ ((SparseCore.T d).loc main_arg2 ↦{fullShare} m (d, r2)) ∗ ((SparseCore.T d).loc main_arg3 ↦{fullShare} m (d, r3))
          ∗ ((SparseCore.T d).loc main_arg4 ↦{fullShare} m (d, r4)) ∗ (txtLoc d ↦{fullShare} flatTxt m d) ∗ (imgLoc d ↦{fullShare} flatImg m d)
          ∗ (audLoc d ↦{fullShare} flatAud m d) ∗ (vixLoc d ↦{fullShare} flatVix m d) ∗ (aixLoc d ↦{fullShare} flatAix m d)
          ∗ (outLoc d ↦{fullShare} flatOut m d) ∗ ((SparseCore.T d).loc main_v6 ↦{fullShare} V5 m d t6)) := by
  obtain ⟨h0, h1, h2, h3, h4, h5⟩ := V5_args m d
  rw [held_refs, V6_t5, V6_ne m d (show main_arg0 ≠ main_v5 by decide), V6_ne m d (show main_arg1 ≠ main_v5 by decide),
    V6_ne m d (show main_arg2 ≠ main_v5 by decide), V6_ne m d (show main_arg3 ≠ main_v5 by decide), V6_ne m d (show main_arg4 ≠ main_v5 by decide),
    V6_ne m d (show main_v0 ≠ main_v5 by decide), V6_ne m d (show main_v1 ≠ main_v5 by decide), V6_ne m d (show main_v2 ≠ main_v5 by decide),
    V6_ne m d (show main_v3 ≠ main_v5 by decide), V6_ne m d (show main_v4 ≠ main_v5 by decide), V6_ne m d (show main_v6 ≠ main_v5 by decide),
    h0, h1, h2, h3, h4, V5_t0, V5_t1, V5_t2, V5_t3, V5_t4]

/-- What the program keeps to its end: the arguments, and its result. -/
def FIN : sProp 𝕄 :=
  iprop(((SparseCore.T d).loc main_arg0 ↦{fullShare} m (d, r0)) ∗ ((SparseCore.T d).loc main_arg1 ↦{fullShare} m (d, r1))
          ∗ ((SparseCore.T d).loc main_arg2 ↦{fullShare} m (d, r2)) ∗ ((SparseCore.T d).loc main_arg3 ↦{fullShare} m (d, r3))
          ∗ ((SparseCore.T d).loc main_arg4 ↦{fullShare} m (d, r4)) ∗ ((SparseCore.T d).loc main_v6 ↦{fullShare} result m d))

/-- The arrays at the end hold what the program keeps. -/
theorem held_end : (held (SparseCore.T d) refs ((op6 (F := F)).result (V6 m d)) : sProp 𝕄) ⊢ FIN m d := by
  obtain ⟨h0, h1, h2, h3, h4, h5⟩ := V5_args m d
  have h6 : (op6 (F := F)).result (V6 m d) t6 = result m d := by
    rw [StableHlo.reshape_result, V6_t5]; rfl
  rw [held_refs, h6, StableHlo.reshape_result_ne _ _ _ _ _ _ _ (show main_arg0 ≠ main_v6 by decide),
    StableHlo.reshape_result_ne _ _ _ _ _ _ _ (show main_arg1 ≠ main_v6 by decide), StableHlo.reshape_result_ne _ _ _ _ _ _ _ (show main_arg2 ≠ main_v6 by decide),
    StableHlo.reshape_result_ne _ _ _ _ _ _ _ (show main_arg3 ≠ main_v6 by decide), StableHlo.reshape_result_ne _ _ _ _ _ _ _ (show main_arg4 ≠ main_v6 by decide),
    V6_ne m d (show main_arg0 ≠ main_v5 by decide), V6_ne m d (show main_arg1 ≠ main_v5 by decide),
    V6_ne m d (show main_arg2 ≠ main_v5 by decide), V6_ne m d (show main_arg3 ≠ main_v5 by decide), V6_ne m d (show main_arg4 ≠ main_v5 by decide),
    h0, h1, h2, h3, h4]
  unfold FIN
  iintro ⟨H0, H1, H2, H3, H4, -, -, -, -, -, -, H6⟩
  isplitl [H0]; · iexact H0
  isplitl [H1]; · iexact H1
  isplitl [H2]; · iexact H2
  isplitl [H3]; · iexact H3
  isplitl [H4]; · iexact H4
  iexact H6

/-- The TensorCore's program: five reshapes, the call, and the result's reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := refs) (show ({r0, t0} : Finset (DevRef τ sig)) ⊆ refs by decide) (V := V0 m d)) $$ [Hb Hheld]
  · isplitl [Hb] <;> iassumption
  iintro ⟨Hb, Hheld⟩
  rw [wp_ret]; imodintro
  iapply (wp_hlo_within 𝒱 (SparseCore.T d) none Set.univ (op := op1) (S := refs) (show ({r1, t1} : Finset (DevRef τ sig)) ⊆ refs by decide) (V := op0.result (V0 m d))) $$ [Hb Hheld]
  · isplitl [Hb] <;> iassumption
  iintro ⟨Hb, Hheld⟩
  rw [wp_ret]; imodintro
  iapply (wp_hlo_within 𝒱 (SparseCore.T d) none Set.univ (op := op2) (S := refs) (show ({r3, t2} : Finset (DevRef τ sig)) ⊆ refs by decide) (V := op1.result (op0.result (V0 m d)))) $$ [Hb Hheld]
  · isplitl [Hb] <;> iassumption
  iintro ⟨Hb, Hheld⟩
  rw [wp_ret]; imodintro
  iapply (wp_hlo_within 𝒱 (SparseCore.T d) none Set.univ (op := op3) (S := refs) (show ({r2, t3} : Finset (DevRef τ sig)) ⊆ refs by decide)
    (V := op2.result (op1.result (op0.result (V0 m d))))) $$ [Hb Hheld]
  · isplitl [Hb] <;> iassumption
  iintro ⟨Hb, Hheld⟩
  rw [wp_ret]; imodintro
  iapply (wp_hlo_within 𝒱 (SparseCore.T d) none Set.univ (op := op4) (S := refs) (show ({r4, t4} : Finset (DevRef τ sig)) ⊆ refs by decide)
    (V := op3.result (op2.result (op1.result (op0.result (V0 m d)))))) $$ [Hb Hheld]
  · isplitl [Hb] <;> iassumption
  iintro ⟨Hb, Hheld⟩
  rw [wp_ret]; imodintro
  ihave Hh := (show (held (SparseCore.T d) refs (op4.result (op3.result (op2.result (op1.result (op0.result (V0 m d)))))) : sProp 𝕄) ⊢ _ from
    Entails.of_eq (held_call m d)) $$ Hheld
  icases Hh with ⟨H0, H1, H2, H3, H4, G0, G1, G2, G3, G4, G5, G6⟩
  iapply ((K (F := F)).wp_run (D (F := F)) 𝒱 (EH := EH) (P := P m) κ d 0) $$ [Hst Hb Hts H0 H1 H2 H3 H4 G0 G1 G2 G3 G4 G5 G6]
  isplitr; · iexact Hctx
  isplitl [Hst]; · iexact Hst
  isplitl [G0 G1 G2 G3 G4 G5]
  · rw [st_eq]
    unfold Ins Arrays
    isplitr [G5]
    · isplitl [G0]; · iexact G0
      isplitl [G1]; · iexact G1
      isplitl [G2]; · iexact G2
      isplitl [G3]; · iexact G3
      iexact G4
    iexact G5
  iintro ⟨Hst, Hdn⟩
  ihave Hdn := (Entails.of_eq (dn_eq m d)) $$ Hdn
  unfold Ins Arrays
  icases Hdn with ⟨⟨G0, G1, G2, G3, G4⟩, G5⟩
  iapply (wp_hlo_within 𝒱 (SparseCore.T d) none Set.univ (op := op6) (S := refs) (show ({t5, t6} : Finset (DevRef τ sig)) ⊆ refs by decide) (V := V6 m d)) $$ [Hb H0 H1 H2 H3 H4 G0 G1 G2 G3 G4 G5 G6]
  · isplitl [Hb]; · iexact Hb
    rw [held_after]
    isplitl [H0]; · iexact H0
    isplitl [H1]; · iexact H1
    isplitl [H2]; · iexact H2
    isplitl [H3]; · iexact H3
    isplitl [H4]; · iexact H4
    isplitl [G0]; · iexact G0
    isplitl [G1]; · iexact G1
    isplitl [G2]; · iexact G2
    isplitl [G3]; · iexact G3
    isplitl [G4]; · iexact G4
    isplitl [G5]; · iexact G5
    iexact G6
  iintro ⟨Hb, Hheld⟩
  ihave Hfin := (held_end m d) $$ Hheld
  rw [wp_ret]; imodintro; imodintro
  isplitl [Hst]; · iexact Hst
  isplitl [Hfin]; · iexact Hfin
  isplitl [Hb] <;> iassumption

/-! ## The run -/

/-- What a final state shows on device `d`. -/
def fq (d : Dev nD) (s' : Phys nD τ sig (Elt F)) : Prop :=
  s'.mem.mem (d, r0) = m (d, r0) ∧ s'.mem.mem (d, r1) = m (d, r1) ∧ s'.mem.mem (d, r2) = m (d, r2) ∧ s'.mem.mem (d, r3) = m (d, r3)
    ∧ s'.mem.mem (d, r4) = m (d, r4) ∧ s'.mem.mem (d, t6) = result m d

omit [FloatOps F] in
/-- A whole array held says what the memory holds there. -/
theorem read_whole (s' : Phys nD τ sig (Elt F)) (ℓ : Loc nD τ sig) (f : Buf (Elt F) ℓ) :
    iprop((ℓ ↦{fullShare} f) ∗ SI s') ⊢ (iprop(SI s' ∗ ⌜s'.mem.mem ℓ = f⌝) : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitl [HSI]; · iexact HSI
  ipureintro; exact funext fun i => h i (Finset.mem_univ i)

theorem hfin (d : Dev nD) (s' : Phys nD τ sig (Elt F)) : iprop(FIN m d ∗ SI s') ⊢ (⌜fq m d s'⌝ : sProp 𝕄) := by
  unfold FIN
  iintro ⟨⟨H0, H1, H2, H3, H4, H6⟩, HSI⟩
  ihave H := (read_whole s' _ _) $$ [H0 HSI]
  · isplitl [H0] <;> iassumption
  icases H with ⟨HSI, %h0⟩
  ihave H := (read_whole s' _ _) $$ [H1 HSI]
  · isplitl [H1] <;> iassumption
  icases H with ⟨HSI, %h1⟩
  ihave H := (read_whole s' _ _) $$ [H2 HSI]
  · isplitl [H2] <;> iassumption
  icases H with ⟨HSI, %h2⟩
  ihave H := (read_whole s' _ _) $$ [H3 HSI]
  · isplitl [H3] <;> iassumption
  icases H with ⟨HSI, %h3⟩
  ihave H := (read_whole s' _ _) $$ [H4 HSI]
  · isplitl [H4] <;> iassumption
  icases H with ⟨HSI, %h4⟩
  ihave H := (read_whole s' _ _) $$ [H6 HSI]
  · isplitl [H6] <;> iassumption
  icases H with ⟨-, %h6⟩
  ipureintro
  exact ⟨h0, h1, h2, h3, h4, h6⟩

/-- What every run ends with: the arguments as they were, the result, and every semaphore at zero. -/
def Ends : PUnit × MemSt nD τ sig (Elt F) → Prop := fun r =>
  (∀ d : Dev nD, r.2.mem (d, r0) = m (d, r0) ∧ r.2.mem (d, r1) = m (d, r1) ∧ r.2.mem (d, r2) = m (d, r2) ∧ r.2.mem (d, r3) = m (d, r3)
    ∧ r.2.mem (d, r4) = m (d, r4) ∧ r.2.mem (d, t6) = result m d) ∧ r.2.sem = fun _ => 0

/-- Every run of the program from indices that fit terminates, without fault, with the arguments as they were and the result array
    at `result`. -/
theorem run_main [∀ e, Nonempty (Elt F e)] (hfit : Fits m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hfit)
    (fun q _ => match q with | 0 => vecSplit m)
    m ρ main (fun _ => iprop(emp)) (FIN m) (u₀ (F := F)) (sep_elim_left.trans (hu₀ m)) (hmain m ρ) (fq m) (hfin m) (Ends m) (fun _ h hz => ⟨h, hz⟩)

end Cert.Scatter
-- ==== Proof.Runs.lean ====
module

public import proofs.«01_k».proof.Proof.Gen.Pre_runs
public import Idealize.ShloMosaic.Lib.ReduceAll
public import Idealize.ShloMosaic.Lib.ValueIdxCore
public import Idealize.ShloMosaic.Lib.Pipeline.Value

/-!
# What the precondition says of the indices

Each item's image indices are consecutive from the item's first, likewise its audio indices; each first leaves room for the run
and is a multiple of sixteen.
-/

@[expose] public section

noncomputable section

namespace Cert.Scatter

open Idealize.ShloMosaic Idealize.ShloMosaic.ValueIdx Cert.Pre_runs Cert.Pre_runs.Gen

variable {F : FTy → Type} [FloatOps F]

/-- An item's indices: consecutive from its first, which is a multiple of sixteen and leaves room for all of them in 4096. -/
structure Consecutive {L : Nat} (hL : 0 < L) (V : (⟨2, ![4, L]⟩ : Shape).Idx → BitVec 32) (b : Fin 4) : Prop where
  room : (V (ix2 b ⟨0, hL⟩)).toNat + L ≤ 4096
  sixteenth : 16 ∣ (V (ix2 b ⟨0, hL⟩)).toNat
  next : ∀ j : Fin L, (V (ix2 b j)).toNat = (V (ix2 b ⟨0, hL⟩)).toNat + j.val

/-- The words of a column that lie between 0 and `top` and are multiples of sixteen. -/
theorem first_ok (w : IVec S4x1 32) (top : Nat) (ht : top < 4096) (b : Fin 4)
    (h : andi (andi (cmpi .sge w (broadcastInDim S4x1 ![] Facts.bcast_S_S4x1 (constantI S_ 32 0#32)))
          (cmpi .sle w (broadcastInDim S4x1 ![] Facts.bcast_S_S4x1 (constantI S_ 32 (BitVec.ofNat 32 top)))))
        (cmpi .eq (fn_remainder (F := F) w (constantI S_ 32 16#32))
          (broadcastInDim S4x1 ![] Facts.bcast_S_S4x1 (constantI S_ 32 0#32))) (ix2 b (0 : Fin 1)) = 1#1) :
    (w (ix2 b (0 : Fin 1))).toNat ≤ top ∧ 16 ∣ (w (ix2 b (0 : Fin 1))).toNat := by
  obtain ⟨h12, h3⟩ := IntOp.andi_eq_one.1 h
  obtain ⟨h1, h2⟩ := IntOp.andi_eq_one.1 h12
  have h1' := IntOp.cmpi_sge.1 h1
  have h2' := IntOp.cmpi_sle.1 h2
  have h3' := IntOp.cmpi_eq.1 h3
  change (0#32 : BitVec 32).toInt ≤ (w (ix2 b (0 : Fin 1))).toInt at h1'
  change (w (ix2 b (0 : Fin 1))).toInt ≤ (BitVec.ofNat 32 top).toInt at h2'
  generalize hx : w (ix2 b (0 : Fin 1)) = x at h1' h2' ⊢
  have hx0 : (0 : Int) ≤ x.toInt := h1'
  have hpos : 2 * x.toNat < 2 ^ 32 := BitVec.toInt_pos_iff.1 hx0
  have hi : x.toInt = (x.toNat : Int) := BitVec.toInt_eq_toNat_of_lt hpos
  have ht' : (BitVec.ofNat 32 top).toInt = (top : Int) := by
    rw [BitVec.toInt_eq_toNat_of_lt (by rw [BitVec.toNat_ofNat]; omega), BitVec.toNat_ofNat]
    congr 1
    omega
  rw [hi, ht'] at h2'
  refine ⟨by omega, ?_⟩
  -- the remainder of a word that is not negative is the plain one
  change Scalar.select (IntOp.andi (IntOp.cmpi .ne (IntOp.cmpi .slt (IntOp.remsi .host (w (ix2 b (0 : Fin 1))) 16#32) 0#32) (IntOp.cmpi .slt 16#32 0#32))
      (IntOp.cmpi .ne (IntOp.remsi .host (w (ix2 b (0 : Fin 1))) 16#32) 0#32))
      (IntOp.addi (IntOp.remsi .host (w (ix2 b (0 : Fin 1))) 16#32) 16#32) (IntOp.remsi .host (w (ix2 b (0 : Fin 1))) 16#32) = 0#32 at h3'
  rw [hx] at h3'
  have hr := IntOp.toNat_remsi .host hpos 16 (by omega) (by omega)
  change (IntOp.remsi .host x 16#32).toNat = _ at hr
  generalize IntOp.remsi .host x 16#32 = y at h3' hr
  have hy : y.toNat < 16 := by omega
  have hyi : y.toInt = (y.toNat : Int) := BitVec.toInt_eq_toNat_of_lt (by omega)
  have hs : IntOp.cmpi .slt y 0#32 = 0#1 := eq_zero_of_ne_one fun e => by
    have := IntOp.cmpi_slt.1 e
    rw [hyi] at this
    change (y.toNat : Int) < 0 at this
    omega
  rw [hs] at h3'
  have hz : IntOp.andi (IntOp.cmpi .ne 0#1 (IntOp.cmpi .slt 16#32 0#32)) (IntOp.cmpi .ne y 0#32) = 0#1 :=
    eq_zero_of_ne_one fun e => absurd (IntOp.andi_eq_one.1 e).1 (by decide)
  rw [hz] at h3'
  change y = 0#32 at h3'
  rw [h3'] at hr
  change 0 = x.toNat % 16 at hr
  omega

/-- The first column of a table, read at a row. -/
theorem first_col {L : Nat} (hL : 0 < L) (V : IVec (⟨2, ![4, L]⟩ : Shape) 32) (hs : (⟨2, ![4, L]⟩ : Shape).Slices ![0, 0] S4x1) (b : Fin 4) :
    extractStridedSlice S4x1 ![0, 0] V hs (ix2 b (0 : Fin 1)) = V (ix2 b ⟨0, hL⟩) := by
  unfold extractStridedSlice
  refine congrArg V (funext fun a => Fin.ext ?_)
  match a with
  | ⟨0, _⟩ => show 0 + b.val = b.val; omega
  | ⟨1, _⟩ => rfl

/-- A comparison of a table with its first column counted up: where it holds, the word is the row's first plus the position. -/
theorem next_ok {L : Nat} (hL : 0 < L) (V : IVec (⟨2, ![4, L]⟩ : Shape) 32)
    (hs : (⟨2, ![4, L]⟩ : Shape).Slices ![0, 0] S4x1)
    (h1 : (⟨1, ![L]⟩ : Shape).BroadcastsInDim ⟨2, ![1, L]⟩ (![1] : Fin 1 → Fin 2))
    (h2 : S4x1.BroadcastsInDim ⟨2, ![4, L]⟩ (![0, 1] : Fin 2 → Fin 2))
    (h3 : (⟨2, ![1, L]⟩ : Shape).BroadcastsInDim ⟨2, ![4, L]⟩ (![0, 1] : Fin 2 → Fin 2)) (b : Fin 4) (j : Fin L)
    (h : cmpi .eq V (addi (broadcastInDim ⟨2, ![4, L]⟩ ![0, 1] h2 (extractStridedSlice S4x1 ![0, 0] V hs))
        (broadcastInDim ⟨2, ![4, L]⟩ ![0, 1] h3 (broadcastInDim ⟨2, ![1, L]⟩ ![1] h1 (iotaInDim ⟨1, ![L]⟩ 32 0)))) (ix2 b j) = 1#1) :
    V (ix2 b j) = V (ix2 b ⟨0, hL⟩) + BitVec.ofNat 32 j.val := by
  have e1 : broadcastInDim ⟨2, ![4, L]⟩ ![0, 1] h2 (extractStridedSlice S4x1 ![0, 0] V hs) (ix2 b j) = V (ix2 b ⟨0, hL⟩) := by
    refine (broadcastInDim_apply _ h2 _ _ (ix2 b (0 : Fin 1)) fun a => ?_).trans ?_
    · match a with
      | ⟨0, _⟩ => rfl
      | ⟨1, _⟩ => rfl
    · exact first_col hL V hs b
  have e2 : broadcastInDim ⟨2, ![4, L]⟩ ![0, 1] h3 (broadcastInDim ⟨2, ![1, L]⟩ ![1] h1 (iotaInDim ⟨1, ![L]⟩ 32 0)) (ix2 b j)
      = BitVec.ofNat 32 j.val := by
    have hj := j.isLt
    refine (broadcastInDim_apply _ h3 _ _ (ix2 (0 : Fin 1) j) fun a => ?_).trans
      ((broadcastInDim_apply _ h1 _ _ (ix1 j) fun a => ?_).trans rfl)
    · match a with
      | ⟨0, _⟩ => rfl
      | ⟨1, _⟩ => show j.val = if L = 1 then 0 else j.val; split <;> omega
    · match a with
      | ⟨0, _⟩ => show j.val = if L = 1 then 0 else j.val; split <;> omega
  have h' := IntOp.cmpi_eq.1 h
  exact h'.trans (congrArg₂ IntOp.addi e1 e2)

/-- An item's indices from the two comparisons. -/
theorem consecutive {L : Nat} (hL : 0 < L) (hL' : L ≤ 256) (V : IVec (⟨2, ![4, L]⟩ : Shape) 32) (b : Fin 4)
    (hf : (V (ix2 b ⟨0, hL⟩)).toNat ≤ 4096 - L ∧ 16 ∣ (V (ix2 b ⟨0, hL⟩)).toNat)
    (hn : ∀ j : Fin L, V (ix2 b j) = V (ix2 b ⟨0, hL⟩) + BitVec.ofNat 32 j.val) : Consecutive hL V b where
  room := by omega
  sixteenth := hf.2
  next j := by
    have hj := j.isLt
    rw [hn j, BitVec.toNat_add, BitVec.toNat_ofNat]
    omega

instance : Subsingleton S_.Idx := ⟨fun _ _ => funext fun a => a.elim0⟩

/-- What the precondition says: each item's image indices are consecutive, and its audio indices are. -/
theorem runs_of_pre (a0 : FVec F S4x4096x2048 .f32) (a1 : FVec F S4x256x2048 .f32) (a2 : IVec S4x256 32) (a3 : FVec F S4x128x2048 .f32)
    (a4 : IVec S4x128 32) (h : Cert.Pre_runs.fn (F := F) a0 a1 a2 a3 a4 = fun _ => 1#1) (b : Fin 4) :
    Consecutive (L := 256) (by omega) a2 b ∧ Consecutive (L := 128) (by omega) a4 b := by
  have h0 := congrFun h (fun a => a.elim0 : S_.Idx)
  dsimp only [Cert.Pre_runs.fn, fn_part1, fn_part2] at h0
  obtain ⟨hA, hfa⟩ := IntOp.andi_eq_one.1 h0
  obtain ⟨hB, hfv⟩ := IntOp.andi_eq_one.1 hA
  obtain ⟨hnv, hna⟩ := IntOp.andi_eq_one.1 hB
  have fv := first_ok (F := F) _ 3840 (by omega) b (Host.reduce_andi_all _ _ _ _ _ hfv (ix2 b (0 : Fin 1)))
  have fa := first_ok (F := F) _ 3968 (by omega) b (Host.reduce_andi_all _ _ _ _ _ hfa (ix2 b (0 : Fin 1)))
  have nv := fun j : Fin 256 => next_ok (L := 256) (by omega) a2 _ _ _ _ b j (Host.reduce_andi_all _ _ _ _ _ hnv (ix2 b j))
  have na := fun j : Fin 128 => next_ok (L := 128) (by omega) a4 _ _ _ _ b j (Host.reduce_andi_all _ _ _ _ _ hna (ix2 b j))
  rw [first_col (L := 256) (by omega)] at fv
  rw [first_col (L := 128) (by omega)] at fa
  exact ⟨consecutive (by omega) (by omega) a2 b fv nv, consecutive (by omega) (by omega) a4 b fa na⟩

end Cert.Scatter

end
-- ==== Proof.RowScatter.lean ====
module

public import Idealize.ShloMosaic.Lib.Routing.OpsSet

/-!
# A scatter of rows, read at an element

A scatter that sets whole rows of a matrix, one index word for each row of updates.
-/

@[expose] public section

namespace Cert.Scatter

open Idealize.ShloMosaic Idealize.ShloMosaic.ValueIdx Idealize.ShloMosaic.Routing

section Lands

variable {R C N : Nat} (d : ScatterDims (shape2 R C) (shape2 N 1) (shape2 N C)) (hiw : d.insertedWindowDims = [0])
  (hsd : d.scatterDimsToOperandDims = [0]) (huw : d.updateWindowDims = [1]) (hivd : d.indexVectorDim = 1)

include hiw hsd huw hivd in
/-- Element `(n, q)` of the updates lands at `(r, c)` exactly when row `n`'s index word is `r` and `q` is `c`. -/
theorem row_lands (idx : IVec (shape2 N 1) 32) (n : Fin N) (q c : Fin C) (r : Fin R) :
    d.resultIdx? (ix2 n q) idx = some (ix2 r c) ↔ (idx (ix2 n (0 : Fin 1))).toInt = (r.val : Int) ∧ q = c := by
  have hm : (0 : Fin 2) ∈ d.scatterDimsToOperandDims := by rw [hsd]; exact List.mem_singleton.2 rfl
  have hs1 : d.start (ix2 n q) idx 1 = 0 := by
    unfold ScatterDims.start
    rw [dif_neg fun h => by rw [hsd] at h; exact absurd (List.mem_singleton.1 h) (by decide : (1 : Fin 2) ≠ 0)]
  have hw0 : d.window (ix2 n q) 0 = 0 := by
    unfold ScatterDims.window
    rw [dif_neg fun h => (of_decide_eq_true (List.mem_filter.1 h).2) (by rw [hiw]; exact List.mem_singleton.2 rfl)]
  have hkept : d.sKept = [1] := by
    show (shape2 R C).kept d.insertedWindowDims = _
    rw [hiw]
    rfl
  have hw1 : d.window (ix2 n q) 1 = q.val := by
    unfold ScatterDims.window
    rw [dif_pos (by rw [hkept]; exact List.mem_singleton.2 rfl)]
    have e : ∀ X : Fin 2, X ∈ d.updateWindowDims → (ix2 n q X).val = q.val := fun X hX => by
      rw [huw, List.mem_singleton] at hX
      subst hX
      rfl
    exact e _ (List.getElem_mem _)
  have hu : d.uScatter = [0] := by
    show (shape2 N C).kept d.updateWindowDims = _
    rw [huw]
    rfl
  have hs0 : d.start (ix2 n q) idx 0 = (idx (ix2 n (0 : Fin 1))).toInt := by
    unfold ScatterDims.start
    rw [dif_pos hm]
    have hsi : d.siIdx (ix2 n q) ⟨d.scatterDimsToOperandDims.idxOf 0, List.idxOf_lt_length_iff.2 hm⟩ = ix2 n (0 : Fin 1) := by
      funext b
      apply Fin.ext
      match b with
      | ⟨0, _⟩ =>
        unfold ScatterDims.siIdx
        rw [dif_neg (by rw [hivd]; exact Nat.zero_ne_one)]
        unfold ScatterDims.siCoord
        simp only [Fin.val_cast]
        have e : ∀ X : Fin 2, X ∈ d.uScatter → (ix2 n q X).val = n.val := fun X hX => by
          rw [hu, List.mem_singleton] at hX
          subst hX
          rfl
        exact e _ (List.getElem_mem _)
      | ⟨1, _⟩ =>
        unfold ScatterDims.siIdx
        rw [dif_pos (by rw [hivd])]
        show List.idxOf (0 : Fin 2) d.scatterDimsToOperandDims = 0
        rw [hsd]; rfl
    rw [hsi]
  rw [resultIdx?_ix2, hs0, hs1, hw0, hw1, Fin.ext_iff]
  omega

include hiw hsd huw hivd in
/-- Four items of `L` rows of updates each, an item's rows going to consecutive rows of that item's 4096 rows, from `v b` on: the
    scatter holds item `b`'s updates in those rows, and in every other row what was there before. -/
theorem scatter_runs {α : Type} (L : Nat) (hN : N = 4 * L) (hR : R = 16384) (x : (shape2 R C).Idx → α) (idx : IVec (shape2 N 1) 32)
    (u : (shape2 N C).Idx → α) (v : Nat → Nat) (hv : ∀ b, b < 4 → v b + L ≤ 4096)
    (hidx : ∀ n : Fin N, (idx (ix2 n (0 : Fin 1))).toInt = ((v (n.val / L) + n.val % L + 4096 * (n.val / L) : Nat) : Int))
    (r : Fin R) (c : Fin C) (b g : Nat) (hb : r.val / 4096 = b) (hg : r.val % 4096 = g) :
    ((v b ≤ g ∧ g < v b + L) → ∀ n : Fin N, n.val = L * b + (g - v b) → Host.scatter d (fun _ b => b) x idx u (ix2 r c) = u (ix2 n c))
      ∧ (¬(v b ≤ g ∧ g < v b + L) → Host.scatter d (fun _ b => b) x idx u (ix2 r c) = x (ix2 r c)) := by
  have hr : r.val < 16384 := hR ▸ r.isLt
  have hb4 : b < 4 := by omega
  -- which updates land in row `r`
  have key : ∀ n : Fin N, (idx (ix2 n (0 : Fin 1))).toInt = (r.val : Int) → n.val / L = b ∧ v b + n.val % L = g ∧ n.val % L < L := by
    intro n hn
    have hnl := n.isLt
    have hL : 0 < L := by
      rcases Nat.eq_zero_or_pos L with h | h
      · subst h; omega
      · exact h
    have hq : n.val / L < 4 := Nat.div_lt_of_lt_mul (by rw [Nat.mul_comm]; omega)
    have hm := Nat.mod_lt n.val hL
    have h4 := hv _ hq
    rw [hidx n] at hn
    have hn' : v (n.val / L) + n.val % L + 4096 * (n.val / L) = r.val := by exact_mod_cast hn
    have hbq : n.val / L = b := by omega
    refine ⟨hbq, ?_, hm⟩
    rw [hbq] at hn'
    omega
  constructor
  · rintro ⟨h1, h2⟩ n hn
    have hL : 0 < L := by omega
    have hdv : n.val / L = b := by
      rw [hn, Nat.mul_add_div hL, Nat.div_eq_of_lt (by omega : g - v b < L), Nat.add_zero]
    have hmd : n.val % L = g - v b := by
      rw [hn, Nat.mul_add_mod, Nat.mod_eq_of_lt (by omega : g - v b < L)]
    refine scatter_set_hit d x idx u (ix2 r c) (u (ix2 n c)) (fun k hk => ?_) (ix2 n c) ?_
    · have hk' : d.resultIdx? (ix2 (k 0) (k 1)) idx = some (ix2 r c) := (congrArg (fun t => d.resultIdx? t idx) (eq_ix2 k)).symm.trans hk
      obtain ⟨h3, h4⟩ := (row_lands d hiw hsd huw hivd idx (k 0) (k 1) c r).1 hk'
      obtain ⟨h5, h6, h7⟩ := key (k 0) h3
      have h8 : k 0 = n := Fin.ext (by
        show (k 0).val = n.val
        rw [← Nat.div_add_mod (k 0).val L, ← Nat.div_add_mod n.val L, h5, hdv, hmd]
        omega)
      exact (congrArg u (eq_ix2 k)).trans (by rw [h8, h4]; rfl)
    · refine (row_lands d hiw hsd huw hivd idx n c c r).2 ⟨?_, rfl⟩
      rw [hidx n, hdv, hmd]
      have : v b + (g - v b) + 4096 * b = r.val := by omega
      exact_mod_cast this
  · intro hno
    refine scatter_set_miss d x idx u (ix2 r c) fun k hk => hno ?_
    have hk' : d.resultIdx? (ix2 (k 0) (k 1)) idx = some (ix2 r c) := (congrArg (fun t => d.resultIdx? t idx) (eq_ix2 k)).symm.trans hk
    obtain ⟨h5, h6, h7⟩ := key (k 0) ((row_lands d hiw hsd huw hivd idx (k 0) (k 1) c r).1 hk').1
    omega

end Lands

end Cert.Scatter
-- ==== Proof.RefWords.lean ====
module

public import proofs.«01_k».proof.Proof.Runs
public import proofs.«01_k».proof.Proof.Vals
public import proofs.«01_k».proof.Proof.RowScatter
public import proofs.«01_k».proof.Proof.Gen.ReferenceIdeal

/-!
# The reference's scatters

The index words the reference makes of an item's consecutive indices, and what its two scatters leave at an element.
-/

@[expose] public section

noncomputable section

namespace Cert.Scatter

open Idealize.ShloMosaic Idealize.ShloMosaic.ValueIdx Cert.ReferenceIdeal Cert.ReferenceIdeal.Gen

variable {F : FTy → Type} [FloatOps F]

/-- A table of `4 * L` words flattened: word `n` is that of row `n / L`, position `n % L`. -/
theorem flat_word {α : Type} {L N : Nat} (hL : 0 < L) (hN : N = 4 * L) (V : (⟨2, ![4, L]⟩ : Shape).Idx → α)
    (h : (⟨2, ![4, L]⟩ : Shape).ShapeCasts ⟨1, ![N]⟩) (n : Fin N) (b : Fin 4) (j : Fin L) (hn : n.val = L * b.val + j.val) :
    shapeCast ⟨1, ![N]⟩ V h (ix1 n) = V (ix2 b j) := by
  refine shapeCast_apply V h (ix1 n) (ix2 b j) ?_
  rw [Shape.rowMajor_val_two, Shape.rowMajor_val_one]
  show b.val * L + j.val = n.val
  rw [hn, Nat.mul_comm]

/-- The flat index words the reference makes: each index moved to its item's 4096 rows. -/
abbrev movedWords {L N : Nat} (V : IVec (⟨2, ![4, L]⟩ : Shape) 32) (h0 : S_.BroadcastsInDim S4 (![] : Fin 0 → Fin 1))
    (h1 : S4.BroadcastsInDim S4x1 (![0] : Fin 1 → Fin 2)) (h2 : S4x1.BroadcastsInDim ⟨2, ![4, L]⟩ (![0, 1] : Fin 2 → Fin 2))
    (hs : (⟨2, ![4, L]⟩ : Shape).ShapeCasts ⟨1, ![N]⟩) : IVec (⟨1, ![N]⟩ : Shape) 32 :=
  shapeCast ⟨1, ![N]⟩ (addi V (broadcastInDim ⟨2, ![4, L]⟩ ![0, 1] h2 (broadcastInDim S4x1 ![0] h1
    (muli (iotaInDim S4 32 0) (broadcastInDim S4 ![] h0 (constantI S_ 32 4096#32)))))) hs

/-- The index words as the scatter takes them: a negative word would count from the end. -/
abbrev rowWords {N : Nat} (W : IVec (⟨1, ![N]⟩ : Shape) 32) (h3 : S_.BroadcastsInDim ⟨1, ![N]⟩ (![] : Fin 0 → Fin 1))
    (h4 : (⟨1, ![N]⟩ : Shape).BroadcastsInDim ⟨2, ![N, 1]⟩ (![0] : Fin 1 → Fin 2)) : IVec (⟨2, ![N, 1]⟩ : Shape) 32 :=
  broadcastInDim ⟨2, ![N, 1]⟩ ![0] h4 (select (cmpi .slt W (broadcastInDim ⟨1, ![N]⟩ ![] h3 (constantI S_ 32 0#32)))
    (addi W (broadcastInDim ⟨1, ![N]⟩ ![] h3 (constantI S_ 32 16384#32))) W)

/-- A moved index word is the item's first, plus the position, plus 4096 for each item before. -/
theorem movedWords_at {L N : Nat} (hL : 0 < L) (hN : N = 4 * L) (V : IVec (⟨2, ![4, L]⟩ : Shape) 32)
    (hc : ∀ b, Consecutive hL V b) (h0 : S_.BroadcastsInDim S4 (![] : Fin 0 → Fin 1))
    (h1 : S4.BroadcastsInDim S4x1 (![0] : Fin 1 → Fin 2)) (h2 : S4x1.BroadcastsInDim ⟨2, ![4, L]⟩ (![0, 1] : Fin 2 → Fin 2))
    (hs : (⟨2, ![4, L]⟩ : Shape).ShapeCasts ⟨1, ![N]⟩) (n : Fin N) (b : Fin 4) (j : Fin L) (hn : n.val = L * b.val + j.val) :
    (movedWords V h0 h1 h2 hs (ix1 n)).toNat = (V (ix2 b ⟨0, hL⟩)).toNat + j.val + 4096 * b.val := by
  have hb := b.isLt
  have hj := j.isLt
  have hr := (hc b).room
  have hx := (hc b).next j
  have e : broadcastInDim ⟨2, ![4, L]⟩ ![0, 1] h2 (broadcastInDim S4x1 ![0] h1
      (muli (iotaInDim S4 32 0) (broadcastInDim S4 ![] h0 (constantI S_ 32 4096#32)))) (ix2 b j) = BitVec.ofNat 32 b.val * 4096#32 := by
    refine (broadcastInDim_apply _ h2 _ _ (ix2 b (0 : Fin 1)) fun a => ?_).trans
      ((broadcastInDim_apply _ h1 _ _ (ix1 b) fun a => ?_).trans rfl)
    · match a with
      | ⟨0, _⟩ => rfl
      | ⟨1, _⟩ => rfl
    · match a with
      | ⟨0, _⟩ => rfl
  have hw : movedWords V h0 h1 h2 hs (ix1 n) = V (ix2 b j) + BitVec.ofNat 32 b.val * 4096#32 :=
    (flat_word hL hN _ hs n b j hn).trans (congrArg (IntOp.addi (V (ix2 b j))) e)
  rw [hw, BitVec.toNat_add, BitVec.toNat_mul, BitVec.toNat_ofNat, hx]
  show ((V (ix2 b ⟨0, hL⟩)).toNat + j.val + b.val % 2 ^ 32 * 4096 % 2 ^ 32) % 2 ^ 32 = _
  omega

/-- No word is negative: the scatter takes the moved words. -/
theorem rowWords_at {N : Nat} (W : IVec (⟨1, ![N]⟩ : Shape) 32) (h3 : S_.BroadcastsInDim ⟨1, ![N]⟩ (![] : Fin 0 → Fin 1))
    (h4 : (⟨1, ![N]⟩ : Shape).BroadcastsInDim ⟨2, ![N, 1]⟩ (![0] : Fin 1 → Fin 2)) (n : Fin N) (k : Nat) (hk : k < 16384)
    (hW : (W (ix1 n)).toNat = k) : (rowWords W h3 h4 (ix2 n (0 : Fin 1))).toInt = (k : Int) := by
  have e : rowWords W h3 h4 (ix2 n (0 : Fin 1)) = W (ix1 n) := by
    refine (broadcastInDim_apply _ h4 _ _ (ix1 n) fun a => ?_).trans ?_
    · have hn := n.isLt
      match a with
      | ⟨0, _⟩ => show n.val = if N = 1 then 0 else n.val; split <;> omega
    · exact Routing.wrap_of_lt (W (ix1 n)) _ (by rw [hW]; omega)
  rw [e, BitVec.toInt_eq_toNat_of_lt (by omega), hW]

/-- An item's first index, as a number. -/
def firstOf {L : Nat} (hL : 0 < L) (V : IVec (⟨2, ![4, L]⟩ : Shape) 32) (b : Nat) : Nat :=
  (V (ix2 ⟨b % 4, Nat.mod_lt _ (by omega)⟩ ⟨0, hL⟩)).toNat

/-- The scatter's index words, all of them. -/
theorem words_at {L N : Nat} (hL : 0 < L) (hN : N = 4 * L) (V : IVec (⟨2, ![4, L]⟩ : Shape) 32)
    (hc : ∀ b, Consecutive hL V b) (h0 : S_.BroadcastsInDim S4 (![] : Fin 0 → Fin 1))
    (h1 : S4.BroadcastsInDim S4x1 (![0] : Fin 1 → Fin 2)) (h2 : S4x1.BroadcastsInDim ⟨2, ![4, L]⟩ (![0, 1] : Fin 2 → Fin 2))
    (hs : (⟨2, ![4, L]⟩ : Shape).ShapeCasts ⟨1, ![N]⟩) (h3 : S_.BroadcastsInDim ⟨1, ![N]⟩ (![] : Fin 0 → Fin 1))
    (h4 : (⟨1, ![N]⟩ : Shape).BroadcastsInDim ⟨2, ![N, 1]⟩ (![0] : Fin 1 → Fin 2)) (n : Fin N) :
    (rowWords (movedWords V h0 h1 h2 hs) h3 h4 (ix2 n (0 : Fin 1))).toInt
      = ((firstOf hL V (n.val / L) + n.val % L + 4096 * (n.val / L) : Nat) : Int) := by
  have hn := n.isLt
  have hq : n.val / L < 4 := Nat.div_lt_of_lt_mul (by rw [Nat.mul_comm]; omega)
  have hm := Nat.mod_lt n.val hL
  have hr := (hc ⟨n.val / L, hq⟩).room
  have hf : firstOf hL V (n.val / L) = (V (ix2 ⟨n.val / L, hq⟩ ⟨0, hL⟩)).toNat := by
    unfold firstOf
    congr 3
    exact Fin.ext (Nat.mod_eq_of_lt hq)
  rw [hf]
  refine rowWords_at _ h3 h4 n _ (by omega) ?_
  exact movedWords_at hL hN V hc h0 h1 h2 hs n ⟨n.val / L, hq⟩ ⟨n.val % L, hm⟩ (Nat.div_add_mod n.val L).symm

end Cert.Scatter

end
-- ==== Proof.Equation.lean ====
module

public import proofs.«01_k».proof.Proof.RefWords

/-!
# The two programs' results are equal

The reference's two scatters leave the array the kernel leaves.
-/

@[expose] public section

noncomputable section

namespace Cert.Scatter

open Idealize.ShloMosaic Idealize.ShloMosaic.ValueIdx Cert.ReferenceIdeal Cert.ReferenceIdeal.Gen

variable {F : FTy → Type} [FloatOps F]

/-- The kernel's first image index of an item is the table's. -/
theorem imgAt_flat (V : IVec S4x256 32) (h : S4x256.ShapeCasts S1024) (b : Nat) (hb : b < 4) :
    (imgAt (shapeCast S1024 V h) b).toNat = firstOf (L := 256) (by omega) V b := by
  unfold imgAt firstOf
  rw [flat_word (L := 256) (by omega) rfl V h _ ⟨b % 4, Nat.mod_lt _ (by omega)⟩ ⟨0, by omega⟩ (by show 256 * b % 1024 = 256 * (b % 4) + 0; omega)]

/-- The kernel's first audio index of an item is the table's. -/
theorem audAt_flat (U : IVec S4x128 32) (h : S4x128.ShapeCasts S512) (b : Nat) (hb : b < 4) :
    (audAt (shapeCast S512 U h) b).toNat = firstOf (L := 128) (by omega) U b := by
  unfold audAt firstOf
  rw [flat_word (L := 128) (by omega) rfl U h _ ⟨b % 4, Nat.mod_lt _ (by omega)⟩ ⟨0, by omega⟩ (by show 128 * b % 512 = 128 * (b % 4) + 0; omega)]

/-- An item's first index, when its indices are consecutive: there is room for all, and it is a multiple of sixteen. -/
theorem firstOf_ok {L : Nat} (hL : 0 < L) (V : IVec (⟨2, ![4, L]⟩ : Shape) 32) (hc : ∀ b, Consecutive hL V b) (b : Nat) :
    firstOf hL V b + L ≤ 4096 ∧ 16 ∣ firstOf hL V b := ⟨(hc _).room, (hc _).sixteenth⟩

/-- Consecutive image indices fit the kernel. -/
theorem imgOk_of (V : IVec S4x256 32) (h : S4x256.ShapeCasts S1024) (hc : ∀ b, Consecutive (L := 256) (by omega) V b) :
    ImgOk (shapeCast S1024 V h) := fun b hb => by
  rw [imgAt_flat V h b hb]
  exact firstOf_ok (L := 256) _ V hc b

/-- Consecutive audio indices fit the kernel. -/
theorem audOk_of (U : IVec S4x128 32) (h : S4x128.ShapeCasts S512) (hc : ∀ b, Consecutive (L := 128) (by omega) U b) :
    AudOk (shapeCast S512 U h) := fun b hb => by
  rw [audAt_flat U h b hb]
  exact firstOf_ok (L := 128) _ U hc b

/-- The reference's flat result: the text with the image rows set, then the audio rows. -/
abbrev refFlat (T : S16384x2048.Idx → Elt F .f32) (I : S1024x2048.Idx → Elt F .f32) (A : S512x2048.Idx → Elt F .f32)
    (V : IVec S4x256 32) (U : IVec S4x128 32) : S16384x2048.Idx → Elt F .f32 :=
  Host.scatter scatter_S16384x2048_S512x1_S512x2048_1_0_0_1 (fun _ b => b)
    (Host.scatter scatter_S16384x2048_S1024x1_S1024x2048_1_0_0_1 (fun _ b => b) T
      (rowWords (movedWords V bcast_S_S4 bcast_S4_S4x1_0 bcast_S4x1_S4x256_0_1 shapeCasts_S4x256_S1024) bcast_S_S1024 bcast_S1024_S1024x1_0) I)
    (rowWords (movedWords U bcast_S_S4 bcast_S4_S4x1_0 bcast_S4x1_S4x128_0_1 shapeCasts_S4x128_S512) bcast_S_S512 bcast_S512_S512x1_0) A

/-- The reference's flat result is the kernel's. -/
theorem refFlat_eq (T : S16384x2048.Idx → Elt F .f32) (I : S1024x2048.Idx → Elt F .f32) (A : S512x2048.Idx → Elt F .f32)
    (V : IVec S4x256 32) (U : IVec S4x128 32) (hV : ∀ b, Consecutive (L := 256) (by omega) V b)
    (hU : ∀ b, Consecutive (L := 128) (by omega) U b) (h1 : S4x256.ShapeCasts S1024) (h2 : S4x128.ShapeCasts S512) :
    refFlat T I A V U = outVal T I A (shapeCast S1024 V h1) (shapeCast S512 U h2) := by
  funext x
  obtain ⟨r, c, rfl⟩ : ∃ (r : Fin 16384) (c : Fin 2048), x = ix2 r c := ⟨x 0, x 1, eq_ix2 x⟩
  have hr := r.isLt
  generalize hb : r.val / 4096 = b
  generalize hg : r.val % 4096 = g
  have hb4 : b < 4 := by omega
  rw [outVal_at T I A _ _ (ix2 r c) b g hb hg, imgAt_flat V h1 b hb4, audAt_flat U h2 b hb4]
  obtain ⟨aIn, aOut⟩ := scatter_runs scatter_S16384x2048_S512x1_S512x2048_1_0_0_1 rfl rfl rfl rfl 128 rfl rfl
    (Host.scatter scatter_S16384x2048_S1024x1_S1024x2048_1_0_0_1 (fun _ b => b) T
      (rowWords (movedWords V bcast_S_S4 bcast_S4_S4x1_0 bcast_S4x1_S4x256_0_1 shapeCasts_S4x256_S1024) bcast_S_S1024 bcast_S1024_S1024x1_0) I)
    _ A (firstOf (L := 128) (by omega) U) (fun b _ => (firstOf_ok _ U hU b).1)
    (words_at (L := 128) (by omega) rfl U hU bcast_S_S4 bcast_S4_S4x1_0 bcast_S4x1_S4x128_0_1 shapeCasts_S4x128_S512 bcast_S_S512 bcast_S512_S512x1_0)
    r c b g hb hg
  obtain ⟨vIn, vOut⟩ := scatter_runs scatter_S16384x2048_S1024x1_S1024x2048_1_0_0_1 rfl rfl rfl rfl 256 rfl rfl
    T _ I (firstOf (L := 256) (by omega) V) (fun b _ => (firstOf_ok _ V hV b).1)
    (words_at (L := 256) (by omega) rfl V hV bcast_S_S4 bcast_S4_S4x1_0 bcast_S4x1_S4x256_0_1 shapeCasts_S4x256_S1024 bcast_S_S1024 bcast_S1024_S1024x1_0)
    r c b g hb hg
  unfold pick
  split
  · next h => exact aIn h _ (by show (128 * b + (g - _)) % 512 = _; omega)
  · next h =>
    refine (aOut h).trans ?_
    split
    · next h' => exact vIn h' _ (by show (256 * b + (g - _)) % 1024 = _; omega)
    · next h' => exact vOut h'

end Cert.Scatter

end
-- ==== Proof.Claims.lean ====
module

public import proofs.«01_k».proof.Defs
public import proofs.«01_k».proof.Proof.Gen.Kernel
public import proofs.«01_k».proof.Proof.Gen.ReferenceIdeal.Run
public import proofs.«01_k».proof.Proof.Launch
public import proofs.«01_k».proof.Proof.Equation

/-!
# The claims

Each claim from the program's run, the reference's run, what the precondition says of the indices and the equality of the results.
-/

@[expose] public section

noncomputable section

namespace Cert.Scatter

open Idealize.ShloMosaic Idealize.SL.Sem

/-- The precondition, for any float values, on every device of the program. -/
def PreAll {F : FTy → Type} [FloatOps F] (m : (ℓ : Loc Cert.KernelIdeal.nD Cert.KernelIdeal.τ Cert.KernelIdeal.sig) → Buf (Elt F) ℓ) : Prop :=
  ∀ d, Cert.Pre_runs.fn (F := F) (m ((SparseCore.T d).loc Cert.KernelIdeal.main_arg0)) (m ((SparseCore.T d).loc Cert.KernelIdeal.main_arg1))
    (m ((SparseCore.T d).loc Cert.KernelIdeal.main_arg2)) (m ((SparseCore.T d).loc Cert.KernelIdeal.main_arg3))
    (m ((SparseCore.T d).loc Cert.KernelIdeal.main_arg4)) = fun _ => 1#1

/-- Indices that meet the precondition fit the kernel. -/
theorem fits_of_pre {F : FTy → Type} [FloatOps F]
    (m : (ℓ : Loc Cert.KernelIdeal.nD Cert.KernelIdeal.τ Cert.KernelIdeal.sig) → Buf (Elt F) ℓ) (h : PreAll m) : Fits m := fun d =>
  ⟨imgOk_of _ _ fun b => (runs_of_pre _ _ _ _ _ (h d) b).1, audOk_of _ _ fun b => (runs_of_pre _ _ _ _ _ (h d) b).2⟩

set_option maxHeartbeats 8000000 in
/-- The kernel runs, leaves its arguments as they were and every counter at zero. -/
theorem frame_kernel : Cert.quiescent_Kernel := fun m ρ hp =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (run_main (F := Bits) m ρ (fits_of_pre (F := Bits) m hp))

/-- The same of the kernel over the extended reals. -/
theorem frame_ideal : Cert.quiescent_KernelIdeal := fun m ρ hp =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (run_main (F := Ideal) m ρ (fits_of_pre (F := Ideal) m hp))

/-- The reference runs, leaves its arguments as they were, and declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference end with equal results. -/
theorem equal_results : Cert.algebraic_KernelIdeal_ReferenceIdeal := by
  intro m g m' g' hp hag
  refine ⟨fun c => result m c, ?_, ?_⟩
  · exact (θ_run Cert.KernelIdeal.defs _ _).mono
      (fun _ h c => ⟨(h.1 c).2.2.2.2.2, (h.1 c).1, (h.1 c).2.1, (h.1 c).2.2.1, (h.1 c).2.2.2.1, (h.1 c).2.2.2.2.1⟩)
      (run_main (F := Ideal) m g (fits_of_pre (F := Ideal) m hp))
  · refine (θ_run Cert.ReferenceIdeal.defs _ _).mono (fun r h c => ⟨(h c).1.trans ?_, (h c).2⟩)
      (Cert.ReferenceIdeal.Value.run (F := Ideal) m' g')
    obtain ⟨e0, e1, e2, e3, e4⟩ := hag c
    rw [e0, e1, e2, e3, e4]
    have hr := runs_of_pre _ _ _ _ _ (hp c)
    exact congrArg (fun y => shapeCast Cert.ReferenceIdeal.S4x4096x2048 y Cert.ReferenceIdeal.Gen.shapeCasts_S16384x2048_S4x4096x2048)
      (refFlat_eq (F := Ideal) (flatTxt m c) (flatImg m c) (flatAud m c) _ _ (fun b => (hr b).1) (fun b => (hr b).2) _ _)

end Cert.Scatter

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_runs
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim. -/
theorem claim : Cert.Claim :=
  ⟨Cert.Kernel.Gen.facts, Cert.KernelIdeal.Gen.facts, Cert.ReferenceIdeal.Gen.facts, Cert.Pre_runs.Gen.facts,
    Cert.Scatter.frame_kernel, Cert.Scatter.frame_ideal, Cert.Scatter.frame_reference, trivial, Cert.Scatter.equal_results⟩

end Cert.Proof

end
